-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "lw_clamp" .f32 0x43B8F70E#32 ((Real.log ((2353820729415070887285270123074525500890716062446961866562182655337165421476370313153403343854830126624461685821179692175646891580854451489228137683487084620561731776739868383565216872966485839528169475720105293024997408064359960067833385861425300747068179337248340505497532573517204519933392738249790889033563446395724210881888898448791756298906816003760645501674699495582662725763198304496946655451426275631828943260455049816919768871485579088727543711268864 / 53355574458304041911055429356395457590118330167999899967387338518550690915730518273906178641465764455708779656114296277750137048473225532396780210634694538368125717345924461886143249859911566581789696971205544811245777150925981957784340684908725222353482867988783144852504847222007811069488525390625) * (Real.sqrt (16 / 15))) : ℝ) : EReal)

def algebraic_KernelIdeal_ReferenceIdeal_pre_unit_range [hKernelIdeal : Cert.KernelIdeal.Facts] [hReferenceIdeal : Cert.ReferenceIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_range : Cert.Pre_unit_range.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ preserves_Kernel_KernelIdeal
    ∧ algebraic_KernelIdeal_ReferenceIdeal_pre_unit_range (hKernelIdeal := hKernelIdeal) (hReferenceIdeal := hReferenceIdeal) (hPre_unit_range := hPre_unit_range)
-- ==== Pre_unit_range.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) : IVec S4096x4096 1 :=
  let main_cst : FVec F S_ .f32 := constant S_ .f32 0x00000000#32
  let main_v0 : FVec F S4096x4096 .f32 := broadcastInDim S4096x4096 ![] bcast_S_S4096x4096 main_cst
  let main_v1 : IVec S4096x4096 1 := cmpf .oge main_arg0 main_v0
  let main_cst_0 : FVec F S_ .f32 := constant S_ .f32 0x3F800000#32
  let main_v2 : FVec F S4096x4096 .f32 := broadcastInDim S4096x4096 ![] bcast_S_S4096x4096 main_cst_0
  let main_v3 : IVec S4096x4096 1 := cmpf .olt main_arg0 main_v2
  let main_v4 : IVec S4096x4096 1 := andi main_v1 main_v3
  main_v4
-- ==== Kernel.lean ====
abbrev S4096x4096 : Shape := ⟨2, ![4096, 4096]⟩
abbrev S2x1x1 : Shape := ⟨3, ![2, 1, 1]⟩
abbrev S_ : Shape := ⟨0, ![]⟩
abbrev S1x4096x4096 : Shape := ⟨3, ![1, 4096, 4096]⟩
abbrev S2x4096x4096 : Shape := ⟨3, ![2, 4096, 4096]⟩
abbrev S1x1 : Shape := ⟨2, ![1, 1]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩
abbrev S4096 : Shape := ⟨1, ![4096]⟩
abbrev S1x256x1 : Shape := ⟨3, ![1, 256, 1]⟩
abbrev S1 : Shape := ⟨1, ![1]⟩
abbrev S1x1x1 : Shape := ⟨3, ![1, 1, 1]⟩
abbrev S1x1x4096 : Shape := ⟨3, ![1, 1, 4096]⟩

abbrev nBuf : Space → Nat
  | .hbm => 259
  | .vmem => 11
  | .smem => 0
  | _ => 0

abbrev hbmTy0_0 (i : Nat) : BufTy := match i % 128 with
  | 0 => ⟨S4096x4096, .f32⟩
  | 1 => ⟨S2x1x1, .i32⟩
  | 2 => ⟨S2x1x1, .i32⟩
  | 3 => ⟨S2x1x1, .i32⟩
  | 4 => ⟨S2x1x1, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S4096x4096, .i32⟩
  | 15 => ⟨S1x4096x4096, .i32⟩
  | 16 => ⟨S1x4096x4096, .i32⟩
  | 17 => ⟨S2x4096x4096, .i32⟩
  | 18 => ⟨S2x4096x4096, .i32⟩
  | 19 => ⟨S2x4096x4096, .i32⟩
  | 20 => ⟨S2x4096x4096, .i32⟩
  | 21 => ⟨S2x4096x4096, .i32⟩
  | 22 => ⟨S_, .i32⟩
  | 23 => ⟨S2x4096x4096, .i32⟩
  | 24 => ⟨S2x4096x4096, .i32⟩
  | 25 => ⟨S_, .i32⟩
  | 26 => ⟨S2x4096x4096, .i32⟩
  | 27 => ⟨S2x4096x4096, .i32⟩
  | 28 => ⟨S2x4096x4096, .i32⟩
  | 29 => ⟨S2x4096x4096, .i32⟩
  | 30 => ⟨S2x4096x4096, .i32⟩
  | 31 => ⟨S_, .i32⟩
  | 32 => ⟨S2x4096x4096, .i32⟩
  | 33 => ⟨S2x4096x4096, .i32⟩
  | 34 => ⟨S_, .i32⟩
  | 35 => ⟨S2x4096x4096, .i32⟩
  | 36 => ⟨S2x4096x4096, .i32⟩
  | 37 => ⟨S2x4096x4096, .i32⟩
  | 38 => ⟨S2x4096x4096, .i32⟩
  | 39 => ⟨S2x4096x4096, .i32⟩
  | 40 => ⟨S_, .i32⟩
  | 41 => ⟨S2x4096x4096, .i32⟩
  | 42 => ⟨S2x4096x4096, .i32⟩
  | 43 => ⟨S_, .i32⟩
  | 44 => ⟨S2x4096x4096, .i32⟩
  | 45 => ⟨S2x4096x4096, .i32⟩
  | 46 => ⟨S2x4096x4096, .i32⟩
  | 47 => ⟨S2x4096x4096, .i32⟩
  | 48 => ⟨S2x4096x4096, .i32⟩
  | 49 => ⟨S_, .i32⟩
  | 50 => ⟨S2x4096x4096, .i32⟩
  | 51 => ⟨S2x4096x4096, .i32⟩
  | 52 => ⟨S_, .i32⟩
  | 53 => ⟨S2x4096x4096, .i32⟩
  | 54 => ⟨S2x4096x4096, .i32⟩
  | 55 => ⟨S2x4096x4096, .i32⟩
  | 56 => ⟨S2x4096x4096, .i32⟩
  | 57 => ⟨S2x4096x4096, .i32⟩
  | 58 => ⟨S2x4096x4096, .i32⟩
  | 59 => ⟨S2x4096x4096, .i32⟩
  | 60 => ⟨S2x4096x4096, .i32⟩
  | 61 => ⟨S_, .i32⟩
  | 62 => ⟨S2x4096x4096, .i32⟩
  | 63 => ⟨S2x4096x4096, .i32⟩
  | 64 => ⟨S2x4096x4096, .i32⟩
  | 65 => ⟨S_, .i32⟩
  | 66 => ⟨S2x4096x4096, .i32⟩
  | 67 => ⟨S2x4096x4096, .i32⟩
  | 68 => ⟨S_, .i32⟩
  | 69 => ⟨S2x4096x4096, .i32⟩
  | 70 => ⟨S2x4096x4096, .i32⟩
  | 71 => ⟨S2x4096x4096, .i32⟩
  | 72 => ⟨S2x4096x4096, .i32⟩
  | 73 => ⟨S2x4096x4096, .i32⟩
  | 74 => ⟨S_, .i32⟩
  | 75 => ⟨S2x4096x4096, .i32⟩
  | 76 => ⟨S2x4096x4096, .i32⟩
  | 77 => ⟨S_, .i32⟩
  | 78 => ⟨S2x4096x4096, .i32⟩
  | 79 => ⟨S2x4096x4096, .i32⟩
  | 80 => ⟨S2x4096x4096, .i32⟩
  | 81 => ⟨S2x4096x4096, .i32⟩
  | 82 => ⟨S2x4096x4096, .i32⟩
  | 83 => ⟨S_, .i32⟩
  | 84 => ⟨S2x4096x4096, .i32⟩
  | 85 => ⟨S2x4096x4096, .i32⟩
  | 86 => ⟨S_, .i32⟩
  | 87 => ⟨S2x4096x4096, .i32⟩
  | 88 => ⟨S2x4096x4096, .i32⟩
  | 89 => ⟨S2x4096x4096, .i32⟩
  | 90 => ⟨S2x4096x4096, .i32⟩
  | 91 => ⟨S2x4096x4096, .i32⟩
  | 92 => ⟨S_, .i32⟩
  | 93 => ⟨S2x4096x4096, .i32⟩
  | 94 => ⟨S2x4096x4096, .i32⟩
  | 95 => ⟨S_, .i32⟩
  | 96 => ⟨S2x4096x4096, .i32⟩
  | 97 => ⟨S2x4096x4096, .i32⟩
  | 98 => ⟨S2x4096x4096, .i32⟩
  | 99 => ⟨S2x4096x4096, .i32⟩
  | 100 => ⟨S2x4096x4096, .i32⟩
  | 101 => ⟨S2x4096x4096, .i32⟩
  | 102 => ⟨S2x4096x4096, .i32⟩
  | 103 => ⟨S2x4096x4096, .i32⟩
  | 104 => ⟨S_, .i32⟩
  | 105 => ⟨S2x4096x4096, .i32⟩
  | 106 => ⟨S2x4096x4096, .i32⟩
  | 107 => ⟨S2x4096x4096, .i32⟩
  | 108 => ⟨S_, .i32⟩
  | 109 => ⟨S2x4096x4096, .i32⟩
  | 110 => ⟨S2x4096x4096, .i32⟩
  | 111 => ⟨S_, .i32⟩
  | 112 => ⟨S2x4096x4096, .i32⟩
  | 113 => ⟨S2x4096x4096, .i32⟩
  | 114 => ⟨S2x4096x4096, .i32⟩
  | 115 => ⟨S2x4096x4096, .i32⟩
  | 116 => ⟨S2x4096x4096, .i32⟩
  | 117 => ⟨S_, .i32⟩
  | 118 => ⟨S2x4096x4096, .i32⟩
  | 119 => ⟨S2x4096x4096, .i32⟩
  | 120 => ⟨S_, .i32⟩
  | 121 => ⟨S2x4096x4096, .i32⟩
  | 122 => ⟨S2x4096x4096, .i32⟩
  | 123 => ⟨S2x4096x4096, .i32⟩
  | 124 => ⟨S2x4096x4096, .i32⟩
  | 125 => ⟨S2x4096x4096, .i32⟩
  | 126 => ⟨S_, .i32⟩
  | 127 => ⟨S2x4096x4096, .i32⟩
  | _ => ⟨S4096x4096, .f32⟩

abbrev hbmTy0_1 (i : Nat) : BufTy := match i % 128 with
  | 0 => ⟨S2x4096x4096, .i32⟩
  | 1 => ⟨S_, .i32⟩
  | 2 => ⟨S2x4096x4096, .i32⟩
  | 3 => ⟨S2x4096x4096, .i32⟩
  | 4 => ⟨S2x4096x4096, .i32⟩
  | 5 => ⟨S2x4096x4096, .i32⟩
  | 6 => ⟨S2x4096x4096, .i32⟩
  | 7 => ⟨S_, .i32⟩
  | 8 => ⟨S2x4096x4096, .i32⟩
  | 9 => ⟨S2x4096x4096, .i32⟩
  | 10 => ⟨S_, .i32⟩
  | 11 => ⟨S2x4096x4096, .i32⟩
  | 12 => ⟨S2x4096x4096, .i32⟩
  | 13 => ⟨S2x4096x4096, .i32⟩
  | 14 => ⟨S2x4096x4096, .i32⟩
  | 15 => ⟨S2x4096x4096, .i32⟩
  | 16 => ⟨S2x4096x4096, .i32⟩
  | 17 => ⟨S2x4096x4096, .i32⟩
  | 18 => ⟨S2x4096x4096, .i32⟩
  | 19 => ⟨S_, .i32⟩
  | 20 => ⟨S2x4096x4096, .i32⟩
  | 21 => ⟨S2x4096x4096, .i32⟩
  | 22 => ⟨S2x4096x4096, .i32⟩
  | 23 => ⟨S_, .i32⟩
  | 24 => ⟨S2x4096x4096, .i32⟩
  | 25 => ⟨S2x4096x4096, .i32⟩
  | 26 => ⟨S_, .i32⟩
  | 27 => ⟨S2x4096x4096, .i32⟩
  | 28 => ⟨S2x4096x4096, .i32⟩
  | 29 => ⟨S2x4096x4096, .i32⟩
  | 30 => ⟨S2x4096x4096, .i32⟩
  | 31 => ⟨S2x4096x4096, .i32⟩
  | 32 => ⟨S_, .i32⟩
  | 33 => ⟨S2x4096x4096, .i32⟩
  | 34 => ⟨S2x4096x4096, .i32⟩
  | 35 => ⟨S_, .i32⟩
  | 36 => ⟨S2x4096x4096, .i32⟩
  | 37 => ⟨S2x4096x4096, .i32⟩
  | 38 => ⟨S2x4096x4096, .i32⟩
  | 39 => ⟨S2x4096x4096, .i32⟩
  | 40 => ⟨S2x4096x4096, .i32⟩
  | 41 => ⟨S_, .i32⟩
  | 42 => ⟨S2x4096x4096, .i32⟩
  | 43 => ⟨S2x4096x4096, .i32⟩
  | 44 => ⟨S_, .i32⟩
  | 45 => ⟨S2x4096x4096, .i32⟩
  | 46 => ⟨S2x4096x4096, .i32⟩
  | 47 => ⟨S2x4096x4096, .i32⟩
  | 48 => ⟨S2x4096x4096, .i32⟩
  | 49 => ⟨S2x4096x4096, .i32⟩
  | 50 => ⟨S_, .i32⟩
  | 51 => ⟨S2x4096x4096, .i32⟩
  | 52 => ⟨S2x4096x4096, .i32⟩
  | 53 => ⟨S_, .i32⟩
  | 54 => ⟨S2x4096x4096, .i32⟩
  | 55 => ⟨S2x4096x4096, .i32⟩
  | 56 => ⟨S2x4096x4096, .i32⟩
  | 57 => ⟨S2x4096x4096, .i32⟩
  | 58 => ⟨S2x4096x4096, .i32⟩
  | 59 => ⟨S2x4096x4096, .i32⟩
  | 60 => ⟨S2x4096x4096, .i32⟩
  | 61 => ⟨S2x4096x4096, .i32⟩
  | 62 => ⟨S_, .i32⟩
  | 63 => ⟨S2x4096x4096, .i32⟩
  | 64 => ⟨S2x4096x4096, .i32⟩
  | 65 => ⟨S2x4096x4096, .i32⟩
  | 66 => ⟨S_, .i32⟩
  | 67 => ⟨S2x4096x4096, .i32⟩
  | 68 => ⟨S2x4096x4096, .i32⟩
  | 69 => ⟨S_, .i32⟩
  | 70 => ⟨S2x4096x4096, .i32⟩
  | 71 => ⟨S2x4096x4096, .i32⟩
  | 72 => ⟨S2x4096x4096, .i32⟩
  | 73 => ⟨S2x4096x4096, .i32⟩
  | 74 => ⟨S2x4096x4096, .i32⟩
  | 75 => ⟨S_, .i32⟩
  | 76 => ⟨S2x4096x4096, .i32⟩
  | 77 => ⟨S2x4096x4096, .i32⟩
  | 78 => ⟨S_, .i32⟩
  | 79 => ⟨S2x4096x4096, .i32⟩
  | 80 => ⟨S2x4096x4096, .i32⟩
  | 81 => ⟨S2x4096x4096, .i32⟩
  | 82 => ⟨S2x4096x4096, .i32⟩
  | 83 => ⟨S2x4096x4096, .i32⟩
  | 84 => ⟨S_, .i32⟩
  | 85 => ⟨S2x4096x4096, .i32⟩
  | 86 => ⟨S2x4096x4096, .i32⟩
  | 87 => ⟨S_, .i32⟩
  | 88 => ⟨S2x4096x4096, .i32⟩
  | 89 => ⟨S2x4096x4096, .i32⟩
  | 90 => ⟨S2x4096x4096, .i32⟩
  | 91 => ⟨S2x4096x4096, .i32⟩
  | 92 => ⟨S2x4096x4096, .i32⟩
  | 93 => ⟨S_, .i32⟩
  | 94 => ⟨S2x4096x4096, .i32⟩
  | 95 => ⟨S2x4096x4096, .i32⟩
  | 96 => ⟨S_, .i32⟩
  | 97 => ⟨S2x4096x4096, .i32⟩
  | 98 => ⟨S2x4096x4096, .i32⟩
  | 99 => ⟨S2x4096x4096, .i32⟩
  | 100 => ⟨S2x4096x4096, .i32⟩
  | 101 => ⟨S2x4096x4096, .i32⟩
  | 102 => ⟨S2x4096x4096, .i32⟩
  | 103 => ⟨S2x4096x4096, .i32⟩
  | 104 => ⟨S2x4096x4096, .i32⟩
  | 105 => ⟨S_, .i32⟩
  | 106 => ⟨S2x4096x4096, .i32⟩
  | 107 => ⟨S2x4096x4096, .i32⟩
  | 108 => ⟨S2x4096x4096, .i32⟩
  | 109 => ⟨S_, .i32⟩
  | 110 => ⟨S2x4096x4096, .i32⟩
  | 111 => ⟨S2x4096x4096, .i32⟩
  | 112 => ⟨S_, .i32⟩
  | 113 => ⟨S2x4096x4096, .i32⟩
  | 114 => ⟨S2x4096x4096, .i32⟩
  | 115 => ⟨S2x4096x4096, .f32⟩
  | 116 => ⟨S_, .f32⟩
  | 117 => ⟨S2x4096x4096, .f32⟩
  | 118 => ⟨S2x4096x4096, .f32⟩
  | 119 => ⟨S_, .f32⟩
  | 120 => ⟨S2x4096x4096, .f32⟩
  | 121 => ⟨S2x4096x4096, .f32⟩
  | 122 => ⟨S2x4096x4096, .f32⟩
  | 123 => ⟨S2x4096x4096, .f32⟩
  | 124 => ⟨S2x4096x4096, .f32⟩
  | 125 => ⟨S2x4096x4096, .f32⟩
  | 126 => ⟨S1x4096x4096, .f32⟩
  | 127 => ⟨S4096x4096, .f32⟩
  | _ => ⟨S4096x4096, .f32⟩

abbrev hbmTy0_2 (i : Nat) : BufTy := match i % 128 with
  | 0 => ⟨S1x4096x4096, .f32⟩
  | 1 => ⟨S4096x4096, .f32⟩
  | 2 => ⟨S1x1, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_v1 : Ref sig .tc := ⟨.hbm, 6, rfl⟩
abbrev main_c_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_5 : Ref sig .tc := ⟨.hbm, 22, rfl⟩
abbrev main_v15 : Ref sig .tc := ⟨.hbm, 23, rfl⟩
abbrev main_v16 : Ref sig .tc := ⟨.hbm, 24, rfl⟩
abbrev main_c_6 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_7 : Ref sig .tc := ⟨.hbm, 31, rfl⟩
abbrev main_v22 : Ref sig .tc := ⟨.hbm, 32, rfl⟩
abbrev main_v23 : Ref sig .tc := ⟨.hbm, 33, rfl⟩
abbrev main_c_8 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_9 : Ref sig .tc := ⟨.hbm, 40, rfl⟩
abbrev main_v29 : Ref sig .tc := ⟨.hbm, 41, rfl⟩
abbrev main_v30 : Ref sig .tc := ⟨.hbm, 42, rfl⟩
abbrev main_c_10 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_11 : Ref sig .tc := ⟨.hbm, 49, rfl⟩
abbrev main_v36 : Ref sig .tc := ⟨.hbm, 50, rfl⟩
abbrev main_v37 : Ref sig .tc := ⟨.hbm, 51, rfl⟩
abbrev main_c_12 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_13 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_14 : Ref sig .tc := ⟨.hbm, 65, rfl⟩
abbrev main_v49 : Ref sig .tc := ⟨.hbm, 66, rfl⟩
abbrev main_v50 : Ref sig .tc := ⟨.hbm, 67, rfl⟩
abbrev main_c_15 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_16 : Ref sig .tc := ⟨.hbm, 74, rfl⟩
abbrev main_v56 : Ref sig .tc := ⟨.hbm, 75, rfl⟩
abbrev main_v57 : Ref sig .tc := ⟨.hbm, 76, rfl⟩
abbrev main_c_17 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_18 : Ref sig .tc := ⟨.hbm, 83, rfl⟩
abbrev main_v63 : Ref sig .tc := ⟨.hbm, 84, rfl⟩
abbrev main_v64 : Ref sig .tc := ⟨.hbm, 85, rfl⟩
abbrev main_c_19 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_20 : Ref sig .tc := ⟨.hbm, 92, rfl⟩
abbrev main_v70 : Ref sig .tc := ⟨.hbm, 93, rfl⟩
abbrev main_v71 : Ref sig .tc := ⟨.hbm, 94, rfl⟩
abbrev main_c_21 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_22 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_23 : Ref sig .tc := ⟨.hbm, 108, rfl⟩
abbrev main_v83 : Ref sig .tc := ⟨.hbm, 109, rfl⟩
abbrev main_v84 : Ref sig .tc := ⟨.hbm, 110, rfl⟩
abbrev main_c_24 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_25 : Ref sig .tc := ⟨.hbm, 117, rfl⟩
abbrev main_v90 : Ref sig .tc := ⟨.hbm, 118, rfl⟩
abbrev main_v91 : Ref sig .tc := ⟨.hbm, 119, rfl⟩
abbrev main_c_26 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_27 : Ref sig .tc := ⟨.hbm, 126, rfl⟩
abbrev main_v97 : Ref sig .tc := ⟨.hbm, 127, rfl⟩
abbrev main_v98 : Ref sig .tc := ⟨.hbm, 128, rfl⟩
abbrev main_c_28 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_29 : Ref sig .tc := ⟨.hbm, 135, rfl⟩
abbrev main_v104 : Ref sig .tc := ⟨.hbm, 136, rfl⟩
abbrev main_v105 : Ref sig .tc := ⟨.hbm, 137, rfl⟩
abbrev main_c_30 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_31 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_32 : Ref sig .tc := ⟨.hbm, 151, rfl⟩
abbrev main_v117 : Ref sig .tc := ⟨.hbm, 152, rfl⟩
abbrev main_v118 : Ref sig .tc := ⟨.hbm, 153, rfl⟩
abbrev main_c_33 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_c_34 : Ref sig .tc := ⟨.hbm, 160, rfl⟩
abbrev main_v124 : Ref sig .tc := ⟨.hbm, 161, rfl⟩
abbrev main_v125 : Ref sig .tc := ⟨.hbm, 162, rfl⟩
abbrev main_c_35 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_c_36 : Ref sig .tc := ⟨.hbm, 169, rfl⟩
abbrev main_v131 : Ref sig .tc := ⟨.hbm, 170, rfl⟩
abbrev main_v132 : Ref sig .tc := ⟨.hbm, 171, rfl⟩
abbrev main_c_37 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_38 : Ref sig .tc := ⟨.hbm, 178, rfl⟩
abbrev main_v138 : Ref sig .tc := ⟨.hbm, 179, rfl⟩
abbrev main_v139 : Ref sig .tc := ⟨.hbm, 180, rfl⟩
abbrev main_c_39 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_40 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_c_41 : Ref sig .tc := ⟨.hbm, 194, rfl⟩
abbrev main_v151 : Ref sig .tc := ⟨.hbm, 195, rfl⟩
abbrev main_v152 : Ref sig .tc := ⟨.hbm, 196, rfl⟩
abbrev main_c_42 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_c_43 : Ref sig .tc := ⟨.hbm, 203, rfl⟩
abbrev main_v158 : Ref sig .tc := ⟨.hbm, 204, rfl⟩
abbrev main_v159 : Ref sig .tc := ⟨.hbm, 205, rfl⟩
abbrev main_c_44 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_45 : Ref sig .tc := ⟨.hbm, 212, rfl⟩
abbrev main_v165 : Ref sig .tc := ⟨.hbm, 213, rfl⟩
abbrev main_v166 : Ref sig .tc := ⟨.hbm, 214, rfl⟩
abbrev main_c_46 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_c_47 : Ref sig .tc := ⟨.hbm, 221, rfl⟩
abbrev main_v172 : Ref sig .tc := ⟨.hbm, 222, rfl⟩
abbrev main_v173 : Ref sig .tc := ⟨.hbm, 223, rfl⟩
abbrev main_c_48 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_c_49 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_c_50 : Ref sig .tc := ⟨.hbm, 237, rfl⟩
abbrev main_v185 : Ref sig .tc := ⟨.hbm, 238, rfl⟩
abbrev main_v186 : Ref sig .tc := ⟨.hbm, 239, rfl⟩
abbrev main_c_51 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_cst : Ref sig .tc := ⟨.hbm, 244, rfl⟩
abbrev main_v190 : Ref sig .tc := ⟨.hbm, 245, rfl⟩
abbrev main_v191 : Ref sig .tc := ⟨.hbm, 246, rfl⟩
abbrev main_cst_52 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v107 : BitVec 1 := Scalar.cmpi .eq arg0 c15_i32
  let v108 : BitVec 32 := Scalar.extui v107
  let c0_i32_48 : BitVec 32 := 0#32
  let v109 : BitVec 1 := Scalar.cmpi .ne v108 c0_i32_48
  v109

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "lw_clamp" => some ((Real.log ((2353820729415070887285270123074525500890716062446961866562182655337165421476370313153403343854830126624461685821179692175646891580854451489228137683487084620561731776739868383565216872966485839528169475720105293024997408064359960067833385861425300747068179337248340505497532573517204519933392738249790889033563446395724210881888898448791756298906816003760645501674699495582662725763198304496946655451426275631828943260455049816919768871485579088727543711268864 / 53355574458304041911055429356395457590118330167999899967387338518550690915730518273906178641465764455708779656114296277750137048473225532396780210634694538368125717345924461886143249859911566581789696971205544811245777150925981957784340684908725222353482867988783144852504847222007811069488525390625) * (Real.sqrt (16 / 15))) : ℝ) : EReal)
  | _ => none
-- ==== ReferenceIdeal.lean ====
abbrev S4096x4096 : Shape := ⟨2, ![4096, 4096]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S4096 : Shape := ⟨1, ![4096]⟩
abbrev S4096x1 : Shape := ⟨2, ![4096, 1]⟩
abbrev S1x1 : Shape := ⟨2, ![1, 1]⟩
abbrev S4096x2 : Shape := ⟨2, ![4096, 2]⟩

abbrev nBuf : Space → Nat
  | .hbm => 1060
  | .vmem => 0
  | .smem => 0
  | _ => 0

abbrev hbmTy0_0 (i : Nat) : BufTy := match i % 128 with
  | 0 => ⟨S4096x4096, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S4096x4096, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S4096x4096, .i32⟩
  | 126 => ⟨S4096x4096, .i32⟩
  | 127 => ⟨S_, .i32⟩
  | _ => ⟨S4096x4096, .f32⟩

abbrev hbmTy0_2 (i : Nat) : BufTy := match i % 128 with
  | 0 => ⟨S4096x4096, .i32⟩
  | 1 => ⟨S4096x4096, .i32⟩
  | 2 => ⟨S4096x4096, .i1⟩
  | 3 => ⟨S4096x4096, .i1⟩
  | 4 => ⟨S4096, .i32⟩
  | 5 => ⟨S4096, .i32⟩
  | 6 => ⟨S_, .f32⟩
  | 7 => ⟨S4096x4096, .f32⟩
  | 8 => ⟨S4096x4096, .f32⟩
  | 9 => ⟨S_, .f32⟩
  | 10 => ⟨S4096x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .i1⟩
  | 36 => ⟨S4096x4096, .i1⟩
  | 37 => ⟨S4096x4096, .i1⟩
  | 38 => ⟨S4096x4096, .f32⟩
  | 39 => ⟨S4096x4096, .f32⟩
  | 40 => ⟨S_, .f32⟩
  | 41 => ⟨S_, .f32⟩
  | 42 => ⟨S4096x4096, .f32⟩
  | 43 => ⟨S4096x4096, .f32⟩
  | 44 => ⟨S_, .f32⟩
  | 45 => ⟨S4096, .f32⟩
  | 46 => ⟨S4096x1, .f32⟩
  | 47 => ⟨S4096x4096, .f32⟩
  | 48 => ⟨S4096x4096, .f32⟩
  | 49 => ⟨S4096x4096, .f32⟩
  | 50 => ⟨S_, .f32⟩
  | 51 => ⟨S4096x4096, .f32⟩
  | 52 => ⟨S4096x4096, .i1⟩
  | 53 => ⟨S4096x4096, .i1⟩
  | 54 => ⟨S4096x4096, .f32⟩
  | 55 => ⟨S4096x4096, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S4096x4096, .f32⟩
  | 63 => ⟨S4096x4096, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096x4096, .f32⟩
  | 73 => ⟨S_, .f32⟩
  | 74 => ⟨S_, .f32⟩
  | 75 => ⟨S4096x4096, .f32⟩
  | 76 => ⟨S4096x4096, .f32⟩
  | 77 => ⟨S4096x4096, .f32⟩
  | 78 => ⟨S_, .f32⟩
  | 79 => ⟨S_, .f32⟩
  | 80 => ⟨S_, .f32⟩
  | 81 => ⟨S_, .f32⟩
  | 82 => ⟨S1x1, .f32⟩
  | 83 => ⟨S1x1, .f32⟩
  | 84 => ⟨S1, .i32⟩
  | 85 => ⟨S_, .i32⟩
  | 86 => ⟨S1, .i32⟩
  | 87 => ⟨S_, .i32⟩
  | 88 => ⟨S4096x4096, .i64⟩
  | 89 => ⟨S4096x4096, .i64⟩
  | 90 => ⟨S_, .i64⟩
  | 91 => ⟨S4096x4096, .i64⟩
  | 92 => ⟨S4096x4096, .i64⟩
  | 93 => ⟨S_, .i64⟩
  | 94 => ⟨S4096x4096, .i64⟩
  | 95 => ⟨S4096x4096, .i64⟩
  | 96 => ⟨S4096x4096, .i64⟩
  | 97 => ⟨S_, .i64⟩
  | 98 => ⟨S4096x4096, .i64⟩
  | 99 => ⟨S4096x4096, .i64⟩
  | 100 => ⟨S4096x4096, .i32⟩
  | 101 => ⟨S4096x4096, .i32⟩
  | 102 => ⟨S_, .i32⟩
  | 103 => ⟨S_, .i32⟩
  | 104 => ⟨S_, .i32⟩
  | 105 => ⟨S4096x4096, .i32⟩
  | 106 => ⟨S4096x4096, .i32⟩
  | 107 => ⟨S4096x4096, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_3 (i : Nat) : BufTy := match i % 128 with
  | 0 => ⟨S_, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S4096x4096, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .i32⟩
  | 41 => ⟨S4096x4096, .i32⟩
  | 42 => ⟨S4096x4096, .i32⟩
  | 43 => ⟨S_, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S4096x4096, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S_, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S4096x4096, .i32⟩
  | 75 => ⟨S4096x4096, .i32⟩
  | 76 => ⟨S4096x4096, .i32⟩
  | 77 => ⟨S_, .i32⟩
  | 78 => ⟨S4096x4096, .i32⟩
  | 79 => ⟨S4096x4096, .i32⟩
  | 80 => ⟨S_, .i32⟩
  | 81 => ⟨S4096x4096, .i32⟩
  | 82 => ⟨S4096x4096, .i32⟩
  | 83 => ⟨S4096x4096, .i32⟩
  | 84 => ⟨S4096x4096, .i32⟩
  | 85 => ⟨S4096x4096, .i32⟩
  | 86 => ⟨S_, .i32⟩
  | 87 => ⟨S4096x4096, .i32⟩
  | 88 => ⟨S4096x4096, .i32⟩
  | 89 => ⟨S_, .i32⟩
  | 90 => ⟨S4096x4096, .i32⟩
  | 91 => ⟨S4096x4096, .i32⟩
  | 92 => ⟨S4096x4096, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S_, .i32⟩
  | 99 => ⟨S4096x4096, .i32⟩
  | 100 => ⟨S4096x4096, .i32⟩
  | 101 => ⟨S4096x4096, .i32⟩
  | 102 => ⟨S4096x4096, .i32⟩
  | 103 => ⟨S4096x4096, .i32⟩
  | 104 => ⟨S4096x4096, .i32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S4096x4096, .i32⟩
  | 111 => ⟨S_, .i32⟩
  | 112 => ⟨S4096x4096, .i32⟩
  | 113 => ⟨S4096x4096, .i32⟩
  | 114 => ⟨S_, .i32⟩
  | 115 => ⟨S4096x4096, .i32⟩
  | 116 => ⟨S4096x4096, .i32⟩
  | 117 => ⟨S4096x4096, .i32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S_, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_4 (i : Nat) : BufTy := match i % 128 with
  | 0 => ⟨S4096x4096, .i32⟩
  | 1 => ⟨S_, .i32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S4096x4096, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S_, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S4096x4096, .i32⟩
  | 33 => ⟨S4096x4096, .i32⟩
  | 34 => ⟨S4096x4096, .i32⟩
  | 35 => ⟨S_, .i32⟩
  | 36 => ⟨S4096x4096, .i32⟩
  | 37 => ⟨S4096x4096, .i32⟩
  | 38 => ⟨S_, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S_, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .i32⟩
  | 51 => ⟨S4096x4096, .i32⟩
  | 52 => ⟨S4096x4096, .i32⟩
  | 53 => ⟨S_, .i32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S4096x4096, .i32⟩
  | 69 => ⟨S_, .i32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S4096x4096, .f32⟩
  | 76 => ⟨S_, .f32⟩
  | 77 => ⟨S4096x4096, .f32⟩
  | 78 => ⟨S4096x4096, .f32⟩
  | 79 => ⟨S1x1, .f32⟩
  | 80 => ⟨S4096x4096, .f32⟩
  | 81 => ⟨S4096x4096, .f32⟩
  | 82 => ⟨S4096x4096, .f32⟩
  | 83 => ⟨S4096x4096, .f32⟩
  | 84 => ⟨S4096x4096, .f32⟩
  | 85 => ⟨S4096x4096, .f32⟩
  | 86 => ⟨S_, .f32⟩
  | 87 => ⟨S4096x4096, .f32⟩
  | 88 => ⟨S4096x4096, .f32⟩
  | 89 => ⟨S4096x4096, .f32⟩
  | 90 => ⟨S4096x4096, .f32⟩
  | 91 => ⟨S4096x4096, .f32⟩
  | 92 => ⟨S4096x4096, .f32⟩
  | 93 => ⟨S4096x4096, .i32⟩
  | 94 => ⟨S_, .f32⟩
  | 95 => ⟨S_, .i32⟩
  | 96 => ⟨S4096, .f32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x1, .i32⟩
  | 114 => ⟨S4096x2, .i32⟩
  | 115 => ⟨S4096, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S_, .i32⟩
  | 124 => ⟨S4096, .i32⟩
  | 125 => ⟨S4096, .i1⟩
  | 126 => ⟨S_, .i32⟩
  | 127 => ⟨S4096, .i32⟩
  | _ => ⟨S4096x4096, .f32⟩

abbrev hbmTy0_5 (i : Nat) : BufTy := match i % 128 with
  | 0 => ⟨S4096, .i32⟩
  | 1 => ⟨S4096, .i32⟩
  | 2 => ⟨S4096x1, .i32⟩
  | 3 => ⟨S4096x1, .i32⟩
  | 4 => ⟨S4096x2, .i32⟩
  | 5 => ⟨S4096, .f32⟩
  | 6 => ⟨S_, .f32⟩
  | 7 => ⟨S4096, .f32⟩
  | 8 => ⟨S4096, .f32⟩
  | 9 => ⟨S4096, .f32⟩
  | 10 => ⟨S_, .f32⟩
  | 11 => ⟨S4096, .f32⟩
  | 12 => ⟨S4096, .f32⟩
  | 13 => ⟨S_, .f32⟩
  | 14 => ⟨S_, .f32⟩
  | 15 => ⟨S4096x4096, .f32⟩
  | 16 => ⟨S4096x4096, .i32⟩
  | 17 => ⟨S4096x4096, .i32⟩
  | 18 => ⟨S_, .i32⟩
  | 19 => ⟨S4096x4096, .i32⟩
  | 20 => ⟨S4096x4096, .i32⟩
  | 21 => ⟨S4096x4096, .i1⟩
  | 22 => ⟨S4096x4096, .i1⟩
  | 23 => ⟨S4096, .i32⟩
  | 24 => ⟨S4096, .i32⟩
  | 25 => ⟨S_, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S4096x4096, .f32⟩
  | 51 => ⟨S4096x4096, .f32⟩
  | 52 => ⟨S_, .f32⟩
  | 53 => ⟨S4096x4096, .f32⟩
  | 54 => ⟨S4096x4096, .i1⟩
  | 55 => ⟨S4096x4096, .i1⟩
  | 56 => ⟨S4096x4096, .i1⟩
  | 57 => ⟨S4096x4096, .f32⟩
  | 58 => ⟨S4096x4096, .f32⟩
  | 59 => ⟨S_, .f32⟩
  | 60 => ⟨S_, .f32⟩
  | 61 => ⟨S4096x4096, .f32⟩
  | 62 => ⟨S4096x4096, .f32⟩
  | 63 => ⟨S_, .f32⟩
  | 64 => ⟨S4096, .f32⟩
  | 65 => ⟨S4096x1, .f32⟩
  | 66 => ⟨S4096x4096, .f32⟩
  | 67 => ⟨S4096x4096, .f32⟩
  | 68 => ⟨S4096x4096, .f32⟩
  | 69 => ⟨S_, .f32⟩
  | 70 => ⟨S4096x4096, .f32⟩
  | 71 => ⟨S4096x4096, .i1⟩
  | 72 => ⟨S4096x4096, .i1⟩
  | 73 => ⟨S4096x4096, .f32⟩
  | 74 => ⟨S4096x4096, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S4096x4096, .f32⟩
  | 82 => ⟨S4096x4096, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x4096, .f32⟩
  | 92 => ⟨S_, .f32⟩
  | 93 => ⟨S_, .f32⟩
  | 94 => ⟨S4096x4096, .f32⟩
  | 95 => ⟨S4096x4096, .f32⟩
  | 96 => ⟨S4096x4096, .f32⟩
  | 97 => ⟨S_, .f32⟩
  | 98 => ⟨S_, .f32⟩
  | 99 => ⟨S_, .f32⟩
  | 100 => ⟨S_, .f32⟩
  | 101 => ⟨S1x1, .f32⟩
  | 102 => ⟨S1x1, .f32⟩
  | 103 => ⟨S1, .i32⟩
  | 104 => ⟨S_, .i32⟩
  | 105 => ⟨S1, .i32⟩
  | 106 => ⟨S_, .i32⟩
  | 107 => ⟨S4096x4096, .i64⟩
  | 108 => ⟨S4096x4096, .i64⟩
  | 109 => ⟨S_, .i64⟩
  | 110 => ⟨S4096x4096, .i64⟩
  | 111 => ⟨S4096x4096, .i64⟩
  | 112 => ⟨S_, .i64⟩
  | 113 => ⟨S4096x4096, .i64⟩
  | 114 => ⟨S4096x4096, .i64⟩
  | 115 => ⟨S4096x4096, .i64⟩
  | 116 => ⟨S_, .i64⟩
  | 117 => ⟨S4096x4096, .i64⟩
  | 118 => ⟨S4096x4096, .i64⟩
  | 119 => ⟨S4096x4096, .i32⟩
  | 120 => ⟨S4096x4096, .i32⟩
  | 121 => ⟨S_, .i32⟩
  | 122 => ⟨S_, .i32⟩
  | 123 => ⟨S_, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_6 (i : Nat) : BufTy := match i % 128 with
  | 0 => ⟨S4096x4096, .i32⟩
  | 1 => ⟨S_, .i32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S4096x4096, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S_, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S4096x4096, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S4096x4096, .i32⟩
  | 35 => ⟨S4096x4096, .i32⟩
  | 36 => ⟨S4096x4096, .i32⟩
  | 37 => ⟨S4096x4096, .i32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .i32⟩
  | 44 => ⟨S_, .i32⟩
  | 45 => ⟨S4096x4096, .i32⟩
  | 46 => ⟨S4096x4096, .i32⟩
  | 47 => ⟨S_, .i32⟩
  | 48 => ⟨S4096x4096, .i32⟩
  | 49 => ⟨S4096x4096, .i32⟩
  | 50 => ⟨S4096x4096, .i32⟩
  | 51 => ⟨S4096x4096, .i32⟩
  | 52 => ⟨S4096x4096, .i32⟩
  | 53 => ⟨S_, .i32⟩
  | 54 => ⟨S4096x4096, .i32⟩
  | 55 => ⟨S4096x4096, .i32⟩
  | 56 => ⟨S_, .i32⟩
  | 57 => ⟨S4096x4096, .i32⟩
  | 58 => ⟨S4096x4096, .i32⟩
  | 59 => ⟨S4096x4096, .i32⟩
  | 60 => ⟨S4096x4096, .i32⟩
  | 61 => ⟨S4096x4096, .i32⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S4096x4096, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S_, .i32⟩
  | 75 => ⟨S4096x4096, .i32⟩
  | 76 => ⟨S4096x4096, .i32⟩
  | 77 => ⟨S4096x4096, .i32⟩
  | 78 => ⟨S4096x4096, .i32⟩
  | 79 => ⟨S4096x4096, .i32⟩
  | 80 => ⟨S4096x4096, .i32⟩
  | 81 => ⟨S4096x4096, .i32⟩
  | 82 => ⟨S4096x4096, .i32⟩
  | 83 => ⟨S_, .i32⟩
  | 84 => ⟨S4096x4096, .i32⟩
  | 85 => ⟨S4096x4096, .i32⟩
  | 86 => ⟨S4096x4096, .i32⟩
  | 87 => ⟨S_, .i32⟩
  | 88 => ⟨S4096x4096, .i32⟩
  | 89 => ⟨S4096x4096, .i32⟩
  | 90 => ⟨S_, .i32⟩
  | 91 => ⟨S4096x4096, .i32⟩
  | 92 => ⟨S4096x4096, .i32⟩
  | 93 => ⟨S4096x4096, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S_, .i32⟩
  | 100 => ⟨S4096x4096, .i32⟩
  | 101 => ⟨S4096x4096, .i32⟩
  | 102 => ⟨S4096x4096, .i32⟩
  | 103 => ⟨S4096x4096, .i32⟩
  | 104 => ⟨S4096x4096, .i32⟩
  | 105 => ⟨S_, .i32⟩
  | 106 => ⟨S4096x4096, .i32⟩
  | 107 => ⟨S4096x4096, .i32⟩
  | 108 => ⟨S_, .i32⟩
  | 109 => ⟨S4096x4096, .i32⟩
  | 110 => ⟨S4096x4096, .i32⟩
  | 111 => ⟨S4096x4096, .i32⟩
  | 112 => ⟨S4096x4096, .i32⟩
  | 113 => ⟨S4096x4096, .i32⟩
  | 114 => ⟨S_, .i32⟩
  | 115 => ⟨S4096x4096, .i32⟩
  | 116 => ⟨S4096x4096, .i32⟩
  | 117 => ⟨S_, .i32⟩
  | 118 => ⟨S4096x4096, .i32⟩
  | 119 => ⟨S4096x4096, .i32⟩
  | 120 => ⟨S4096x4096, .i32⟩
  | 121 => ⟨S4096x4096, .i32⟩
  | 122 => ⟨S4096x4096, .i32⟩
  | 123 => ⟨S4096x4096, .i32⟩
  | 124 => ⟨S4096x4096, .i32⟩
  | 125 => ⟨S4096x4096, .i32⟩
  | 126 => ⟨S_, .i32⟩
  | 127 => ⟨S4096x4096, .i32⟩
  | _ => ⟨S4096x4096, .f32⟩

abbrev hbmTy0_7 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S_, .i32⟩
  | 6 => ⟨S4096x4096, .i32⟩
  | 7 => ⟨S4096x4096, .i32⟩
  | 8 => ⟨S4096x4096, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S_, .i32⟩
  | 33 => ⟨S4096x4096, .i32⟩
  | 34 => ⟨S4096x4096, .i32⟩
  | 35 => ⟨S4096x4096, .i32⟩
  | 36 => ⟨S4096x4096, .i32⟩
  | 37 => ⟨S4096x4096, .i32⟩
  | 38 => ⟨S4096x4096, .i32⟩
  | 39 => ⟨S4096x4096, .i32⟩
  | 40 => ⟨S4096x4096, .i32⟩
  | 41 => ⟨S_, .i32⟩
  | 42 => ⟨S4096x4096, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S4096x4096, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S_, .i32⟩
  | 67 => ⟨S4096x4096, .i32⟩
  | 68 => ⟨S4096x4096, .i32⟩
  | 69 => ⟨S4096x4096, .i32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S_, .i32⟩
  | 76 => ⟨S4096x4096, .i32⟩
  | 77 => ⟨S4096x4096, .i32⟩
  | 78 => ⟨S4096x4096, .i32⟩
  | 79 => ⟨S4096x4096, .i32⟩
  | 80 => ⟨S4096x4096, .i32⟩
  | 81 => ⟨S4096x4096, .i32⟩
  | 82 => ⟨S4096x4096, .i32⟩
  | 83 => ⟨S4096x4096, .i32⟩
  | 84 => ⟨S_, .i32⟩
  | 85 => ⟨S4096x4096, .i32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S_, .i32⟩
  | 92 => ⟨S4096x4096, .i32⟩
  | 93 => ⟨S4096x4096, .i32⟩
  | 94 => ⟨S4096x4096, .f32⟩
  | 95 => ⟨S_, .f32⟩
  | 96 => ⟨S4096x4096, .f32⟩
  | 97 => ⟨S4096x4096, .f32⟩
  | 98 => ⟨S1x1, .f32⟩
  | 99 => ⟨S4096x4096, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S4096x4096, .f32⟩
  | 112 => ⟨S4096x4096, .i32⟩
  | 113 => ⟨S_, .f32⟩
  | 114 => ⟨S_, .i32⟩
  | 115 => ⟨S4096, .f32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S4096x4096, .f32⟩

abbrev hbmTy0_8 (i : Nat) : BufTy := match i % 128 with
  | 0 => ⟨S4096, .i32⟩
  | 1 => ⟨S4096, .i32⟩
  | 2 => ⟨S4096, .i32⟩
  | 3 => ⟨S4096x1, .i32⟩
  | 4 => ⟨S4096x1, .i32⟩
  | 5 => ⟨S4096x2, .i32⟩
  | 6 => ⟨S4096, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x1, .i32⟩
  | 23 => ⟨S4096x2, .i32⟩
  | 24 => ⟨S4096, .f32⟩
  | 25 => ⟨S_, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .f32⟩
  | 32 => ⟨S_, .f32⟩
  | 33 => ⟨S_, .f32⟩
  | 34 => ⟨S_, .f32⟩
  | 35 => ⟨S1x1, .f32⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_c_2 : Ref sig .tc := ⟨.hbm, 255, rfl⟩
abbrev main_v14 : Ref sig .tc := ⟨.hbm, 256, rfl⟩
abbrev main_v15 : Ref sig .tc := ⟨.hbm, 257, rfl⟩
abbrev main_v16 : Ref sig .tc := ⟨.hbm, 258, rfl⟩
abbrev main_v17 : Ref sig .tc := ⟨.hbm, 259, rfl⟩
abbrev main_v18 : Ref sig .tc := ⟨.hbm, 260, rfl⟩
abbrev main_v19 : Ref sig .tc := ⟨.hbm, 261, rfl⟩
abbrev main_cst : Ref sig .tc := ⟨.hbm, 262, rfl⟩
abbrev main_v20 : Ref sig .tc := ⟨.hbm, 263, rfl⟩
abbrev main_v21 : Ref sig .tc := ⟨.hbm, 264, rfl⟩
abbrev main_cst_3 : Ref sig .tc := ⟨.hbm, 265, rfl⟩
abbrev main_v22 : Ref sig .tc := ⟨.hbm, 266, rfl⟩
abbrev main_v23 : Ref sig .tc := ⟨.hbm, 267, rfl⟩
abbrev main_v24 : Ref sig .tc := ⟨.hbm, 268, rfl⟩
abbrev main_cst_4 : Ref sig .tc := ⟨.hbm, 269, rfl⟩
abbrev main_v25 : Ref sig .tc := ⟨.hbm, 270, rfl⟩
abbrev main_v26 : Ref sig .tc := ⟨.hbm, 271, rfl⟩
abbrev main_v27 : Ref sig .tc := ⟨.hbm, 272, rfl⟩
abbrev main_cst_5 : Ref sig .tc := ⟨.hbm, 273, rfl⟩
abbrev main_v28 : Ref sig .tc := ⟨.hbm, 274, rfl⟩
abbrev main_v29 : Ref sig .tc := ⟨.hbm, 275, rfl⟩
abbrev main_v30 : Ref sig .tc := ⟨.hbm, 276, rfl⟩
abbrev main_cst_6 : Ref sig .tc := ⟨.hbm, 277, rfl⟩
abbrev main_v31 : Ref sig .tc := ⟨.hbm, 278, rfl⟩
abbrev main_v32 : Ref sig .tc := ⟨.hbm, 279, rfl⟩
abbrev main_cst_7 : Ref sig .tc := ⟨.hbm, 280, rfl⟩
abbrev main_v33 : Ref sig .tc := ⟨.hbm, 281, rfl⟩
abbrev main_v34 : Ref sig .tc := ⟨.hbm, 282, rfl⟩
abbrev main_v35 : Ref sig .tc := ⟨.hbm, 283, rfl⟩
abbrev main_cst_8 : Ref sig .tc := ⟨.hbm, 284, rfl⟩
abbrev main_v36 : Ref sig .tc := ⟨.hbm, 285, rfl⟩
abbrev main_v37 : Ref sig .tc := ⟨.hbm, 286, rfl⟩
abbrev main_v38 : Ref sig .tc := ⟨.hbm, 287, rfl⟩
abbrev main_call1_v0 : Ref sig .tc := ⟨.hbm, 288, rfl⟩
abbrev main_call1_cst : Ref sig .tc := ⟨.hbm, 289, rfl⟩
abbrev main_call1_v1 : Ref sig .tc := ⟨.hbm, 290, rfl⟩
abbrev main_v39 : Ref sig .tc := ⟨.hbm, 291, rfl⟩
abbrev main_v40 : Ref sig .tc := ⟨.hbm, 292, rfl⟩
abbrev main_v41 : Ref sig .tc := ⟨.hbm, 293, rfl⟩
abbrev main_v42 : Ref sig .tc := ⟨.hbm, 294, rfl⟩
abbrev main_v43 : Ref sig .tc := ⟨.hbm, 295, rfl⟩
abbrev main_cst_9 : Ref sig .tc := ⟨.hbm, 296, rfl⟩
abbrev main_call2_v0 : Ref sig .tc := ⟨.hbm, 297, rfl⟩
abbrev main_call2_v1 : Ref sig .tc := ⟨.hbm, 298, rfl⟩
abbrev main_v44 : Ref sig .tc := ⟨.hbm, 299, rfl⟩
abbrev main_cst_10 : Ref sig .tc := ⟨.hbm, 300, rfl⟩
abbrev main_v45 : Ref sig .tc := ⟨.hbm, 301, rfl⟩
abbrev main_v46 : Ref sig .tc := ⟨.hbm, 302, rfl⟩
abbrev main_v47 : Ref sig .tc := ⟨.hbm, 303, rfl⟩
abbrev main_v48 : Ref sig .tc := ⟨.hbm, 304, rfl⟩
abbrev main_v49 : Ref sig .tc := ⟨.hbm, 305, rfl⟩
abbrev main_cst_11 : Ref sig .tc := ⟨.hbm, 306, rfl⟩
abbrev main_v50 : Ref sig .tc := ⟨.hbm, 307, rfl⟩
abbrev main_v51 : Ref sig .tc := ⟨.hbm, 308, rfl⟩
abbrev main_v52 : Ref sig .tc := ⟨.hbm, 309, rfl⟩
abbrev main_v53 : Ref sig .tc := ⟨.hbm, 310, rfl⟩
abbrev main_v54 : Ref sig .tc := ⟨.hbm, 311, rfl⟩
abbrev main_cst_12 : Ref sig .tc := ⟨.hbm, 312, rfl⟩
abbrev main_v55 : Ref sig .tc := ⟨.hbm, 313, rfl⟩
abbrev main_v56 : Ref sig .tc := ⟨.hbm, 314, rfl⟩
abbrev main_cst_13 : Ref sig .tc := ⟨.hbm, 315, rfl⟩
abbrev main_v57 : Ref sig .tc := ⟨.hbm, 316, rfl⟩
abbrev main_v58 : Ref sig .tc := ⟨.hbm, 317, rfl⟩
abbrev main_v59 : Ref sig .tc := ⟨.hbm, 318, rfl⟩
abbrev main_v60 : Ref sig .tc := ⟨.hbm, 319, rfl⟩
abbrev main_c_14 : Ref sig .tc := ⟨.hbm, 320, rfl⟩
abbrev main_v61 : Ref sig .tc := ⟨.hbm, 321, rfl⟩
abbrev main_v62 : Ref sig .tc := ⟨.hbm, 322, rfl⟩
abbrev main_c_15 : Ref sig .tc := ⟨.hbm, 323, rfl⟩
abbrev main_v63 : Ref sig .tc := ⟨.hbm, 324, rfl⟩
abbrev main_v64 : Ref sig .tc := ⟨.hbm, 325, rfl⟩
abbrev main_v65 : Ref sig .tc := ⟨.hbm, 326, rfl⟩
abbrev main_v66 : Ref sig .tc := ⟨.hbm, 327, rfl⟩
abbrev main_v67 : Ref sig .tc := ⟨.hbm, 328, rfl⟩
abbrev main_cst_16 : Ref sig .tc := ⟨.hbm, 329, rfl⟩
abbrev main_call3_v0 : Ref sig .tc := ⟨.hbm, 330, rfl⟩
abbrev main_call3_v1 : Ref sig .tc := ⟨.hbm, 331, rfl⟩
abbrev main_v68 : Ref sig .tc := ⟨.hbm, 332, rfl⟩
abbrev main_v69 : Ref sig .tc := ⟨.hbm, 333, rfl⟩
abbrev main_cst_17 : Ref sig .tc := ⟨.hbm, 334, rfl⟩
abbrev main_cst_18 : Ref sig .tc := ⟨.hbm, 335, rfl⟩
abbrev main_call4_v0 : Ref sig .tc := ⟨.hbm, 336, rfl⟩
abbrev main_call4_v1 : Ref sig .tc := ⟨.hbm, 337, rfl⟩
abbrev main_call4_v2 : Ref sig .tc := ⟨.hbm, 338, rfl⟩
abbrev main_call4_v3 : Ref sig .tc := ⟨.hbm, 339, rfl⟩
abbrev main_call4_v4 : Ref sig .tc := ⟨.hbm, 340, rfl⟩
abbrev main_call4_v5 : Ref sig .tc := ⟨.hbm, 341, rfl⟩
abbrev main_call4_v6 : Ref sig .tc := ⟨.hbm, 342, rfl⟩
abbrev main_call4_v7 : Ref sig .tc := ⟨.hbm, 343, rfl⟩
abbrev main_call4_v8 : Ref sig .tc := ⟨.hbm, 344, rfl⟩
abbrev main_call4_v9 : Ref sig .tc := ⟨.hbm, 345, rfl⟩
abbrev main_call4_c : Ref sig .tc := ⟨.hbm, 346, rfl⟩
abbrev main_call4_v10 : Ref sig .tc := ⟨.hbm, 347, rfl⟩
abbrev main_call4_v11 : Ref sig .tc := ⟨.hbm, 348, rfl⟩
abbrev main_call4_c_0 : Ref sig .tc := ⟨.hbm, 349, rfl⟩
abbrev main_call4_v12 : Ref sig .tc := ⟨.hbm, 350, rfl⟩
abbrev main_call4_v13 : Ref sig .tc := ⟨.hbm, 351, rfl⟩
abbrev main_call4_v14 : Ref sig .tc := ⟨.hbm, 352, rfl⟩
abbrev main_call4_c_1 : Ref sig .tc := ⟨.hbm, 353, rfl⟩
abbrev main_call4_v15 : Ref sig .tc := ⟨.hbm, 354, rfl⟩
abbrev main_call4_v16 : Ref sig .tc := ⟨.hbm, 355, rfl⟩
abbrev main_call4_v17 : Ref sig .tc := ⟨.hbm, 356, rfl⟩
abbrev main_call4_v18 : Ref sig .tc := ⟨.hbm, 357, rfl⟩
abbrev main_call4_call0_v0 : Ref sig .tc := ⟨.hbm, 358, rfl⟩
abbrev main_call4_call0_c : Ref sig .tc := ⟨.hbm, 359, rfl⟩
abbrev main_call4_call0_v1 : Ref sig .tc := ⟨.hbm, 360, rfl⟩
abbrev main_call4_call0_v2 : Ref sig .tc := ⟨.hbm, 361, rfl⟩
abbrev main_call4_call0_v3 : Ref sig .tc := ⟨.hbm, 362, rfl⟩
abbrev main_call4_call0_v4 : Ref sig .tc := ⟨.hbm, 363, rfl⟩
abbrev main_call4_call0_v5 : Ref sig .tc := ⟨.hbm, 364, rfl⟩
abbrev main_call4_call0_v6 : Ref sig .tc := ⟨.hbm, 365, rfl⟩
abbrev main_call4_call0_c_0 : Ref sig .tc := ⟨.hbm, 366, rfl⟩
abbrev main_call4_call0_v7 : Ref sig .tc := ⟨.hbm, 367, rfl⟩
abbrev main_call4_call0_v8 : Ref sig .tc := ⟨.hbm, 368, rfl⟩
abbrev main_call4_call0_c_1 : Ref sig .tc := ⟨.hbm, 369, rfl⟩
abbrev main_call4_call0_v9 : Ref sig .tc := ⟨.hbm, 370, rfl⟩
abbrev main_call4_call0_v10 : Ref sig .tc := ⟨.hbm, 371, rfl⟩
abbrev main_call4_call0_v11 : Ref sig .tc := ⟨.hbm, 372, rfl⟩
abbrev main_call4_call0_v12 : Ref sig .tc := ⟨.hbm, 373, rfl⟩
abbrev main_call4_call0_v13 : Ref sig .tc := ⟨.hbm, 374, rfl⟩
abbrev main_call4_call0_c_2 : Ref sig .tc := ⟨.hbm, 375, rfl⟩
abbrev main_call4_call0_v14 : Ref sig .tc := ⟨.hbm, 376, rfl⟩
abbrev main_call4_call0_v15 : Ref sig .tc := ⟨.hbm, 377, rfl⟩
abbrev main_call4_call0_c_3 : Ref sig .tc := ⟨.hbm, 378, rfl⟩
abbrev main_call4_call0_v16 : Ref sig .tc := ⟨.hbm, 379, rfl⟩
abbrev main_call4_call0_v17 : Ref sig .tc := ⟨.hbm, 380, rfl⟩
abbrev main_call4_call0_v18 : Ref sig .tc := ⟨.hbm, 381, rfl⟩
abbrev main_call4_call0_v19 : Ref sig .tc := ⟨.hbm, 382, rfl⟩
abbrev main_call4_call0_v20 : Ref sig .tc := ⟨.hbm, 383, rfl⟩
abbrev main_call4_call0_c_4 : Ref sig .tc := ⟨.hbm, 384, rfl⟩
abbrev main_call4_call0_v21 : Ref sig .tc := ⟨.hbm, 385, rfl⟩
abbrev main_call4_call0_v22 : Ref sig .tc := ⟨.hbm, 386, rfl⟩
abbrev main_call4_call0_c_5 : Ref sig .tc := ⟨.hbm, 387, rfl⟩
abbrev main_call4_call0_v23 : Ref sig .tc := ⟨.hbm, 388, rfl⟩
abbrev main_call4_call0_v24 : Ref sig .tc := ⟨.hbm, 389, rfl⟩
abbrev main_call4_call0_v25 : Ref sig .tc := ⟨.hbm, 390, rfl⟩
abbrev main_call4_call0_v26 : Ref sig .tc := ⟨.hbm, 391, rfl⟩
abbrev main_call4_call0_v27 : Ref sig .tc := ⟨.hbm, 392, rfl⟩
abbrev main_call4_call0_c_6 : Ref sig .tc := ⟨.hbm, 393, rfl⟩
abbrev main_call4_call0_v28 : Ref sig .tc := ⟨.hbm, 394, rfl⟩
abbrev main_call4_call0_v29 : Ref sig .tc := ⟨.hbm, 395, rfl⟩
abbrev main_call4_call0_c_7 : Ref sig .tc := ⟨.hbm, 396, rfl⟩
abbrev main_call4_call0_v30 : Ref sig .tc := ⟨.hbm, 397, rfl⟩
abbrev main_call4_call0_v31 : Ref sig .tc := ⟨.hbm, 398, rfl⟩
abbrev main_call4_call0_v32 : Ref sig .tc := ⟨.hbm, 399, rfl⟩
abbrev main_call4_call0_v33 : Ref sig .tc := ⟨.hbm, 400, rfl⟩
abbrev main_call4_call0_v34 : Ref sig .tc := ⟨.hbm, 401, rfl⟩
abbrev main_call4_call0_v35 : Ref sig .tc := ⟨.hbm, 402, rfl⟩
abbrev main_call4_call0_v36 : Ref sig .tc := ⟨.hbm, 403, rfl⟩
abbrev main_call4_call0_v37 : Ref sig .tc := ⟨.hbm, 404, rfl⟩
abbrev main_call4_call0_c_8 : Ref sig .tc := ⟨.hbm, 405, rfl⟩
abbrev main_call4_call0_v38 : Ref sig .tc := ⟨.hbm, 406, rfl⟩
abbrev main_call4_call0_v39 : Ref sig .tc := ⟨.hbm, 407, rfl⟩
abbrev main_call4_call0_v40 : Ref sig .tc := ⟨.hbm, 408, rfl⟩
abbrev main_call4_call0_c_9 : Ref sig .tc := ⟨.hbm, 409, rfl⟩
abbrev main_call4_call0_v41 : Ref sig .tc := ⟨.hbm, 410, rfl⟩
abbrev main_call4_call0_v42 : Ref sig .tc := ⟨.hbm, 411, rfl⟩
abbrev main_call4_call0_c_10 : Ref sig .tc := ⟨.hbm, 412, rfl⟩
abbrev main_call4_call0_v43 : Ref sig .tc := ⟨.hbm, 413, rfl⟩
abbrev main_call4_call0_v44 : Ref sig .tc := ⟨.hbm, 414, rfl⟩
abbrev main_call4_call0_v45 : Ref sig .tc := ⟨.hbm, 415, rfl⟩
abbrev main_call4_call0_v46 : Ref sig .tc := ⟨.hbm, 416, rfl⟩
abbrev main_call4_call0_v47 : Ref sig .tc := ⟨.hbm, 417, rfl⟩
abbrev main_call4_call0_c_11 : Ref sig .tc := ⟨.hbm, 418, rfl⟩
abbrev main_call4_call0_v48 : Ref sig .tc := ⟨.hbm, 419, rfl⟩
abbrev main_call4_call0_v49 : Ref sig .tc := ⟨.hbm, 420, rfl⟩
abbrev main_call4_call0_c_12 : Ref sig .tc := ⟨.hbm, 421, rfl⟩
abbrev main_call4_call0_v50 : Ref sig .tc := ⟨.hbm, 422, rfl⟩
abbrev main_call4_call0_v51 : Ref sig .tc := ⟨.hbm, 423, rfl⟩
abbrev main_call4_call0_v52 : Ref sig .tc := ⟨.hbm, 424, rfl⟩
abbrev main_call4_call0_v53 : Ref sig .tc := ⟨.hbm, 425, rfl⟩
abbrev main_call4_call0_v54 : Ref sig .tc := ⟨.hbm, 426, rfl⟩
abbrev main_call4_call0_c_13 : Ref sig .tc := ⟨.hbm, 427, rfl⟩
abbrev main_call4_call0_v55 : Ref sig .tc := ⟨.hbm, 428, rfl⟩
abbrev main_call4_call0_v56 : Ref sig .tc := ⟨.hbm, 429, rfl⟩
abbrev main_call4_call0_c_14 : Ref sig .tc := ⟨.hbm, 430, rfl⟩
abbrev main_call4_call0_v57 : Ref sig .tc := ⟨.hbm, 431, rfl⟩
abbrev main_call4_call0_v58 : Ref sig .tc := ⟨.hbm, 432, rfl⟩
abbrev main_call4_call0_v59 : Ref sig .tc := ⟨.hbm, 433, rfl⟩
abbrev main_call4_call0_v60 : Ref sig .tc := ⟨.hbm, 434, rfl⟩
abbrev main_call4_call0_v61 : Ref sig .tc := ⟨.hbm, 435, rfl⟩
abbrev main_call4_call0_c_15 : Ref sig .tc := ⟨.hbm, 436, rfl⟩
abbrev main_call4_call0_v62 : Ref sig .tc := ⟨.hbm, 437, rfl⟩
abbrev main_call4_call0_v63 : Ref sig .tc := ⟨.hbm, 438, rfl⟩
abbrev main_call4_call0_c_16 : Ref sig .tc := ⟨.hbm, 439, rfl⟩
abbrev main_call4_call0_v64 : Ref sig .tc := ⟨.hbm, 440, rfl⟩
abbrev main_call4_call0_v65 : Ref sig .tc := ⟨.hbm, 441, rfl⟩
abbrev main_call4_call0_v66 : Ref sig .tc := ⟨.hbm, 442, rfl⟩
abbrev main_call4_call0_v67 : Ref sig .tc := ⟨.hbm, 443, rfl⟩
abbrev main_call4_call0_v68 : Ref sig .tc := ⟨.hbm, 444, rfl⟩
abbrev main_call4_call0_v69 : Ref sig .tc := ⟨.hbm, 445, rfl⟩
abbrev main_call4_call0_v70 : Ref sig .tc := ⟨.hbm, 446, rfl⟩
abbrev main_call4_call0_v71 : Ref sig .tc := ⟨.hbm, 447, rfl⟩
abbrev main_call4_call0_c_17 : Ref sig .tc := ⟨.hbm, 448, rfl⟩
abbrev main_call4_call0_v72 : Ref sig .tc := ⟨.hbm, 449, rfl⟩
abbrev main_call4_call0_v73 : Ref sig .tc := ⟨.hbm, 450, rfl⟩
abbrev main_call4_call0_v74 : Ref sig .tc := ⟨.hbm, 451, rfl⟩
abbrev main_call4_call0_c_18 : Ref sig .tc := ⟨.hbm, 452, rfl⟩
abbrev main_call4_call0_v75 : Ref sig .tc := ⟨.hbm, 453, rfl⟩
abbrev main_call4_call0_v76 : Ref sig .tc := ⟨.hbm, 454, rfl⟩
abbrev main_call4_call0_c_19 : Ref sig .tc := ⟨.hbm, 455, rfl⟩
abbrev main_call4_call0_v77 : Ref sig .tc := ⟨.hbm, 456, rfl⟩
abbrev main_call4_call0_v78 : Ref sig .tc := ⟨.hbm, 457, rfl⟩
abbrev main_call4_call0_v79 : Ref sig .tc := ⟨.hbm, 458, rfl⟩
abbrev main_call4_call0_v80 : Ref sig .tc := ⟨.hbm, 459, rfl⟩
abbrev main_call4_call0_v81 : Ref sig .tc := ⟨.hbm, 460, rfl⟩
abbrev main_call4_call0_c_20 : Ref sig .tc := ⟨.hbm, 461, rfl⟩
abbrev main_call4_call0_v82 : Ref sig .tc := ⟨.hbm, 462, rfl⟩
abbrev main_call4_call0_v83 : Ref sig .tc := ⟨.hbm, 463, rfl⟩
abbrev main_call4_call0_c_21 : Ref sig .tc := ⟨.hbm, 464, rfl⟩
abbrev main_call4_call0_v84 : Ref sig .tc := ⟨.hbm, 465, rfl⟩
abbrev main_call4_call0_v85 : Ref sig .tc := ⟨.hbm, 466, rfl⟩
abbrev main_call4_call0_v86 : Ref sig .tc := ⟨.hbm, 467, rfl⟩
abbrev main_call4_call0_v87 : Ref sig .tc := ⟨.hbm, 468, rfl⟩
abbrev main_call4_call0_v88 : Ref sig .tc := ⟨.hbm, 469, rfl⟩
abbrev main_call4_call0_c_22 : Ref sig .tc := ⟨.hbm, 470, rfl⟩
abbrev main_call4_call0_v89 : Ref sig .tc := ⟨.hbm, 471, rfl⟩
abbrev main_call4_call0_v90 : Ref sig .tc := ⟨.hbm, 472, rfl⟩
abbrev main_call4_call0_c_23 : Ref sig .tc := ⟨.hbm, 473, rfl⟩
abbrev main_call4_call0_v91 : Ref sig .tc := ⟨.hbm, 474, rfl⟩
abbrev main_call4_call0_v92 : Ref sig .tc := ⟨.hbm, 475, rfl⟩
abbrev main_call4_call0_v93 : Ref sig .tc := ⟨.hbm, 476, rfl⟩
abbrev main_call4_call0_v94 : Ref sig .tc := ⟨.hbm, 477, rfl⟩
abbrev main_call4_call0_v95 : Ref sig .tc := ⟨.hbm, 478, rfl⟩
abbrev main_call4_call0_c_24 : Ref sig .tc := ⟨.hbm, 479, rfl⟩
abbrev main_call4_call0_v96 : Ref sig .tc := ⟨.hbm, 480, rfl⟩
abbrev main_call4_call0_v97 : Ref sig .tc := ⟨.hbm, 481, rfl⟩
abbrev main_call4_call0_c_25 : Ref sig .tc := ⟨.hbm, 482, rfl⟩
abbrev main_call4_call0_v98 : Ref sig .tc := ⟨.hbm, 483, rfl⟩
abbrev main_call4_call0_v99 : Ref sig .tc := ⟨.hbm, 484, rfl⟩
abbrev main_call4_call0_v100 : Ref sig .tc := ⟨.hbm, 485, rfl⟩
abbrev main_call4_call0_v101 : Ref sig .tc := ⟨.hbm, 486, rfl⟩
abbrev main_call4_call0_v102 : Ref sig .tc := ⟨.hbm, 487, rfl⟩
abbrev main_call4_call0_v103 : Ref sig .tc := ⟨.hbm, 488, rfl⟩
abbrev main_call4_call0_v104 : Ref sig .tc := ⟨.hbm, 489, rfl⟩
abbrev main_call4_call0_v105 : Ref sig .tc := ⟨.hbm, 490, rfl⟩
abbrev main_call4_call0_c_26 : Ref sig .tc := ⟨.hbm, 491, rfl⟩
abbrev main_call4_call0_v106 : Ref sig .tc := ⟨.hbm, 492, rfl⟩
abbrev main_call4_call0_v107 : Ref sig .tc := ⟨.hbm, 493, rfl⟩
abbrev main_call4_call0_v108 : Ref sig .tc := ⟨.hbm, 494, rfl⟩
abbrev main_call4_call0_c_27 : Ref sig .tc := ⟨.hbm, 495, rfl⟩
abbrev main_call4_call0_v109 : Ref sig .tc := ⟨.hbm, 496, rfl⟩
abbrev main_call4_call0_v110 : Ref sig .tc := ⟨.hbm, 497, rfl⟩
abbrev main_call4_call0_c_28 : Ref sig .tc := ⟨.hbm, 498, rfl⟩
abbrev main_call4_call0_v111 : Ref sig .tc := ⟨.hbm, 499, rfl⟩
abbrev main_call4_call0_v112 : Ref sig .tc := ⟨.hbm, 500, rfl⟩
abbrev main_call4_call0_v113 : Ref sig .tc := ⟨.hbm, 501, rfl⟩
abbrev main_call4_call0_v114 : Ref sig .tc := ⟨.hbm, 502, rfl⟩
abbrev main_call4_call0_v115 : Ref sig .tc := ⟨.hbm, 503, rfl⟩
abbrev main_call4_call0_c_29 : Ref sig .tc := ⟨.hbm, 504, rfl⟩
abbrev main_call4_call0_v116 : Ref sig .tc := ⟨.hbm, 505, rfl⟩
abbrev main_call4_call0_v117 : Ref sig .tc := ⟨.hbm, 506, rfl⟩
abbrev main_call4_call0_c_30 : Ref sig .tc := ⟨.hbm, 507, rfl⟩
abbrev main_call4_call0_v118 : Ref sig .tc := ⟨.hbm, 508, rfl⟩
abbrev main_call4_call0_v119 : Ref sig .tc := ⟨.hbm, 509, rfl⟩
abbrev main_call4_call0_v120 : Ref sig .tc := ⟨.hbm, 510, rfl⟩
abbrev main_call4_call0_v121 : Ref sig .tc := ⟨.hbm, 511, rfl⟩
abbrev main_call4_call0_v122 : Ref sig .tc := ⟨.hbm, 512, rfl⟩
abbrev main_call4_call0_c_31 : Ref sig .tc := ⟨.hbm, 513, rfl⟩
abbrev main_call4_call0_v123 : Ref sig .tc := ⟨.hbm, 514, rfl⟩
abbrev main_call4_call0_v124 : Ref sig .tc := ⟨.hbm, 515, rfl⟩
abbrev main_call4_call0_c_32 : Ref sig .tc := ⟨.hbm, 516, rfl⟩
abbrev main_call4_call0_v125 : Ref sig .tc := ⟨.hbm, 517, rfl⟩
abbrev main_call4_call0_v126 : Ref sig .tc := ⟨.hbm, 518, rfl⟩
abbrev main_call4_call0_v127 : Ref sig .tc := ⟨.hbm, 519, rfl⟩
abbrev main_call4_call0_v128 : Ref sig .tc := ⟨.hbm, 520, rfl⟩
abbrev main_call4_call0_v129 : Ref sig .tc := ⟨.hbm, 521, rfl⟩
abbrev main_call4_call0_c_33 : Ref sig .tc := ⟨.hbm, 522, rfl⟩
abbrev main_call4_call0_v130 : Ref sig .tc := ⟨.hbm, 523, rfl⟩
abbrev main_call4_call0_v131 : Ref sig .tc := ⟨.hbm, 524, rfl⟩
abbrev main_call4_call0_c_34 : Ref sig .tc := ⟨.hbm, 525, rfl⟩
abbrev main_call4_call0_v132 : Ref sig .tc := ⟨.hbm, 526, rfl⟩
abbrev main_call4_call0_v133 : Ref sig .tc := ⟨.hbm, 527, rfl⟩
abbrev main_call4_call0_v134 : Ref sig .tc := ⟨.hbm, 528, rfl⟩
abbrev main_call4_call0_v135 : Ref sig .tc := ⟨.hbm, 529, rfl⟩
abbrev main_call4_call0_v136 : Ref sig .tc := ⟨.hbm, 530, rfl⟩
abbrev main_call4_call0_v137 : Ref sig .tc := ⟨.hbm, 531, rfl⟩
abbrev main_call4_call0_v138 : Ref sig .tc := ⟨.hbm, 532, rfl⟩
abbrev main_call4_call0_v139 : Ref sig .tc := ⟨.hbm, 533, rfl⟩
abbrev main_call4_call0_c_35 : Ref sig .tc := ⟨.hbm, 534, rfl⟩
abbrev main_call4_call0_v140 : Ref sig .tc := ⟨.hbm, 535, rfl⟩
abbrev main_call4_call0_v141 : Ref sig .tc := ⟨.hbm, 536, rfl⟩
abbrev main_call4_call0_v142 : Ref sig .tc := ⟨.hbm, 537, rfl⟩
abbrev main_call4_call0_c_36 : Ref sig .tc := ⟨.hbm, 538, rfl⟩
abbrev main_call4_call0_v143 : Ref sig .tc := ⟨.hbm, 539, rfl⟩
abbrev main_call4_call0_v144 : Ref sig .tc := ⟨.hbm, 540, rfl⟩
abbrev main_call4_call0_c_37 : Ref sig .tc := ⟨.hbm, 541, rfl⟩
abbrev main_call4_call0_v145 : Ref sig .tc := ⟨.hbm, 542, rfl⟩
abbrev main_call4_call0_v146 : Ref sig .tc := ⟨.hbm, 543, rfl⟩
abbrev main_call4_call0_v147 : Ref sig .tc := ⟨.hbm, 544, rfl⟩
abbrev main_call4_call0_v148 : Ref sig .tc := ⟨.hbm, 545, rfl⟩
abbrev main_call4_call0_v149 : Ref sig .tc := ⟨.hbm, 546, rfl⟩
abbrev main_call4_call0_c_38 : Ref sig .tc := ⟨.hbm, 547, rfl⟩
abbrev main_call4_call0_v150 : Ref sig .tc := ⟨.hbm, 548, rfl⟩
abbrev main_call4_call0_v151 : Ref sig .tc := ⟨.hbm, 549, rfl⟩
abbrev main_call4_call0_c_39 : Ref sig .tc := ⟨.hbm, 550, rfl⟩
abbrev main_call4_call0_v152 : Ref sig .tc := ⟨.hbm, 551, rfl⟩
abbrev main_call4_call0_v153 : Ref sig .tc := ⟨.hbm, 552, rfl⟩
abbrev main_call4_call0_v154 : Ref sig .tc := ⟨.hbm, 553, rfl⟩
abbrev main_call4_call0_v155 : Ref sig .tc := ⟨.hbm, 554, rfl⟩
abbrev main_call4_call0_v156 : Ref sig .tc := ⟨.hbm, 555, rfl⟩
abbrev main_call4_call0_c_40 : Ref sig .tc := ⟨.hbm, 556, rfl⟩
abbrev main_call4_call0_v157 : Ref sig .tc := ⟨.hbm, 557, rfl⟩
abbrev main_call4_call0_v158 : Ref sig .tc := ⟨.hbm, 558, rfl⟩
abbrev main_call4_call0_c_41 : Ref sig .tc := ⟨.hbm, 559, rfl⟩
abbrev main_call4_call0_v159 : Ref sig .tc := ⟨.hbm, 560, rfl⟩
abbrev main_call4_call0_v160 : Ref sig .tc := ⟨.hbm, 561, rfl⟩
abbrev main_call4_call0_v161 : Ref sig .tc := ⟨.hbm, 562, rfl⟩
abbrev main_call4_call0_v162 : Ref sig .tc := ⟨.hbm, 563, rfl⟩
abbrev main_call4_call0_v163 : Ref sig .tc := ⟨.hbm, 564, rfl⟩
abbrev main_call4_call0_c_42 : Ref sig .tc := ⟨.hbm, 565, rfl⟩
abbrev main_call4_call0_v164 : Ref sig .tc := ⟨.hbm, 566, rfl⟩
abbrev main_call4_call0_v165 : Ref sig .tc := ⟨.hbm, 567, rfl⟩
abbrev main_call4_call0_c_43 : Ref sig .tc := ⟨.hbm, 568, rfl⟩
abbrev main_call4_call0_v166 : Ref sig .tc := ⟨.hbm, 569, rfl⟩
abbrev main_call4_call0_v167 : Ref sig .tc := ⟨.hbm, 570, rfl⟩
abbrev main_call4_call0_v168 : Ref sig .tc := ⟨.hbm, 571, rfl⟩
abbrev main_call4_call0_v169 : Ref sig .tc := ⟨.hbm, 572, rfl⟩
abbrev main_call4_call0_v170 : Ref sig .tc := ⟨.hbm, 573, rfl⟩
abbrev main_call4_v19_0 : Ref sig .tc := ⟨.hbm, 574, rfl⟩
abbrev main_call4_call0_v172 : Ref sig .tc := ⟨.hbm, 575, rfl⟩
abbrev main_call4_call0_v173 : Ref sig .tc := ⟨.hbm, 576, rfl⟩
abbrev main_call4_call0_c_44 : Ref sig .tc := ⟨.hbm, 577, rfl⟩
abbrev main_call4_call0_v174 : Ref sig .tc := ⟨.hbm, 578, rfl⟩
abbrev main_call4_v19_1 : Ref sig .tc := ⟨.hbm, 579, rfl⟩
abbrev main_call4_v20 : Ref sig .tc := ⟨.hbm, 580, rfl⟩
abbrev main_call4_c_2 : Ref sig .tc := ⟨.hbm, 581, rfl⟩
abbrev main_call4_v21 : Ref sig .tc := ⟨.hbm, 582, rfl⟩
abbrev main_call4_v22 : Ref sig .tc := ⟨.hbm, 583, rfl⟩
abbrev main_call4_c_3 : Ref sig .tc := ⟨.hbm, 584, rfl⟩
abbrev main_call4_v23 : Ref sig .tc := ⟨.hbm, 585, rfl⟩
abbrev main_call4_v24 : Ref sig .tc := ⟨.hbm, 586, rfl⟩
abbrev main_call4_v25 : Ref sig .tc := ⟨.hbm, 587, rfl⟩
abbrev main_call4_cst : Ref sig .tc := ⟨.hbm, 588, rfl⟩
abbrev main_call4_v26 : Ref sig .tc := ⟨.hbm, 589, rfl⟩
abbrev main_call4_v27 : Ref sig .tc := ⟨.hbm, 590, rfl⟩
abbrev main_call4_v28 : Ref sig .tc := ⟨.hbm, 591, rfl⟩
abbrev main_call4_v29 : Ref sig .tc := ⟨.hbm, 592, rfl⟩
abbrev main_call4_v30 : Ref sig .tc := ⟨.hbm, 593, rfl⟩
abbrev main_call4_v31 : Ref sig .tc := ⟨.hbm, 594, rfl⟩
abbrev main_call4_v32 : Ref sig .tc := ⟨.hbm, 595, rfl⟩
abbrev main_call4_v33 : Ref sig .tc := ⟨.hbm, 596, rfl⟩
abbrev main_v70 : Ref sig .tc := ⟨.hbm, 597, rfl⟩
abbrev main_cst_19 : Ref sig .tc := ⟨.hbm, 598, rfl⟩
abbrev main_v71 : Ref sig .tc := ⟨.hbm, 599, rfl⟩
abbrev main_v72 : Ref sig .tc := ⟨.hbm, 600, rfl⟩
abbrev main_v73 : Ref sig .tc := ⟨.hbm, 601, rfl⟩
abbrev main_v74 : Ref sig .tc := ⟨.hbm, 602, rfl⟩
abbrev main_v75 : Ref sig .tc := ⟨.hbm, 603, rfl⟩
abbrev main_v76 : Ref sig .tc := ⟨.hbm, 604, rfl⟩
abbrev main_call5_v0 : Ref sig .tc := ⟨.hbm, 605, rfl⟩
abbrev main_call5_cst : Ref sig .tc := ⟨.hbm, 606, rfl⟩
abbrev main_call5_c : Ref sig .tc := ⟨.hbm, 607, rfl⟩
abbrev main_call5_v1_0 : Ref sig .tc := ⟨.hbm, 608, rfl⟩
abbrev main_v77 : Ref sig .tc := ⟨.hbm, 609, rfl⟩
abbrev main_c_20 : Ref sig .tc := ⟨.hbm, 610, rfl⟩
abbrev main_v78 : Ref sig .tc := ⟨.hbm, 611, rfl⟩
abbrev main_v79 : Ref sig .tc := ⟨.hbm, 612, rfl⟩
abbrev main_c_21 : Ref sig .tc := ⟨.hbm, 613, rfl⟩
abbrev main_v80 : Ref sig .tc := ⟨.hbm, 614, rfl⟩
abbrev main_v81 : Ref sig .tc := ⟨.hbm, 615, rfl⟩
abbrev main_v82 : Ref sig .tc := ⟨.hbm, 616, rfl⟩
abbrev main_c_22 : Ref sig .tc := ⟨.hbm, 617, rfl⟩
abbrev main_v83 : Ref sig .tc := ⟨.hbm, 618, rfl⟩
abbrev main_v84 : Ref sig .tc := ⟨.hbm, 619, rfl⟩
abbrev main_c_23 : Ref sig .tc := ⟨.hbm, 620, rfl⟩
abbrev main_v85 : Ref sig .tc := ⟨.hbm, 621, rfl⟩
abbrev main_v86 : Ref sig .tc := ⟨.hbm, 622, rfl⟩
abbrev main_v87 : Ref sig .tc := ⟨.hbm, 623, rfl⟩
abbrev main_v88 : Ref sig .tc := ⟨.hbm, 624, rfl⟩
abbrev main_v89 : Ref sig .tc := ⟨.hbm, 625, rfl⟩
abbrev main_v90 : Ref sig .tc := ⟨.hbm, 626, rfl⟩
abbrev main_v91 : Ref sig .tc := ⟨.hbm, 627, rfl⟩
abbrev main_c_24 : Ref sig .tc := ⟨.hbm, 628, rfl⟩
abbrev main_v92 : Ref sig .tc := ⟨.hbm, 629, rfl⟩
abbrev main_v93 : Ref sig .tc := ⟨.hbm, 630, rfl⟩
abbrev main_c_25 : Ref sig .tc := ⟨.hbm, 631, rfl⟩
abbrev main_v94 : Ref sig .tc := ⟨.hbm, 632, rfl⟩
abbrev main_v95 : Ref sig .tc := ⟨.hbm, 633, rfl⟩
abbrev main_v96 : Ref sig .tc := ⟨.hbm, 634, rfl⟩
abbrev main_c_26 : Ref sig .tc := ⟨.hbm, 635, rfl⟩
abbrev main_v97 : Ref sig .tc := ⟨.hbm, 636, rfl⟩
abbrev main_v98 : Ref sig .tc := ⟨.hbm, 637, rfl⟩
abbrev main_c_27 : Ref sig .tc := ⟨.hbm, 638, rfl⟩
abbrev main_v99 : Ref sig .tc := ⟨.hbm, 639, rfl⟩
abbrev main_v100 : Ref sig .tc := ⟨.hbm, 640, rfl⟩
abbrev main_v101 : Ref sig .tc := ⟨.hbm, 641, rfl⟩
abbrev main_v102 : Ref sig .tc := ⟨.hbm, 642, rfl⟩
abbrev main_v103 : Ref sig .tc := ⟨.hbm, 643, rfl⟩
abbrev main_v104 : Ref sig .tc := ⟨.hbm, 644, rfl⟩
abbrev main_v105 : Ref sig .tc := ⟨.hbm, 645, rfl⟩
abbrev main_cst_28 : Ref sig .tc := ⟨.hbm, 646, rfl⟩
abbrev main_v106 : Ref sig .tc := ⟨.hbm, 647, rfl⟩
abbrev main_v107 : Ref sig .tc := ⟨.hbm, 648, rfl⟩
abbrev main_v108 : Ref sig .tc := ⟨.hbm, 649, rfl⟩
abbrev main_call6_cst : Ref sig .tc := ⟨.hbm, 650, rfl⟩
abbrev main_call6_v0 : Ref sig .tc := ⟨.hbm, 651, rfl⟩
abbrev main_v109 : Ref sig .tc := ⟨.hbm, 652, rfl⟩
abbrev main_cst_29 : Ref sig .tc := ⟨.hbm, 653, rfl⟩
abbrev main_v110 : Ref sig .tc := ⟨.hbm, 654, rfl⟩
abbrev main_v111 : Ref sig .tc := ⟨.hbm, 655, rfl⟩
abbrev main_v112 : Ref sig .tc := ⟨.hbm, 656, rfl⟩
abbrev main_v113 : Ref sig .tc := ⟨.hbm, 657, rfl⟩
abbrev main_c_30 : Ref sig .tc := ⟨.hbm, 658, rfl⟩
abbrev main_v114 : Ref sig .tc := ⟨.hbm, 659, rfl⟩
abbrev main_v115 : Ref sig .tc := ⟨.hbm, 660, rfl⟩
abbrev main_v116 : Ref sig .tc := ⟨.hbm, 661, rfl⟩
abbrev main_v117 : Ref sig .tc := ⟨.hbm, 662, rfl⟩
abbrev main_v118 : Ref sig .tc := ⟨.hbm, 663, rfl⟩
abbrev main_v119 : Ref sig .tc := ⟨.hbm, 664, rfl⟩
abbrev main_cst_31 : Ref sig .tc := ⟨.hbm, 665, rfl⟩
abbrev main_v120 : Ref sig .tc := ⟨.hbm, 666, rfl⟩
abbrev main_v121 : Ref sig .tc := ⟨.hbm, 667, rfl⟩
abbrev main_cst_32 : Ref sig .tc := ⟨.hbm, 668, rfl⟩
abbrev main_v122 : Ref sig .tc := ⟨.hbm, 669, rfl⟩
abbrev main_v123 : Ref sig .tc := ⟨.hbm, 670, rfl⟩
abbrev main_v124 : Ref sig .tc := ⟨.hbm, 671, rfl⟩
abbrev main_cst_33 : Ref sig .tc := ⟨.hbm, 672, rfl⟩
abbrev main_v125 : Ref sig .tc := ⟨.hbm, 673, rfl⟩
abbrev main_v126 : Ref sig .tc := ⟨.hbm, 674, rfl⟩
abbrev main_v127 : Ref sig .tc := ⟨.hbm, 675, rfl⟩
abbrev main_cst_34 : Ref sig .tc := ⟨.hbm, 676, rfl⟩
abbrev main_v128 : Ref sig .tc := ⟨.hbm, 677, rfl⟩
abbrev main_v129 : Ref sig .tc := ⟨.hbm, 678, rfl⟩
abbrev main_v130 : Ref sig .tc := ⟨.hbm, 679, rfl⟩
abbrev main_cst_35 : Ref sig .tc := ⟨.hbm, 680, rfl⟩
abbrev main_v131 : Ref sig .tc := ⟨.hbm, 681, rfl⟩
abbrev main_v132 : Ref sig .tc := ⟨.hbm, 682, rfl⟩
abbrev main_cst_36 : Ref sig .tc := ⟨.hbm, 683, rfl⟩
abbrev main_v133 : Ref sig .tc := ⟨.hbm, 684, rfl⟩
abbrev main_v134 : Ref sig .tc := ⟨.hbm, 685, rfl⟩
abbrev main_v135 : Ref sig .tc := ⟨.hbm, 686, rfl⟩
abbrev main_cst_37 : Ref sig .tc := ⟨.hbm, 687, rfl⟩
abbrev main_v136 : Ref sig .tc := ⟨.hbm, 688, rfl⟩
abbrev main_v137 : Ref sig .tc := ⟨.hbm, 689, rfl⟩
abbrev main_v138 : Ref sig .tc := ⟨.hbm, 690, rfl⟩
abbrev main_call7_v0 : Ref sig .tc := ⟨.hbm, 691, rfl⟩
abbrev main_call7_cst : Ref sig .tc := ⟨.hbm, 692, rfl⟩
abbrev main_call7_v1 : Ref sig .tc := ⟨.hbm, 693, rfl⟩
abbrev main_v139 : Ref sig .tc := ⟨.hbm, 694, rfl⟩
abbrev main_v140 : Ref sig .tc := ⟨.hbm, 695, rfl⟩
abbrev main_v141 : Ref sig .tc := ⟨.hbm, 696, rfl⟩
abbrev main_v142 : Ref sig .tc := ⟨.hbm, 697, rfl⟩
abbrev main_v143 : Ref sig .tc := ⟨.hbm, 698, rfl⟩
abbrev main_cst_38 : Ref sig .tc := ⟨.hbm, 699, rfl⟩
abbrev main_call8_v0 : Ref sig .tc := ⟨.hbm, 700, rfl⟩
abbrev main_call8_v1 : Ref sig .tc := ⟨.hbm, 701, rfl⟩
abbrev main_v144 : Ref sig .tc := ⟨.hbm, 702, rfl⟩
abbrev main_cst_39 : Ref sig .tc := ⟨.hbm, 703, rfl⟩
abbrev main_v145 : Ref sig .tc := ⟨.hbm, 704, rfl⟩
abbrev main_v146 : Ref sig .tc := ⟨.hbm, 705, rfl⟩
abbrev main_v147 : Ref sig .tc := ⟨.hbm, 706, rfl⟩
abbrev main_v148 : Ref sig .tc := ⟨.hbm, 707, rfl⟩
abbrev main_v149 : Ref sig .tc := ⟨.hbm, 708, rfl⟩
abbrev main_cst_40 : Ref sig .tc := ⟨.hbm, 709, rfl⟩
abbrev main_v150 : Ref sig .tc := ⟨.hbm, 710, rfl⟩
abbrev main_v151 : Ref sig .tc := ⟨.hbm, 711, rfl⟩
abbrev main_v152 : Ref sig .tc := ⟨.hbm, 712, rfl⟩
abbrev main_v153 : Ref sig .tc := ⟨.hbm, 713, rfl⟩
abbrev main_v154 : Ref sig .tc := ⟨.hbm, 714, rfl⟩
abbrev main_cst_41 : Ref sig .tc := ⟨.hbm, 715, rfl⟩
abbrev main_v155 : Ref sig .tc := ⟨.hbm, 716, rfl⟩
abbrev main_v156 : Ref sig .tc := ⟨.hbm, 717, rfl⟩
abbrev main_cst_42 : Ref sig .tc := ⟨.hbm, 718, rfl⟩
abbrev main_v157 : Ref sig .tc := ⟨.hbm, 719, rfl⟩
abbrev main_v158 : Ref sig .tc := ⟨.hbm, 720, rfl⟩
abbrev main_v159 : Ref sig .tc := ⟨.hbm, 721, rfl⟩
abbrev main_v160 : Ref sig .tc := ⟨.hbm, 722, rfl⟩
abbrev main_c_43 : Ref sig .tc := ⟨.hbm, 723, rfl⟩
abbrev main_v161 : Ref sig .tc := ⟨.hbm, 724, rfl⟩
abbrev main_v162 : Ref sig .tc := ⟨.hbm, 725, rfl⟩
abbrev main_c_44 : Ref sig .tc := ⟨.hbm, 726, rfl⟩
abbrev main_v163 : Ref sig .tc := ⟨.hbm, 727, rfl⟩
abbrev main_v164 : Ref sig .tc := ⟨.hbm, 728, rfl⟩
abbrev main_v165 : Ref sig .tc := ⟨.hbm, 729, rfl⟩
abbrev main_v166 : Ref sig .tc := ⟨.hbm, 730, rfl⟩
abbrev main_v167 : Ref sig .tc := ⟨.hbm, 731, rfl⟩
abbrev main_cst_45 : Ref sig .tc := ⟨.hbm, 732, rfl⟩
abbrev main_call9_v0 : Ref sig .tc := ⟨.hbm, 733, rfl⟩
abbrev main_call9_v1 : Ref sig .tc := ⟨.hbm, 734, rfl⟩
abbrev main_v168 : Ref sig .tc := ⟨.hbm, 735, rfl⟩
abbrev main_v169 : Ref sig .tc := ⟨.hbm, 736, rfl⟩
abbrev main_cst_46 : Ref sig .tc := ⟨.hbm, 737, rfl⟩
abbrev main_cst_47 : Ref sig .tc := ⟨.hbm, 738, rfl⟩
abbrev main_call10_v0 : Ref sig .tc := ⟨.hbm, 739, rfl⟩
abbrev main_call10_v1 : Ref sig .tc := ⟨.hbm, 740, rfl⟩
abbrev main_call10_v2 : Ref sig .tc := ⟨.hbm, 741, rfl⟩
abbrev main_call10_v3 : Ref sig .tc := ⟨.hbm, 742, rfl⟩
abbrev main_call10_v4 : Ref sig .tc := ⟨.hbm, 743, rfl⟩
abbrev main_call10_v5 : Ref sig .tc := ⟨.hbm, 744, rfl⟩
abbrev main_call10_v6 : Ref sig .tc := ⟨.hbm, 745, rfl⟩
abbrev main_call10_v7 : Ref sig .tc := ⟨.hbm, 746, rfl⟩
abbrev main_call10_v8 : Ref sig .tc := ⟨.hbm, 747, rfl⟩
abbrev main_call10_v9 : Ref sig .tc := ⟨.hbm, 748, rfl⟩
abbrev main_call10_c : Ref sig .tc := ⟨.hbm, 749, rfl⟩
abbrev main_call10_v10 : Ref sig .tc := ⟨.hbm, 750, rfl⟩
abbrev main_call10_v11 : Ref sig .tc := ⟨.hbm, 751, rfl⟩
abbrev main_call10_c_0 : Ref sig .tc := ⟨.hbm, 752, rfl⟩
abbrev main_call10_v12 : Ref sig .tc := ⟨.hbm, 753, rfl⟩
abbrev main_call10_v13 : Ref sig .tc := ⟨.hbm, 754, rfl⟩
abbrev main_call10_v14 : Ref sig .tc := ⟨.hbm, 755, rfl⟩
abbrev main_call10_c_1 : Ref sig .tc := ⟨.hbm, 756, rfl⟩
abbrev main_call10_v15 : Ref sig .tc := ⟨.hbm, 757, rfl⟩
abbrev main_call10_v16 : Ref sig .tc := ⟨.hbm, 758, rfl⟩
abbrev main_call10_v17 : Ref sig .tc := ⟨.hbm, 759, rfl⟩
abbrev main_call10_v18 : Ref sig .tc := ⟨.hbm, 760, rfl⟩
abbrev main_call10_call0_v0 : Ref sig .tc := ⟨.hbm, 761, rfl⟩
abbrev main_call10_call0_c : Ref sig .tc := ⟨.hbm, 762, rfl⟩
abbrev main_call10_call0_v1 : Ref sig .tc := ⟨.hbm, 763, rfl⟩
abbrev main_call10_call0_v2 : Ref sig .tc := ⟨.hbm, 764, rfl⟩
abbrev main_call10_call0_v3 : Ref sig .tc := ⟨.hbm, 765, rfl⟩
abbrev main_call10_call0_v4 : Ref sig .tc := ⟨.hbm, 766, rfl⟩
abbrev main_call10_call0_v5 : Ref sig .tc := ⟨.hbm, 767, rfl⟩
abbrev main_call10_call0_v6 : Ref sig .tc := ⟨.hbm, 768, rfl⟩
abbrev main_call10_call0_c_0 : Ref sig .tc := ⟨.hbm, 769, rfl⟩
abbrev main_call10_call0_v7 : Ref sig .tc := ⟨.hbm, 770, rfl⟩
abbrev main_call10_call0_v8 : Ref sig .tc := ⟨.hbm, 771, rfl⟩
abbrev main_call10_call0_c_1 : Ref sig .tc := ⟨.hbm, 772, rfl⟩
abbrev main_call10_call0_v9 : Ref sig .tc := ⟨.hbm, 773, rfl⟩
abbrev main_call10_call0_v10 : Ref sig .tc := ⟨.hbm, 774, rfl⟩
abbrev main_call10_call0_v11 : Ref sig .tc := ⟨.hbm, 775, rfl⟩
abbrev main_call10_call0_v12 : Ref sig .tc := ⟨.hbm, 776, rfl⟩
abbrev main_call10_call0_v13 : Ref sig .tc := ⟨.hbm, 777, rfl⟩
abbrev main_call10_call0_c_2 : Ref sig .tc := ⟨.hbm, 778, rfl⟩
abbrev main_call10_call0_v14 : Ref sig .tc := ⟨.hbm, 779, rfl⟩
abbrev main_call10_call0_v15 : Ref sig .tc := ⟨.hbm, 780, rfl⟩
abbrev main_call10_call0_c_3 : Ref sig .tc := ⟨.hbm, 781, rfl⟩
abbrev main_call10_call0_v16 : Ref sig .tc := ⟨.hbm, 782, rfl⟩
abbrev main_call10_call0_v17 : Ref sig .tc := ⟨.hbm, 783, rfl⟩
abbrev main_call10_call0_v18 : Ref sig .tc := ⟨.hbm, 784, rfl⟩
abbrev main_call10_call0_v19 : Ref sig .tc := ⟨.hbm, 785, rfl⟩
abbrev main_call10_call0_v20 : Ref sig .tc := ⟨.hbm, 786, rfl⟩
abbrev main_call10_call0_c_4 : Ref sig .tc := ⟨.hbm, 787, rfl⟩
abbrev main_call10_call0_v21 : Ref sig .tc := ⟨.hbm, 788, rfl⟩
abbrev main_call10_call0_v22 : Ref sig .tc := ⟨.hbm, 789, rfl⟩
abbrev main_call10_call0_c_5 : Ref sig .tc := ⟨.hbm, 790, rfl⟩
abbrev main_call10_call0_v23 : Ref sig .tc := ⟨.hbm, 791, rfl⟩
abbrev main_call10_call0_v24 : Ref sig .tc := ⟨.hbm, 792, rfl⟩
abbrev main_call10_call0_v25 : Ref sig .tc := ⟨.hbm, 793, rfl⟩
abbrev main_call10_call0_v26 : Ref sig .tc := ⟨.hbm, 794, rfl⟩
abbrev main_call10_call0_v27 : Ref sig .tc := ⟨.hbm, 795, rfl⟩
abbrev main_call10_call0_c_6 : Ref sig .tc := ⟨.hbm, 796, rfl⟩
abbrev main_call10_call0_v28 : Ref sig .tc := ⟨.hbm, 797, rfl⟩
abbrev main_call10_call0_v29 : Ref sig .tc := ⟨.hbm, 798, rfl⟩
abbrev main_call10_call0_c_7 : Ref sig .tc := ⟨.hbm, 799, rfl⟩
abbrev main_call10_call0_v30 : Ref sig .tc := ⟨.hbm, 800, rfl⟩
abbrev main_call10_call0_v31 : Ref sig .tc := ⟨.hbm, 801, rfl⟩
abbrev main_call10_call0_v32 : Ref sig .tc := ⟨.hbm, 802, rfl⟩
abbrev main_call10_call0_v33 : Ref sig .tc := ⟨.hbm, 803, rfl⟩
abbrev main_call10_call0_v34 : Ref sig .tc := ⟨.hbm, 804, rfl⟩
abbrev main_call10_call0_v35 : Ref sig .tc := ⟨.hbm, 805, rfl⟩
abbrev main_call10_call0_v36 : Ref sig .tc := ⟨.hbm, 806, rfl⟩
abbrev main_call10_call0_v37 : Ref sig .tc := ⟨.hbm, 807, rfl⟩
abbrev main_call10_call0_c_8 : Ref sig .tc := ⟨.hbm, 808, rfl⟩
abbrev main_call10_call0_v38 : Ref sig .tc := ⟨.hbm, 809, rfl⟩
abbrev main_call10_call0_v39 : Ref sig .tc := ⟨.hbm, 810, rfl⟩
abbrev main_call10_call0_v40 : Ref sig .tc := ⟨.hbm, 811, rfl⟩
abbrev main_call10_call0_c_9 : Ref sig .tc := ⟨.hbm, 812, rfl⟩
abbrev main_call10_call0_v41 : Ref sig .tc := ⟨.hbm, 813, rfl⟩
abbrev main_call10_call0_v42 : Ref sig .tc := ⟨.hbm, 814, rfl⟩
abbrev main_call10_call0_c_10 : Ref sig .tc := ⟨.hbm, 815, rfl⟩
abbrev main_call10_call0_v43 : Ref sig .tc := ⟨.hbm, 816, rfl⟩
abbrev main_call10_call0_v44 : Ref sig .tc := ⟨.hbm, 817, rfl⟩
abbrev main_call10_call0_v45 : Ref sig .tc := ⟨.hbm, 818, rfl⟩
abbrev main_call10_call0_v46 : Ref sig .tc := ⟨.hbm, 819, rfl⟩
abbrev main_call10_call0_v47 : Ref sig .tc := ⟨.hbm, 820, rfl⟩
abbrev main_call10_call0_c_11 : Ref sig .tc := ⟨.hbm, 821, rfl⟩
abbrev main_call10_call0_v48 : Ref sig .tc := ⟨.hbm, 822, rfl⟩
abbrev main_call10_call0_v49 : Ref sig .tc := ⟨.hbm, 823, rfl⟩
abbrev main_call10_call0_c_12 : Ref sig .tc := ⟨.hbm, 824, rfl⟩
abbrev main_call10_call0_v50 : Ref sig .tc := ⟨.hbm, 825, rfl⟩
abbrev main_call10_call0_v51 : Ref sig .tc := ⟨.hbm, 826, rfl⟩
abbrev main_call10_call0_v52 : Ref sig .tc := ⟨.hbm, 827, rfl⟩
abbrev main_call10_call0_v53 : Ref sig .tc := ⟨.hbm, 828, rfl⟩
abbrev main_call10_call0_v54 : Ref sig .tc := ⟨.hbm, 829, rfl⟩
abbrev main_call10_call0_c_13 : Ref sig .tc := ⟨.hbm, 830, rfl⟩
abbrev main_call10_call0_v55 : Ref sig .tc := ⟨.hbm, 831, rfl⟩
abbrev main_call10_call0_v56 : Ref sig .tc := ⟨.hbm, 832, rfl⟩
abbrev main_call10_call0_c_14 : Ref sig .tc := ⟨.hbm, 833, rfl⟩
abbrev main_call10_call0_v57 : Ref sig .tc := ⟨.hbm, 834, rfl⟩
abbrev main_call10_call0_v58 : Ref sig .tc := ⟨.hbm, 835, rfl⟩
abbrev main_call10_call0_v59 : Ref sig .tc := ⟨.hbm, 836, rfl⟩
abbrev main_call10_call0_v60 : Ref sig .tc := ⟨.hbm, 837, rfl⟩
abbrev main_call10_call0_v61 : Ref sig .tc := ⟨.hbm, 838, rfl⟩
abbrev main_call10_call0_c_15 : Ref sig .tc := ⟨.hbm, 839, rfl⟩
abbrev main_call10_call0_v62 : Ref sig .tc := ⟨.hbm, 840, rfl⟩
abbrev main_call10_call0_v63 : Ref sig .tc := ⟨.hbm, 841, rfl⟩
abbrev main_call10_call0_c_16 : Ref sig .tc := ⟨.hbm, 842, rfl⟩
abbrev main_call10_call0_v64 : Ref sig .tc := ⟨.hbm, 843, rfl⟩
abbrev main_call10_call0_v65 : Ref sig .tc := ⟨.hbm, 844, rfl⟩
abbrev main_call10_call0_v66 : Ref sig .tc := ⟨.hbm, 845, rfl⟩
abbrev main_call10_call0_v67 : Ref sig .tc := ⟨.hbm, 846, rfl⟩
abbrev main_call10_call0_v68 : Ref sig .tc := ⟨.hbm, 847, rfl⟩
abbrev main_call10_call0_v69 : Ref sig .tc := ⟨.hbm, 848, rfl⟩
abbrev main_call10_call0_v70 : Ref sig .tc := ⟨.hbm, 849, rfl⟩
abbrev main_call10_call0_v71 : Ref sig .tc := ⟨.hbm, 850, rfl⟩
abbrev main_call10_call0_c_17 : Ref sig .tc := ⟨.hbm, 851, rfl⟩
abbrev main_call10_call0_v72 : Ref sig .tc := ⟨.hbm, 852, rfl⟩
abbrev main_call10_call0_v73 : Ref sig .tc := ⟨.hbm, 853, rfl⟩
abbrev main_call10_call0_v74 : Ref sig .tc := ⟨.hbm, 854, rfl⟩
abbrev main_call10_call0_c_18 : Ref sig .tc := ⟨.hbm, 855, rfl⟩
abbrev main_call10_call0_v75 : Ref sig .tc := ⟨.hbm, 856, rfl⟩
abbrev main_call10_call0_v76 : Ref sig .tc := ⟨.hbm, 857, rfl⟩
abbrev main_call10_call0_c_19 : Ref sig .tc := ⟨.hbm, 858, rfl⟩
abbrev main_call10_call0_v77 : Ref sig .tc := ⟨.hbm, 859, rfl⟩
abbrev main_call10_call0_v78 : Ref sig .tc := ⟨.hbm, 860, rfl⟩
abbrev main_call10_call0_v79 : Ref sig .tc := ⟨.hbm, 861, rfl⟩
abbrev main_call10_call0_v80 : Ref sig .tc := ⟨.hbm, 862, rfl⟩
abbrev main_call10_call0_v81 : Ref sig .tc := ⟨.hbm, 863, rfl⟩
abbrev main_call10_call0_c_20 : Ref sig .tc := ⟨.hbm, 864, rfl⟩
abbrev main_call10_call0_v82 : Ref sig .tc := ⟨.hbm, 865, rfl⟩
abbrev main_call10_call0_v83 : Ref sig .tc := ⟨.hbm, 866, rfl⟩
abbrev main_call10_call0_c_21 : Ref sig .tc := ⟨.hbm, 867, rfl⟩
abbrev main_call10_call0_v84 : Ref sig .tc := ⟨.hbm, 868, rfl⟩
abbrev main_call10_call0_v85 : Ref sig .tc := ⟨.hbm, 869, rfl⟩
abbrev main_call10_call0_v86 : Ref sig .tc := ⟨.hbm, 870, rfl⟩
abbrev main_call10_call0_v87 : Ref sig .tc := ⟨.hbm, 871, rfl⟩
abbrev main_call10_call0_v88 : Ref sig .tc := ⟨.hbm, 872, rfl⟩
abbrev main_call10_call0_c_22 : Ref sig .tc := ⟨.hbm, 873, rfl⟩
abbrev main_call10_call0_v89 : Ref sig .tc := ⟨.hbm, 874, rfl⟩
abbrev main_call10_call0_v90 : Ref sig .tc := ⟨.hbm, 875, rfl⟩
abbrev main_call10_call0_c_23 : Ref sig .tc := ⟨.hbm, 876, rfl⟩
abbrev main_call10_call0_v91 : Ref sig .tc := ⟨.hbm, 877, rfl⟩
abbrev main_call10_call0_v92 : Ref sig .tc := ⟨.hbm, 878, rfl⟩
abbrev main_call10_call0_v93 : Ref sig .tc := ⟨.hbm, 879, rfl⟩
abbrev main_call10_call0_v94 : Ref sig .tc := ⟨.hbm, 880, rfl⟩
abbrev main_call10_call0_v95 : Ref sig .tc := ⟨.hbm, 881, rfl⟩
abbrev main_call10_call0_c_24 : Ref sig .tc := ⟨.hbm, 882, rfl⟩
abbrev main_call10_call0_v96 : Ref sig .tc := ⟨.hbm, 883, rfl⟩
abbrev main_call10_call0_v97 : Ref sig .tc := ⟨.hbm, 884, rfl⟩
abbrev main_call10_call0_c_25 : Ref sig .tc := ⟨.hbm, 885, rfl⟩
abbrev main_call10_call0_v98 : Ref sig .tc := ⟨.hbm, 886, rfl⟩
abbrev main_call10_call0_v99 : Ref sig .tc := ⟨.hbm, 887, rfl⟩
abbrev main_call10_call0_v100 : Ref sig .tc := ⟨.hbm, 888, rfl⟩
abbrev main_call10_call0_v101 : Ref sig .tc := ⟨.hbm, 889, rfl⟩
abbrev main_call10_call0_v102 : Ref sig .tc := ⟨.hbm, 890, rfl⟩
abbrev main_call10_call0_v103 : Ref sig .tc := ⟨.hbm, 891, rfl⟩
abbrev main_call10_call0_v104 : Ref sig .tc := ⟨.hbm, 892, rfl⟩
abbrev main_call10_call0_v105 : Ref sig .tc := ⟨.hbm, 893, rfl⟩
abbrev main_call10_call0_c_26 : Ref sig .tc := ⟨.hbm, 894, rfl⟩
abbrev main_call10_call0_v106 : Ref sig .tc := ⟨.hbm, 895, rfl⟩
abbrev main_call10_call0_v107 : Ref sig .tc := ⟨.hbm, 896, rfl⟩
abbrev main_call10_call0_v108 : Ref sig .tc := ⟨.hbm, 897, rfl⟩
abbrev main_call10_call0_c_27 : Ref sig .tc := ⟨.hbm, 898, rfl⟩
abbrev main_call10_call0_v109 : Ref sig .tc := ⟨.hbm, 899, rfl⟩
abbrev main_call10_call0_v110 : Ref sig .tc := ⟨.hbm, 900, rfl⟩
abbrev main_call10_call0_c_28 : Ref sig .tc := ⟨.hbm, 901, rfl⟩
abbrev main_call10_call0_v111 : Ref sig .tc := ⟨.hbm, 902, rfl⟩
abbrev main_call10_call0_v112 : Ref sig .tc := ⟨.hbm, 903, rfl⟩
abbrev main_call10_call0_v113 : Ref sig .tc := ⟨.hbm, 904, rfl⟩
abbrev main_call10_call0_v114 : Ref sig .tc := ⟨.hbm, 905, rfl⟩
abbrev main_call10_call0_v115 : Ref sig .tc := ⟨.hbm, 906, rfl⟩
abbrev main_call10_call0_c_29 : Ref sig .tc := ⟨.hbm, 907, rfl⟩
abbrev main_call10_call0_v116 : Ref sig .tc := ⟨.hbm, 908, rfl⟩
abbrev main_call10_call0_v117 : Ref sig .tc := ⟨.hbm, 909, rfl⟩
abbrev main_call10_call0_c_30 : Ref sig .tc := ⟨.hbm, 910, rfl⟩
abbrev main_call10_call0_v118 : Ref sig .tc := ⟨.hbm, 911, rfl⟩
abbrev main_call10_call0_v119 : Ref sig .tc := ⟨.hbm, 912, rfl⟩
abbrev main_call10_call0_v120 : Ref sig .tc := ⟨.hbm, 913, rfl⟩
abbrev main_call10_call0_v121 : Ref sig .tc := ⟨.hbm, 914, rfl⟩
abbrev main_call10_call0_v122 : Ref sig .tc := ⟨.hbm, 915, rfl⟩
abbrev main_call10_call0_c_31 : Ref sig .tc := ⟨.hbm, 916, rfl⟩
abbrev main_call10_call0_v123 : Ref sig .tc := ⟨.hbm, 917, rfl⟩
abbrev main_call10_call0_v124 : Ref sig .tc := ⟨.hbm, 918, rfl⟩
abbrev main_call10_call0_c_32 : Ref sig .tc := ⟨.hbm, 919, rfl⟩
abbrev main_call10_call0_v125 : Ref sig .tc := ⟨.hbm, 920, rfl⟩
abbrev main_call10_call0_v126 : Ref sig .tc := ⟨.hbm, 921, rfl⟩
abbrev main_call10_call0_v127 : Ref sig .tc := ⟨.hbm, 922, rfl⟩
abbrev main_call10_call0_v128 : Ref sig .tc := ⟨.hbm, 923, rfl⟩
abbrev main_call10_call0_v129 : Ref sig .tc := ⟨.hbm, 924, rfl⟩
abbrev main_call10_call0_c_33 : Ref sig .tc := ⟨.hbm, 925, rfl⟩
abbrev main_call10_call0_v130 : Ref sig .tc := ⟨.hbm, 926, rfl⟩
abbrev main_call10_call0_v131 : Ref sig .tc := ⟨.hbm, 927, rfl⟩
abbrev main_call10_call0_c_34 : Ref sig .tc := ⟨.hbm, 928, rfl⟩
abbrev main_call10_call0_v132 : Ref sig .tc := ⟨.hbm, 929, rfl⟩
abbrev main_call10_call0_v133 : Ref sig .tc := ⟨.hbm, 930, rfl⟩
abbrev main_call10_call0_v134 : Ref sig .tc := ⟨.hbm, 931, rfl⟩
abbrev main_call10_call0_v135 : Ref sig .tc := ⟨.hbm, 932, rfl⟩
abbrev main_call10_call0_v136 : Ref sig .tc := ⟨.hbm, 933, rfl⟩
abbrev main_call10_call0_v137 : Ref sig .tc := ⟨.hbm, 934, rfl⟩
abbrev main_call10_call0_v138 : Ref sig .tc := ⟨.hbm, 935, rfl⟩
abbrev main_call10_call0_v139 : Ref sig .tc := ⟨.hbm, 936, rfl⟩
abbrev main_call10_call0_c_35 : Ref sig .tc := ⟨.hbm, 937, rfl⟩
abbrev main_call10_call0_v140 : Ref sig .tc := ⟨.hbm, 938, rfl⟩
abbrev main_call10_call0_v141 : Ref sig .tc := ⟨.hbm, 939, rfl⟩
abbrev main_call10_call0_v142 : Ref sig .tc := ⟨.hbm, 940, rfl⟩
abbrev main_call10_call0_c_36 : Ref sig .tc := ⟨.hbm, 941, rfl⟩
abbrev main_call10_call0_v143 : Ref sig .tc := ⟨.hbm, 942, rfl⟩
abbrev main_call10_call0_v144 : Ref sig .tc := ⟨.hbm, 943, rfl⟩
abbrev main_call10_call0_c_37 : Ref sig .tc := ⟨.hbm, 944, rfl⟩
abbrev main_call10_call0_v145 : Ref sig .tc := ⟨.hbm, 945, rfl⟩
abbrev main_call10_call0_v146 : Ref sig .tc := ⟨.hbm, 946, rfl⟩
abbrev main_call10_call0_v147 : Ref sig .tc := ⟨.hbm, 947, rfl⟩
abbrev main_call10_call0_v148 : Ref sig .tc := ⟨.hbm, 948, rfl⟩
abbrev main_call10_call0_v149 : Ref sig .tc := ⟨.hbm, 949, rfl⟩
abbrev main_call10_call0_c_38 : Ref sig .tc := ⟨.hbm, 950, rfl⟩
abbrev main_call10_call0_v150 : Ref sig .tc := ⟨.hbm, 951, rfl⟩
abbrev main_call10_call0_v151 : Ref sig .tc := ⟨.hbm, 952, rfl⟩
abbrev main_call10_call0_c_39 : Ref sig .tc := ⟨.hbm, 953, rfl⟩
abbrev main_call10_call0_v152 : Ref sig .tc := ⟨.hbm, 954, rfl⟩
abbrev main_call10_call0_v153 : Ref sig .tc := ⟨.hbm, 955, rfl⟩
abbrev main_call10_call0_v154 : Ref sig .tc := ⟨.hbm, 956, rfl⟩
abbrev main_call10_call0_v155 : Ref sig .tc := ⟨.hbm, 957, rfl⟩
abbrev main_call10_call0_v156 : Ref sig .tc := ⟨.hbm, 958, rfl⟩
abbrev main_call10_call0_c_40 : Ref sig .tc := ⟨.hbm, 959, rfl⟩
abbrev main_call10_call0_v157 : Ref sig .tc := ⟨.hbm, 960, rfl⟩
abbrev main_call10_call0_v158 : Ref sig .tc := ⟨.hbm, 961, rfl⟩
abbrev main_call10_call0_c_41 : Ref sig .tc := ⟨.hbm, 962, rfl⟩
abbrev main_call10_call0_v159 : Ref sig .tc := ⟨.hbm, 963, rfl⟩
abbrev main_call10_call0_v160 : Ref sig .tc := ⟨.hbm, 964, rfl⟩
abbrev main_call10_call0_v161 : Ref sig .tc := ⟨.hbm, 965, rfl⟩
abbrev main_call10_call0_v162 : Ref sig .tc := ⟨.hbm, 966, rfl⟩
abbrev main_call10_call0_v163 : Ref sig .tc := ⟨.hbm, 967, rfl⟩
abbrev main_call10_call0_c_42 : Ref sig .tc := ⟨.hbm, 968, rfl⟩
abbrev main_call10_call0_v164 : Ref sig .tc := ⟨.hbm, 969, rfl⟩
abbrev main_call10_call0_v165 : Ref sig .tc := ⟨.hbm, 970, rfl⟩
abbrev main_call10_call0_c_43 : Ref sig .tc := ⟨.hbm, 971, rfl⟩
abbrev main_call10_call0_v166 : Ref sig .tc := ⟨.hbm, 972, rfl⟩
abbrev main_call10_call0_v167 : Ref sig .tc := ⟨.hbm, 973, rfl⟩
abbrev main_call10_call0_v168 : Ref sig .tc := ⟨.hbm, 974, rfl⟩
abbrev main_call10_call0_v169 : Ref sig .tc := ⟨.hbm, 975, rfl⟩
abbrev main_call10_call0_v170 : Ref sig .tc := ⟨.hbm, 976, rfl⟩
abbrev main_call10_v19_0 : Ref sig .tc := ⟨.hbm, 977, rfl⟩
abbrev main_call10_call0_v172 : Ref sig .tc := ⟨.hbm, 978, rfl⟩
abbrev main_call10_call0_v173 : Ref sig .tc := ⟨.hbm, 979, rfl⟩
abbrev main_call10_call0_c_44 : Ref sig .tc := ⟨.hbm, 980, rfl⟩
abbrev main_call10_call0_v174 : Ref sig .tc := ⟨.hbm, 981, rfl⟩
abbrev main_call10_v19_1 : Ref sig .tc := ⟨.hbm, 982, rfl⟩
abbrev main_call10_v20 : Ref sig .tc := ⟨.hbm, 983, rfl⟩
abbrev main_call10_c_2 : Ref sig .tc := ⟨.hbm, 984, rfl⟩
abbrev main_call10_v21 : Ref sig .tc := ⟨.hbm, 985, rfl⟩
abbrev main_call10_v22 : Ref sig .tc := ⟨.hbm, 986, rfl⟩
abbrev main_call10_c_3 : Ref sig .tc := ⟨.hbm, 987, rfl⟩
abbrev main_call10_v23 : Ref sig .tc := ⟨.hbm, 988, rfl⟩
abbrev main_call10_v24 : Ref sig .tc := ⟨.hbm, 989, rfl⟩
abbrev main_call10_v25 : Ref sig .tc := ⟨.hbm, 990, rfl⟩
abbrev main_call10_cst : Ref sig .tc := ⟨.hbm, 991, rfl⟩
abbrev main_call10_v26 : Ref sig .tc := ⟨.hbm, 992, rfl⟩
abbrev main_call10_v27 : Ref sig .tc := ⟨.hbm, 993, rfl⟩
abbrev main_call10_v28 : Ref sig .tc := ⟨.hbm, 994, rfl⟩
abbrev main_call10_v29 : Ref sig .tc := ⟨.hbm, 995, rfl⟩
abbrev main_call10_v30 : Ref sig .tc := ⟨.hbm, 996, rfl⟩
abbrev main_call10_v31 : Ref sig .tc := ⟨.hbm, 997, rfl⟩
abbrev main_call10_v32 : Ref sig .tc := ⟨.hbm, 998, rfl⟩
abbrev main_call10_v33 : Ref sig .tc := ⟨.hbm, 999, rfl⟩
abbrev main_v170 : Ref sig .tc := ⟨.hbm, 1000, rfl⟩
abbrev main_cst_48 : Ref sig .tc := ⟨.hbm, 1001, rfl⟩
abbrev main_v171 : Ref sig .tc := ⟨.hbm, 1002, rfl⟩
abbrev main_v172 : Ref sig .tc := ⟨.hbm, 1003, rfl⟩
abbrev main_v173 : Ref sig .tc := ⟨.hbm, 1004, rfl⟩
abbrev main_v174 : Ref sig .tc := ⟨.hbm, 1005, rfl⟩
abbrev main_v175 : Ref sig .tc := ⟨.hbm, 1006, rfl⟩
abbrev main_v176 : Ref sig .tc := ⟨.hbm, 1007, rfl⟩
abbrev main_call11_v0 : Ref sig .tc := ⟨.hbm, 1008, rfl⟩
abbrev main_call11_cst : Ref sig .tc := ⟨.hbm, 1009, rfl⟩
abbrev main_call11_c : Ref sig .tc := ⟨.hbm, 1010, rfl⟩
abbrev main_call11_v1_0 : Ref sig .tc := ⟨.hbm, 1011, rfl⟩
abbrev main_v177 : Ref sig .tc := ⟨.hbm, 1012, rfl⟩
abbrev main_c_49 : Ref sig .tc := ⟨.hbm, 1013, rfl⟩
abbrev main_v178 : Ref sig .tc := ⟨.hbm, 1014, rfl⟩
abbrev main_v179 : Ref sig .tc := ⟨.hbm, 1015, rfl⟩
abbrev main_c_50 : Ref sig .tc := ⟨.hbm, 1016, rfl⟩
abbrev main_v180 : Ref sig .tc := ⟨.hbm, 1017, rfl⟩
abbrev main_v181 : Ref sig .tc := ⟨.hbm, 1018, rfl⟩
abbrev main_v182 : Ref sig .tc := ⟨.hbm, 1019, rfl⟩
abbrev main_c_51 : Ref sig .tc := ⟨.hbm, 1020, rfl⟩
abbrev main_v183 : Ref sig .tc := ⟨.hbm, 1021, rfl⟩
abbrev main_v184 : Ref sig .tc := ⟨.hbm, 1022, rfl⟩
abbrev main_c_52 : Ref sig .tc := ⟨.hbm, 1023, rfl⟩
abbrev main_v185 : Ref sig .tc := ⟨.hbm, 1024, rfl⟩
abbrev main_v186 : Ref sig .tc := ⟨.hbm, 1025, rfl⟩
abbrev main_v187 : Ref sig .tc := ⟨.hbm, 1026, rfl⟩
abbrev main_v188 : Ref sig .tc := ⟨.hbm, 1027, rfl⟩
abbrev main_v189 : Ref sig .tc := ⟨.hbm, 1028, rfl⟩
abbrev main_v190 : Ref sig .tc := ⟨.hbm, 1029, rfl⟩
abbrev main_v191 : Ref sig .tc := ⟨.hbm, 1030, rfl⟩
abbrev main_c_53 : Ref sig .tc := ⟨.hbm, 1031, rfl⟩
abbrev main_v192 : Ref sig .tc := ⟨.hbm, 1032, rfl⟩
abbrev main_v193 : Ref sig .tc := ⟨.hbm, 1033, rfl⟩
abbrev main_c_54 : Ref sig .tc := ⟨.hbm, 1034, rfl⟩
abbrev main_v194 : Ref sig .tc := ⟨.hbm, 1035, rfl⟩
abbrev main_v195 : Ref sig .tc := ⟨.hbm, 1036, rfl⟩
abbrev main_v196 : Ref sig .tc := ⟨.hbm, 1037, rfl⟩
abbrev main_c_55 : Ref sig .tc := ⟨.hbm, 1038, rfl⟩
abbrev main_v197 : Ref sig .tc := ⟨.hbm, 1039, rfl⟩
abbrev main_v198 : Ref sig .tc := ⟨.hbm, 1040, rfl⟩
abbrev main_c_56 : Ref sig .tc := ⟨.hbm, 1041, rfl⟩
abbrev main_v199 : Ref sig .tc := ⟨.hbm, 1042, rfl⟩
abbrev main_v200 : Ref sig .tc := ⟨.hbm, 1043, rfl⟩
abbrev main_v201 : Ref sig .tc := ⟨.hbm, 1044, rfl⟩
abbrev main_v202 : Ref sig .tc := ⟨.hbm, 1045, rfl⟩
abbrev main_v203 : Ref sig .tc := ⟨.hbm, 1046, rfl⟩
abbrev main_v204 : Ref sig .tc := ⟨.hbm, 1047, rfl⟩
abbrev main_v205 : Ref sig .tc := ⟨.hbm, 1048, rfl⟩
abbrev main_cst_57 : Ref sig .tc := ⟨.hbm, 1049, rfl⟩
abbrev main_v206 : Ref sig .tc := ⟨.hbm, 1050, rfl⟩
abbrev main_v207 : Ref sig .tc := ⟨.hbm, 1051, rfl⟩
abbrev main_v208 : Ref sig .tc := ⟨.hbm, 1052, rfl⟩
abbrev main_call12_cst : Ref sig .tc := ⟨.hbm, 1053, rfl⟩
abbrev main_call12_v0 : Ref sig .tc := ⟨.hbm, 1054, rfl⟩
abbrev main_v209 : Ref sig .tc := ⟨.hbm, 1055, rfl⟩
abbrev main_cst_58 : Ref sig .tc := ⟨.hbm, 1056, rfl⟩
abbrev main_v210 : Ref sig .tc := ⟨.hbm, 1057, rfl⟩
abbrev main_v211 : Ref sig .tc := ⟨.hbm, 1058, rfl⟩
abbrev main_v212 : Ref sig .tc := ⟨.hbm, 1059, rfl⟩

abbrev nD : Nat := 1
abbrev τ : Topo := Topo.v7x

variable {F : FTy → Type} [FloatOps F]
-- ==== Proof.Ssa.lean ====
module

public import Idealize.ShloMosaic.Lib.StableHlo.Run

/-! # Lines of host operations read as equations

A printed line of host operations writes each buffer once, after the buffers it reads. So the contents the line
leaves satisfy one equation per operation, whatever the line started from. `sat_after` proves that; the lemmas after
it state the equation for each form of operation, at a literal reference and at a typed one. -/

@[expose] public section

namespace Cert.Ssa

open Idealize.ShloMosaic Idealize.ShloMosaic.StableHlo Idealize.SL.Sem

noncomputable section

variable {τ : Topo} {sig : RefSig} {Val : EltTy → Type}

/-- A buffer's number in its table. -/
def num (b : DevRef τ sig) : ℕ := b.idx.val

/-- The operation's results depend only on the buffers it does not write. -/
def Indep (op : HloOp τ sig Val) : Prop :=
  ∀ V V' : Valuation τ sig Val, (∀ b ∈ op.bufs, b ∉ op.writes → V b = V' b) → ∀ b ∈ op.writes, op.result V b = op.result V' b

/-- The operation is of the plain kind: independent of what it writes, on TensorCore references, all results determined. -/
def Good (op : HloOp τ sig Val) : Prop := Indep op ∧ op.bufs ⊆ tcRefs τ sig ∧ op.fresh = ∅

/-- Running the operation from `W` again leaves its results as `W` has them. -/
def Settled (W : Valuation τ sig Val) (op : HloOp τ sig Val) : Prop := ∀ b ∈ op.writes, op.result W b = W b

/-- Every operation of the line is settled at `W`. -/
def Sat (W : Valuation τ sig Val) : List (HloOp τ sig Val) → Prop
  | [] => True
  | op :: ops => Settled W op ∧ Sat W ops

/-- Each operation is plain and writes buffers numbered from `n` on, the operations after it only buffers numbered
past all of its, and `m` is past them all. -/
def Fine : ℕ → List (HloOp τ sig Val) → ℕ → Prop
  | n, [], m => n ≤ m
  | n, op :: ops, m => Good op ∧ (∀ b ∈ op.writes, n ≤ num b) ∧ ∃ k, n ≤ k ∧ (∀ b ∈ op.bufs, num b < k) ∧ Fine k ops m

/-- The empty line is fine. -/
theorem fine_nil {n : ℕ} : Fine n ([] : List (HloOp τ sig Val)) n := Nat.le_refl n

/-- Two fine lines, one numbered after the other, make a fine line. -/
theorem Fine.append : ∀ {n m k : ℕ} {l₁ l₂ : List (HloOp τ sig Val)}, Fine n l₁ m → Fine m l₂ k → Fine n (l₁ ++ l₂) k
  | n, m, k, [], [], h, h' => le_trans (b := m) h h'
  | n, m, k, [], op :: l₂, h, h' => ⟨h'.1, fun b hb => le_trans h (h'.2.1 b hb),
      let ⟨r, hr, hb, hf⟩ := h'.2.2; ⟨r, le_trans h hr, hb, hf⟩⟩
  | _, _, _, _ :: _, _, h, h' => ⟨h.1, h.2.1, let ⟨r, hr, hb, hf⟩ := h.2.2; ⟨r, hr, hb, Fine.append hf h'⟩⟩

/-- A fine line touches TensorCore references only. -/
theorem Fine.sub : ∀ {n m : ℕ} {l : List (HloOp τ sig Val)}, Fine n l m → l.Forall fun op => op.bufs ⊆ tcRefs τ sig
  | _, _, [], _ => trivial
  | _, _, [_], h => h.1.2.1
  | _, _, _ :: _ :: _, h => ⟨h.1.2.1, let ⟨_, _, _, hf⟩ := h.2.2; Fine.sub hf⟩

/-- A fine line has no undetermined results. -/
theorem Fine.fresh : ∀ {n m : ℕ} {l : List (HloOp τ sig Val)}, Fine n l m → ∀ op ∈ l, op.fresh = ∅
  | _, _, [], _, _, h => nomatch h
  | _, _, _ :: _, h, op, hm => by
    rcases List.mem_cons.1 hm with rfl | hm
    · exact h.1.2.2
    · obtain ⟨_, _, _, hf⟩ := h.2.2
      exact Fine.fresh hf op hm

/-- Satisfying a line is satisfying its two parts. -/
theorem sat_append {W : Valuation τ sig Val} : ∀ {l₁ l₂ : List (HloOp τ sig Val)}, Sat W (l₁ ++ l₂) → Sat W l₁ ∧ Sat W l₂
  | [], _, h => ⟨trivial, h⟩
  | _ :: _, _, h => ⟨⟨h.1, (sat_append h.2).1⟩, (sat_append h.2).2⟩

/-- A line that writes only from number `n` on keeps every buffer numbered below `n`. -/
theorem Fine.below : ∀ {n m : ℕ} {ops : List (HloOp τ sig Val)}, Fine n ops m → ∀ (V : Valuation τ sig Val)
    (b : DevRef τ sig), num b < n → after ops V b = V b
  | _, _, [], _, _, _, _ => rfl
  | n, m, op :: ops, h, V, b, hb => by
    obtain ⟨_, hw, k, hk, _, hf⟩ := h
    rw [after_cons, Fine.below hf _ b (lt_of_lt_of_le hb hk)]
    exact op.result_of_not_mem V fun hm => absurd (hw b hm) (not_le.2 hb)

/-- What a fine line leaves satisfies every one of its operations. -/
theorem Fine.sat : ∀ {n m : ℕ} {ops : List (HloOp τ sig Val)}, Fine n ops m → ∀ V : Valuation τ sig Val,
    Sat (after ops V) ops
  | _, _, [], _, _ => trivial
  | n, m, op :: ops, h, V => by
    obtain ⟨hg, _, k, _, hb, hf⟩ := h
    have keep : ∀ b ∈ op.bufs, after ops (op.result V) b = op.result V b := fun b hm => Fine.below hf _ b (hb b hm)
    refine ⟨fun b hm => ?_, Fine.sat hf _⟩
    rw [after_cons, keep b (op.writes_sub hm)]
    exact hg.1 _ _ (fun b' hb' hw => by rw [keep b' hb', op.result_of_not_mem V hw]) b hm

/-! ## Literal references -/

section Literal
variable {x y a b c e : Ref sig .tc} {W : Valuation τ sig Val}

/-- A constant depends only on buffers that it does not write. -/
theorem indep_nullary {v : y.ty.Contents Val} {hy} : Indep (nullary (τ := τ) y v hy) := fun V V' _ b hb => by
  obtain rfl := Finset.mem_singleton.1 ((nullary_writes (τ := τ) y v hy) ▸ hb)
  rw [nullary_result', nullary_result']

/-- A one-operand operation depends only on buffers that it does not write. -/
theorem indep_unary {f : x.ty.Contents Val → y.ty.Contents Val} {hx hy} (hxy : x ≠ y) : Indep (unary (τ := τ) x y f hx hy) :=
  fun V V' h b hb => by
  obtain rfl := Finset.mem_singleton.1 ((unary_writes (τ := τ) x y f hx hy) ▸ hb)
  rw [unary_result', unary_result', h _ (by rw [unary_bufs]; simp) (by rw [unary_writes]; simpa using devRef_ne_of_ne hxy)]

/-- A two-operand operation depends only on buffers that it does not write. -/
theorem indep_binary {f : a.ty.Contents Val → b.ty.Contents Val → y.ty.Contents Val} {ha hb hy} (hay : a ≠ y) (hby : b ≠ y) :
    Indep (binary (τ := τ) a b y f ha hb hy) := fun V V' h r hr => by
  obtain rfl := Finset.mem_singleton.1 ((binary_writes (τ := τ) a b y f ha hb hy) ▸ hr)
  rw [binary_result', binary_result', h (Proc.devRef .tc a) (by rw [binary_bufs]; simp) (by rw [binary_writes]; simpa using devRef_ne_of_ne hay),
    h (Proc.devRef .tc b) (by rw [binary_bufs]; simp) (by rw [binary_writes]; simpa using devRef_ne_of_ne hby)]

/-- A three-operand operation depends only on buffers that it does not write. -/
theorem indep_ternary {f : c.ty.Contents Val → a.ty.Contents Val → b.ty.Contents Val → y.ty.Contents Val} {hc ha hb hy}
    (hcy : c ≠ y) (hay : a ≠ y) (hby : b ≠ y) :
    Indep (ternary (τ := τ) c a b y f hc ha hb hy) := fun V V' h r hr => by
  obtain rfl := Finset.mem_singleton.1 ((ternary_writes (τ := τ) (c := c) (a := a) (b := b) (y := y) f hc ha hb hy) ▸ hr)
  rw [ternary_result', ternary_result', h (Proc.devRef .tc c) (by rw [ternary_bufs]; simp) (by rw [ternary_writes]; simpa using devRef_ne_of_ne hcy),
    h (Proc.devRef .tc a) (by rw [ternary_bufs]; simp) (by rw [ternary_writes]; simpa using devRef_ne_of_ne hay),
    h (Proc.devRef .tc b) (by rw [ternary_bufs]; simp) (by rw [ternary_writes]; simpa using devRef_ne_of_ne hby)]

/-- A four-operand operation depends only on buffers that it does not write. -/
theorem indep_quaternary {f : a.ty.Contents Val → b.ty.Contents Val → c.ty.Contents Val → e.ty.Contents Val → y.ty.Contents Val}
    {ha hb hc he hy} (hay : a ≠ y) (hby : b ≠ y) (hcy : c ≠ y) (hey : e ≠ y) :
    Indep (quaternary (τ := τ) a b c e y f ha hb hc he hy) := fun V V' h r hr => by
  obtain rfl := Finset.mem_singleton.1 ((quaternary_writes (τ := τ) (a := a) (b := b) (c := c) (e := e) (y := y) f ha hb hc he hy) ▸ hr)
  have k : ∀ z ∈ [a, b, c, e], z ≠ y → V (Proc.devRef .tc z) = V' (Proc.devRef .tc z) := fun z hz hzy =>
    h _ (by rw [quaternary_bufs]; simp at hz ⊢; rcases hz with rfl | rfl | rfl | rfl <;> simp)
      (by rw [quaternary_writes]; simpa using devRef_ne_of_ne hzy)
  rw [quaternary_result', quaternary_result', k a (by simp) hay, k b (by simp) hby, k c (by simp) hcy, k e (by simp) hey]

/-- A reshape depends only on buffers that it does not write. -/
theorem indep_reshape {he hn hx hy} (hxy : x ≠ y) : Indep (reshape (τ := τ) (Val := Val) x y he hn hx hy) := fun V V' h b hb => by
  obtain rfl := Finset.mem_singleton.1 ((reshape_writes (τ := τ) (Val := Val) x y he hn hx hy) ▸ hb)
  rw [reshape_result', reshape_result', h _ (by rw [reshape_bufs]; simp) (by rw [reshape_writes]; simpa using devRef_ne_of_ne hxy)]

/-- References with distinct numbers are distinct. -/
theorem ne_of_num {x y : Ref sig .tc} (h : num (τ := τ) (Proc.devRef .tc x) < num (τ := τ) (Proc.devRef .tc y)) : x ≠ y :=
  fun e => absurd h (e ▸ lt_irrefl _)

section
variable {n m : ℕ} {ops : List (HloOp τ sig Val)}

/-- A constant with a fine line after it is a fine line. -/
theorem fine_nullary {v : y.ty.Contents Val} {p} (hn : n ≤ num (τ := τ) (Proc.devRef .tc y))
     (h : Fine (num (τ := τ) (Proc.devRef .tc y) + 1) ops m) :
    Fine n (nullary (τ := τ) y v p :: ops) m :=
  ⟨⟨indep_nullary , nullary_bufs_sub .., rfl⟩, by rw [nullary_writes]; simpa using hn, _, le_trans hn (Nat.le_succ _),
    by rw [nullary_bufs]; simp [*], h⟩

/-- A one-operand operation with a fine line after it is a fine line. -/
theorem fine_unary {f : x.ty.Contents Val → y.ty.Contents Val} {p q} (hn : n ≤ num (τ := τ) (Proc.devRef .tc y))
    (hx : num (τ := τ) (Proc.devRef .tc x) < num (τ := τ) (Proc.devRef .tc y)) (h : Fine (num (τ := τ) (Proc.devRef .tc y) + 1) ops m) :
    Fine n (unary (τ := τ) x y f p q :: ops) m :=
  ⟨⟨indep_unary (ne_of_num hx), unary_bufs_sub .., rfl⟩, by rw [unary_writes]; simpa using hn, _, le_trans hn (Nat.le_succ _),
    by rw [unary_bufs]; simp [*]; omega, h⟩

/-- A two-operand operation with a fine line after it is a fine line. -/
theorem fine_binary {f : a.ty.Contents Val → b.ty.Contents Val → y.ty.Contents Val} {p q r} (hn : n ≤ num (τ := τ) (Proc.devRef .tc y))
    (ha : num (τ := τ) (Proc.devRef .tc a) < num (τ := τ) (Proc.devRef .tc y)) (hb : num (τ := τ) (Proc.devRef .tc b) < num (τ := τ) (Proc.devRef .tc y)) (h : Fine (num (τ := τ) (Proc.devRef .tc y) + 1) ops m) :
    Fine n (binary (τ := τ) a b y f p q r :: ops) m :=
  ⟨⟨indep_binary (ne_of_num ha) (ne_of_num hb), binary_bufs_sub .., rfl⟩, by rw [binary_writes]; simpa using hn, _, le_trans hn (Nat.le_succ _),
    by rw [binary_bufs]; simp [*]; omega, h⟩

/-- A three-operand operation with a fine line after it is a fine line. -/
theorem fine_ternary {f : c.ty.Contents Val → a.ty.Contents Val → b.ty.Contents Val → y.ty.Contents Val} {p q r t} (hn : n ≤ num (τ := τ) (Proc.devRef .tc y))
    (hc : num (τ := τ) (Proc.devRef .tc c) < num (τ := τ) (Proc.devRef .tc y)) (ha : num (τ := τ) (Proc.devRef .tc a) < num (τ := τ) (Proc.devRef .tc y)) (hb : num (τ := τ) (Proc.devRef .tc b) < num (τ := τ) (Proc.devRef .tc y)) (h : Fine (num (τ := τ) (Proc.devRef .tc y) + 1) ops m) :
    Fine n (ternary (τ := τ) c a b y f p q r t :: ops) m :=
  ⟨⟨indep_ternary (ne_of_num hc) (ne_of_num ha) (ne_of_num hb), ternary_bufs_sub .., rfl⟩, by rw [ternary_writes]; simpa using hn, _, le_trans hn (Nat.le_succ _),
    by rw [ternary_bufs]; simp [*]; omega, h⟩

/-- A four-operand operation with a fine line after it is a fine line. -/
theorem fine_quaternary {f : a.ty.Contents Val → b.ty.Contents Val → c.ty.Contents Val → e.ty.Contents Val → y.ty.Contents Val} {p q r t u} (hn : n ≤ num (τ := τ) (Proc.devRef .tc y))
    (ha : num (τ := τ) (Proc.devRef .tc a) < num (τ := τ) (Proc.devRef .tc y)) (hb : num (τ := τ) (Proc.devRef .tc b) < num (τ := τ) (Proc.devRef .tc y)) (hc : num (τ := τ) (Proc.devRef .tc c) < num (τ := τ) (Proc.devRef .tc y)) (he : num (τ := τ) (Proc.devRef .tc e) < num (τ := τ) (Proc.devRef .tc y)) (h : Fine (num (τ := τ) (Proc.devRef .tc y) + 1) ops m) :
    Fine n (quaternary (τ := τ) a b c e y f p q r t u :: ops) m :=
  ⟨⟨indep_quaternary (ne_of_num ha) (ne_of_num hb) (ne_of_num hc) (ne_of_num he), quaternary_bufs_sub .., rfl⟩, by rw [quaternary_writes]; simpa using hn, _, le_trans hn (Nat.le_succ _),
    by rw [quaternary_bufs]; simp [*]; omega, h⟩

/-- A reshape with a fine line after it is a fine line. -/
theorem fine_reshape {he hc p q} (hn : n ≤ num (τ := τ) (Proc.devRef .tc y))
    (hx : num (τ := τ) (Proc.devRef .tc x) < num (τ := τ) (Proc.devRef .tc y)) (h : Fine (num (τ := τ) (Proc.devRef .tc y) + 1) ops m) :
    Fine n (reshape (τ := τ) (Val := Val) x y he hc p q :: ops) m :=
  ⟨⟨indep_reshape (ne_of_num hx), reshape_bufs_sub .., rfl⟩, by rw [reshape_writes]; simpa using hn, _, le_trans hn (Nat.le_succ _),
    by rw [reshape_bufs]; simp [*]; omega, h⟩

end

/-- A constant's buffer holds it. -/
theorem eq_nullary {v : y.ty.Contents Val} {hy} (h : Settled W (nullary (τ := τ) y v hy)) : W (Proc.devRef .tc y) = v := by
  have := h (Proc.devRef .tc y) (by rw [nullary_writes]; simp)
  rw [← this, nullary_result']

/-- A one-operand operation's buffer holds its function of the operand's. -/
theorem eq_unary {f : x.ty.Contents Val → y.ty.Contents Val} {hx hy} (h : Settled W (unary (τ := τ) x y f hx hy)) :
    W (Proc.devRef .tc y) = f (W (Proc.devRef .tc x)) := by
  have := h (Proc.devRef .tc y) (by rw [unary_writes]; simp)
  rw [← this, unary_result']

/-- A two-operand operation's buffer holds its function of the operands'. -/
theorem eq_binary {f : a.ty.Contents Val → b.ty.Contents Val → y.ty.Contents Val} {ha hb hy}
    (h : Settled W (binary (τ := τ) a b y f ha hb hy)) :
    W (Proc.devRef .tc y) = f (W (Proc.devRef .tc a)) (W (Proc.devRef .tc b)) := by
  have := h (Proc.devRef .tc y) (by rw [binary_writes]; simp)
  rw [← this, binary_result']

/-- A three-operand operation's buffer holds its function of the operands'. -/
theorem eq_ternary {f : c.ty.Contents Val → a.ty.Contents Val → b.ty.Contents Val → y.ty.Contents Val} {hc ha hb hy}
    (h : Settled W (ternary (τ := τ) c a b y f hc ha hb hy)) :
    W (Proc.devRef .tc y) = f (W (Proc.devRef .tc c)) (W (Proc.devRef .tc a)) (W (Proc.devRef .tc b)) := by
  have := h (Proc.devRef .tc y) (by rw [ternary_writes]; simp)
  rw [← this, ternary_result']

/-- A four-operand operation's buffer holds its function of the operands'. -/
theorem eq_quaternary {f : a.ty.Contents Val → b.ty.Contents Val → c.ty.Contents Val → e.ty.Contents Val → y.ty.Contents Val}
    {ha hb hc he hy} (h : Settled W (quaternary (τ := τ) a b c e y f ha hb hc he hy)) :
    W (Proc.devRef .tc y) = f (W (Proc.devRef .tc a)) (W (Proc.devRef .tc b)) (W (Proc.devRef .tc c)) (W (Proc.devRef .tc e)) := by
  have := h (Proc.devRef .tc y) (by rw [quaternary_writes]; simp)
  rw [← this, quaternary_result']

/-- A reshape's buffer holds its operand's elements in row-major order. -/
theorem eq_reshape {he hn hx hy} (h : Settled W (reshape (τ := τ) (Val := Val) x y he hn hx hy)) :
    W (Proc.devRef .tc y) = fun i => he ▸ shapeCast y.ty.shape (W (Proc.devRef .tc x)) hn i := by
  have := h (Proc.devRef .tc y) (by rw [reshape_writes]; simp)
  rw [← this, reshape_result']

end Literal

/-! ## Typed references -/

/-- The contents of a typed reference's buffer, at the value's type. -/
def get {T : BufTy} (t : TRef sig T) (W : Valuation τ sig Val) : T.Contents Val := t.ofBuf (W (Proc.devRef .tc t.ref))

section Typed
variable {Tx Ty Ta Tb Tc Te : BufTy} {x : TRef sig Tx} {y : TRef sig Ty} {a : TRef sig Ta} {b : TRef sig Tb} {c : TRef sig Tc} {e : TRef sig Te}
  {W : Valuation τ sig Val}

/-- What a settled constant leaves, between typed references. -/
theorem get_nullary {v : Ty.Contents Val} (h : Settled W (TRef.nullary (τ := τ) y v)) : get y W = v := by
  rw [get, eq_nullary h, TRef.ofBuf_toBuf]

/-- What a settled one-operand operation leaves, between typed references. -/
theorem get_unary {f : Tx.Contents Val → Ty.Contents Val} (h : Settled W (TRef.unary (τ := τ) x y f)) :
    get y W = f (get x W) := by
  rw [get, eq_unary h, TRef.ofBuf_toBuf]; rfl

/-- What a settled two-operand operation leaves, between typed references. -/
theorem get_binary {f : Ta.Contents Val → Tb.Contents Val → Ty.Contents Val} (h : Settled W (TRef.binary (τ := τ) a b y f)) :
    get y W = f (get a W) (get b W) := by
  rw [get, eq_binary h, TRef.ofBuf_toBuf]; rfl

/-- What a settled three-operand operation leaves, between typed references. -/
theorem get_ternary {f : Tc.Contents Val → Ta.Contents Val → Tb.Contents Val → Ty.Contents Val}
    (h : Settled W (TRef.ternary (τ := τ) c a b y f)) :
    get y W = f (get c W) (get a W) (get b W) := by
  rw [get, eq_ternary h, TRef.ofBuf_toBuf]; rfl

/-- What a settled four-operand operation leaves, between typed references. -/
theorem get_quaternary {f : Ta.Contents Val → Tb.Contents Val → Tc.Contents Val → Te.Contents Val → Ty.Contents Val}
    (h : Settled W (TRef.quaternary (τ := τ) a b c e y f)) :
    get y W = f (get a W) (get b W) (get c W) (get e W) := by
  rw [get, eq_quaternary h, TRef.ofBuf_toBuf]; rfl

/-- A row-major recast between equal types is the recast between the named ones. -/
theorem reshape_cast {s t : Shape} {e : EltTy} {X Y : BufTy} (hX : X = ⟨s, e⟩) (hY : Y = ⟨t, e⟩) (v : X.Contents Val)
    (he : X.elt = Y.elt) (hn : X.shape.ShapeCasts Y.shape) (hn' : s.ShapeCasts t) :
    cast (congrArg (fun U : BufTy => U.Contents Val) hY) (fun i => he ▸ shapeCast Y.shape v hn i : Y.Contents Val)
      = (shapeCast t (cast (congrArg (fun U : BufTy => U.Contents Val) hX) v : (⟨s, e⟩ : BufTy).Contents Val) hn' :
          (⟨t, e⟩ : BufTy).Contents Val) := by
  subst hX; subst hY; rfl

/-- A reshape between typed references of one element type. -/
theorem get_reshape {s t : Shape} {e : EltTy} {x : TRef sig ⟨s, e⟩} {y : TRef sig ⟨t, e⟩} {hn : s.ShapeCasts t}
    (h : Settled W (TRef.reshape (τ := τ) (Val := Val) x y rfl hn)) : get y W = shapeCast t (get x W) hn := by
  rw [get, eq_reshape h]
  exact reshape_cast x.ty_eq y.ty_eq _ _ _ _

end Typed

/-! ## Building a line from a printed body -/

section Build
variable {nD : ℕ} {Λ : Labels}

/-- The program that ends is the empty line. -/
theorem line_nil : (pure ⟨⟩ : Prog (TpuEff nD τ sig Val Λ .tc) PUnit) = seq [] := rfl

/-- An operation before a line makes a line. -/
theorem line_hlo {op : HloOp τ sig Val} {k : Prog (TpuEff nD τ sig Val Λ .tc) PUnit} {l : List (HloOp τ sig Val)} (h : k = seq l) :
    ((hlo rfl op fun _ => .ret (⟨⟩ : PUnit)) >>= fun _ => k) = seq (op :: l) := by rw [h]; rfl

/-- One operation is a line. -/
theorem line_one {op : HloOp τ sig Val} :
    (hlo rfl op fun _ => .ret (⟨⟩ : PUnit) : Prog (TpuEff nD τ sig Val Λ .tc) PUnit) = seq [op] := by
  simp only [seq]; exact (bind_pure_unit (x := hlo rfl op fun _ => .ret (⟨⟩ : PUnit))).symm

/-- A called function's line before a line makes a line. -/
theorem line_call {p k : Prog (TpuEff nD τ sig Val Λ .tc) PUnit} {l l' : List (HloOp τ sig Val)} (hp : p = seq l) (h : k = seq l') :
    (p >>= fun _ => k) = seq (l ++ l') := by rw [hp, h, seq_append]

end Build

end

end Cert.Ssa
-- ==== Proof.RefLine.lean ====
module

public import proofs.«01_k».proof.Proof.Ssa
public import proofs.«01_k».proof.Proof.Gen.ReferenceIdeal

/-! # The reference's straight line

Each printed body is a sequence of host operations and calls; here each is given its list of operations
(`seq` of it is the body), and @main its whole list. -/

@[expose] public section

set_option maxRecDepth 65536

noncomputable section

namespace Cert.RefLine

open Cert.ReferenceIdeal Cert.ReferenceIdeal.Gen Cert.Ssa
open Idealize.ShloMosaic Idealize.ShloMosaic.TcCoe Idealize.ShloMosaic.StableHlo Idealize.SL.Sem

variable {F : FTy → Type} [FloatOps F]

/-- A list of operations whose sequence is the body. -/
abbrev Line (p : Prog (TpuEff nD τ sig (Elt F) (Pipeline.Sig Λ₀ (Fin 0) fun p => (pcfgs (F := F) p).Adm) .tc) PUnit) :
    Type := { l : List (HloOp τ sig (Elt F)) // p = seq l }

/-- One body after another. -/
def Line.then {p k : Prog (TpuEff nD τ sig (Elt F) (Pipeline.Sig Λ₀ (Fin 0) fun p => (pcfgs (F := F) p).Adm) .tc) PUnit}
    (l : Line (F := F) p) (l' : Line (F := F) k) : Line (F := F) (p >>= fun _ => k) := ⟨l.1 ++ l'.1, line_call l.2 l'.2⟩

/-- Statements of `fn_threefry2x32`, part 0. -/
def tfPair0 (a0 a1 a2 a3) (φ : fn_threefry2x32.Bufs) : Line (F := F) (fn_threefry2x32.body_part0 a0 a1 a2 a3 φ) := by
  apply Subtype.mk
  unfold fn_threefry2x32.body_part0
  repeat (first | exact line_nil | apply line_hlo | exact line_one)

/-- Statements of `fn_threefry2x32`, part 1. -/
def tfPair1 (a0 a1 a2 a3) (φ : fn_threefry2x32.Bufs) : Line (F := F) (fn_threefry2x32.body_part1 a0 a1 a2 a3 φ) := by
  apply Subtype.mk
  unfold fn_threefry2x32.body_part1
  repeat (first | exact line_nil | apply line_hlo | exact line_one)

/-- Statements of `fn_threefry2x32`, part 2. -/
def tfPair2 (a0 a1 a2 a3) (φ : fn_threefry2x32.Bufs) : Line (F := F) (fn_threefry2x32.body_part2 a0 a1 a2 a3 φ) := by
  apply Subtype.mk
  unfold fn_threefry2x32.body_part2
  repeat (first | exact line_nil | apply line_hlo | exact line_one)

/-- Statements of `fn_threefry2x32`, part 3. -/
def tfPair3 (a0 a1 a2 a3) (φ : fn_threefry2x32.Bufs) : Line (F := F) (fn_threefry2x32.body_part3 a0 a1 a2 a3 φ) := by
  apply Subtype.mk
  unfold fn_threefry2x32.body_part3
  repeat (first | exact line_nil | apply line_hlo | exact line_one)

/-- `fn_threefry2x32`'s operations. -/
def tfPair (a0 a1 a2 a3) (φ : fn_threefry2x32.Bufs) : Line (F := F) (fn_threefry2x32.body a0 a1 a2 a3 φ) :=
  (tfPair0 a0 a1 a2 a3 φ).then ((tfPair1 a0 a1 a2 a3 φ).then ((tfPair2 a0 a1 a2 a3 φ).then (tfPair3 a0 a1 a2 a3 φ)))

/-- Statements of `fn_threefry2x32_0`, part 0. -/
def tfGrid0 (a0 a1 a2 a3) (φ : fn_threefry2x32_0.Bufs) : Line (F := F) (fn_threefry2x32_0.body_part0 a0 a1 a2 a3 φ) := by
  apply Subtype.mk
  unfold fn_threefry2x32_0.body_part0
  repeat (first | exact line_nil | apply line_hlo | exact line_one)

/-- Statements of `fn_threefry2x32_0`, part 1. -/
def tfGrid1 (a0 a1 a2 a3) (φ : fn_threefry2x32_0.Bufs) : Line (F := F) (fn_threefry2x32_0.body_part1 a0 a1 a2 a3 φ) := by
  apply Subtype.mk
  unfold fn_threefry2x32_0.body_part1
  repeat (first | exact line_nil | apply line_hlo | exact line_one)

/-- Statements of `fn_threefry2x32_0`, part 2. -/
def tfGrid2 (a0 a1 a2 a3) (φ : fn_threefry2x32_0.Bufs) : Line (F := F) (fn_threefry2x32_0.body_part2 a0 a1 a2 a3 φ) := by
  apply Subtype.mk
  unfold fn_threefry2x32_0.body_part2
  repeat (first | exact line_nil | apply line_hlo | exact line_one)

/-- Statements of `fn_threefry2x32_0`, part 3. -/
def tfGrid3 (a0 a1 a2 a3) (φ : fn_threefry2x32_0.Bufs) : Line (F := F) (fn_threefry2x32_0.body_part3 a0 a1 a2 a3 φ) := by
  apply Subtype.mk
  unfold fn_threefry2x32_0.body_part3
  repeat (first | exact line_nil | apply line_hlo | exact line_one)

/-- `fn_threefry2x32_0`'s operations. -/
def tfGrid (a0 a1 a2 a3) (φ : fn_threefry2x32_0.Bufs) : Line (F := F) (fn_threefry2x32_0.body a0 a1 a2 a3 φ) :=
  (tfGrid0 a0 a1 a2 a3 φ).then ((tfGrid1 a0 a1 a2 a3 φ).then ((tfGrid2 a0 a1 a2 a3 φ).then (tfGrid3 a0 a1 a2 a3 φ)))

/-- `fn_threefry_split`'s operations. -/
def split (a0) (φ : fn_threefry_split.Bufs) : Line (F := F) (fn_threefry_split.body a0 φ) := by
  apply Subtype.mk
  unfold fn_threefry_split.body
  repeat (first | exact line_nil | apply line_hlo | exact line_one | apply line_call (tfPair _ _ _ _ _).2 | exact (tfPair _ _ _ _ _).2)

/-- `fn_isinf`'s operations. -/
def isinf (a0) (φ : fn_isinf.Bufs) : Line (F := F) (fn_isinf.body a0 φ) := by
  apply Subtype.mk
  unfold fn_isinf.body
  repeat (first | exact line_nil | apply line_hlo | exact line_one)

/-- `fn_where`'s operations. -/
def whereL (a0 a1 a2) (φ : fn_where.Bufs) : Line (F := F) (fn_where.body a0 a1 a2 φ) := by
  apply Subtype.mk
  unfold fn_where.body
  repeat (first | exact line_nil | apply line_hlo | exact line_one)

/-- `fn_clip`'s operations. -/
def clip (a0 a1) (φ : fn_clip.Bufs) : Line (F := F) (fn_clip.body a0 a1 φ) := by
  apply Subtype.mk
  unfold fn_clip.body
  repeat (first | exact line_nil | apply line_hlo | exact line_one)

/-- `fn_uniform`'s operations. -/
def uniform (a0 a1 a2) (φ : fn_uniform.Bufs) : Line (F := F) (fn_uniform.body a0 a1 a2 φ) := by
  apply Subtype.mk
  unfold fn_uniform.body
  repeat (first | exact line_nil | apply line_hlo | exact line_one | apply line_call (tfGrid _ _ _ _ _).2 | exact (tfGrid _ _ _ _ _).2)

/-- `fn_argmax`'s operations. -/
def argmax (a0) (φ : fn_argmax.Bufs) : Line (F := F) (fn_argmax.body a0 φ) := by
  apply Subtype.mk
  unfold fn_argmax.body
  repeat (first | exact line_nil | apply line_hlo | exact line_one)

/-- `fn_relu`'s operations. -/
def relu (a0) (φ : fn_relu.Bufs) : Line (F := F) (fn_relu.body a0 φ) := by
  apply Subtype.mk
  unfold fn_relu.body
  repeat (first | exact line_nil | apply line_hlo | exact line_one)

/-- @main's operations, part 0. -/
def main0 (d : Dev nD) : Line (F := F) (main_part0 d) := by
  apply Subtype.mk
  unfold main_part0; beta_reduce
  repeat (first | exact line_nil | apply line_hlo | exact line_one | apply line_call (split _ _).2 | apply line_call (isinf _ _).2 | apply line_call (whereL _ _ _ _).2 | exact (split _ _).2 | exact (isinf _ _).2 | exact (whereL _ _ _ _).2)

/-- @main's operations, part 1. -/
def main1 (d : Dev nD) : Line (F := F) (main_part1 d) := by
  apply Subtype.mk
  unfold main_part1; beta_reduce
  repeat (first | exact line_nil | apply line_hlo | exact line_one | apply line_call (clip _ _ _).2 | apply line_call (uniform _ _ _ _).2 | apply line_call (argmax _ _).2 | exact (clip _ _ _).2 | exact (uniform _ _ _ _).2 | exact (argmax _ _).2)

/-- @main's operations, part 2. -/
def main2 (d : Dev nD) : Line (F := F) (main_part2 d) := by
  apply Subtype.mk
  unfold main_part2; beta_reduce
  repeat (first | exact line_nil | apply line_hlo | exact line_one | apply line_call (relu _ _).2 | apply line_call (isinf _ _).2 | exact (relu _ _).2 | exact (isinf _ _).2)

/-- @main's operations, part 3. -/
def main3 (d : Dev nD) : Line (F := F) (main_part3 d) := by
  apply Subtype.mk
  unfold main_part3; beta_reduce
  repeat (first | exact line_nil | apply line_hlo | exact line_one | apply line_call (whereL _ _ _ _).2 | apply line_call (clip _ _ _).2 | apply line_call (uniform _ _ _ _).2 | apply line_call (argmax _ _).2 | exact (whereL _ _ _ _).2 | exact (clip _ _ _).2 | exact (uniform _ _ _ _).2 | exact (argmax _ _).2)

/-- @main's operations, part 4. -/
def main4 (d : Dev nD) : Line (F := F) (main_part4 d) := by
  apply Subtype.mk
  unfold main_part4; beta_reduce
  repeat (first | exact line_nil | apply line_hlo | exact line_one | apply line_call (relu _ _).2 | exact (relu _ _).2)

/-- @main's operations. -/
def mainL (d : Dev nD) : Line (F := F) (main (F := F) d) :=
  (main0 d).then ((main1 d).then ((main2 d).then ((main3 d).then (main4 d))))

end Cert.RefLine

end
-- ==== Proof.RefRun.lean ====
module

public import proofs.«01_k».proof.Proof.RefLine
public import Idealize.ShloMosaic.Lib.Quiescent
public import Idealize.ShloMosaic.PureOps.Ideal

/-! # The reference's run

@main's list of operations is ordered and plain, so every run ends with contents that satisfy each operation's
equation, the argument unchanged. -/

@[expose] public section

set_option maxRecDepth 65536

noncomputable section

namespace Cert.RefRun

open Cert.ReferenceIdeal Cert.ReferenceIdeal.Gen Cert.Ssa Cert.RefLine
open Idealize.ShloMosaic Idealize.ShloMosaic.TcCoe Idealize.ShloMosaic.StableHlo Idealize.SL.Sem

/-- @main's operations at the ideal floats. -/
abbrev ops : List (HloOp τ sig (Elt Ideal)) := (mainL (F := Ideal) 0).1

/-- One past the number of a buffer. -/
abbrev past (r : Ref sig .tc) : ℕ := num (τ := τ) (Proc.devRef .tc r) + 1

/-- Part 0 of @main is fine. -/
theorem fine0 : Fine (past main_arg0) (main0 (F := Ideal) 0).1 (past main_v46) := by
  dsimp only [main0, tfPair, tfPair0, tfPair1, tfPair2, tfPair3, tfGrid, tfGrid0, tfGrid1, tfGrid2, tfGrid3, split, isinf, whereL, clip, uniform, argmax, relu, Line.then]
  repeat
    first
    | with_reducible exact fine_nil
    | with_reducible refine fine_nullary (by decide) ?_
    | with_reducible refine fine_unary (by decide) (by decide) ?_
    | with_reducible refine fine_binary (by decide) (by decide) (by decide) ?_
    | with_reducible refine fine_ternary (by decide) (by decide) (by decide) (by decide) ?_
    | with_reducible refine fine_reshape (by decide) (by decide) ?_
    | with_reducible refine fine_quaternary (by decide) (by decide) (by decide) (by decide) (by decide) ?_
    | with_reducible refine Fine.append ?_ ?_

/-- Part 1 of @main is fine. -/
theorem fine1 : Fine (past main_v46) (main1 (F := Ideal) 0).1 (past main_v92) := by
  dsimp only [main1, tfPair, tfPair0, tfPair1, tfPair2, tfPair3, tfGrid, tfGrid0, tfGrid1, tfGrid2, tfGrid3, split, isinf, whereL, clip, uniform, argmax, relu, Line.then]
  repeat
    first
    | with_reducible exact fine_nil
    | with_reducible refine fine_nullary (by decide) ?_
    | with_reducible refine fine_unary (by decide) (by decide) ?_
    | with_reducible refine fine_binary (by decide) (by decide) (by decide) ?_
    | with_reducible refine fine_ternary (by decide) (by decide) (by decide) (by decide) ?_
    | with_reducible refine fine_reshape (by decide) (by decide) ?_
    | with_reducible refine fine_quaternary (by decide) (by decide) (by decide) (by decide) (by decide) ?_
    | with_reducible refine Fine.append ?_ ?_

/-- Part 2 of @main is fine. -/
theorem fine2 : Fine (past main_v92) (main2 (F := Ideal) 0).1 (past main_v139) := by
  dsimp only [main2, tfPair, tfPair0, tfPair1, tfPair2, tfPair3, tfGrid, tfGrid0, tfGrid1, tfGrid2, tfGrid3, split, isinf, whereL, clip, uniform, argmax, relu, Line.then]
  repeat
    first
    | with_reducible exact fine_nil
    | with_reducible refine fine_nullary (by decide) ?_
    | with_reducible refine fine_unary (by decide) (by decide) ?_
    | with_reducible refine fine_binary (by decide) (by decide) (by decide) ?_
    | with_reducible refine fine_ternary (by decide) (by decide) (by decide) (by decide) ?_
    | with_reducible refine fine_reshape (by decide) (by decide) ?_
    | with_reducible refine fine_quaternary (by decide) (by decide) (by decide) (by decide) (by decide) ?_
    | with_reducible refine Fine.append ?_ ?_

/-- Part 3 of @main is fine. -/
theorem fine3 : Fine (past main_v139) (main3 (F := Ideal) 0).1 (past main_c_52) := by
  dsimp only [main3, tfPair, tfPair0, tfPair1, tfPair2, tfPair3, tfGrid, tfGrid0, tfGrid1, tfGrid2, tfGrid3, split, isinf, whereL, clip, uniform, argmax, relu, Line.then]
  repeat
    first
    | with_reducible exact fine_nil
    | with_reducible refine fine_nullary (by decide) ?_
    | with_reducible refine fine_unary (by decide) (by decide) ?_
    | with_reducible refine fine_binary (by decide) (by decide) (by decide) ?_
    | with_reducible refine fine_ternary (by decide) (by decide) (by decide) (by decide) ?_
    | with_reducible refine fine_reshape (by decide) (by decide) ?_
    | with_reducible refine fine_quaternary (by decide) (by decide) (by decide) (by decide) (by decide) ?_
    | with_reducible refine Fine.append ?_ ?_

/-- Part 4 of @main is fine. -/
theorem fine4 : Fine (past main_c_52) (main4 (F := Ideal) 0).1 (past main_v212) := by
  dsimp only [main4, tfPair, tfPair0, tfPair1, tfPair2, tfPair3, tfGrid, tfGrid0, tfGrid1, tfGrid2, tfGrid3, split, isinf, whereL, clip, uniform, argmax, relu, Line.then]
  repeat
    first
    | with_reducible exact fine_nil
    | with_reducible refine fine_nullary (by decide) ?_
    | with_reducible refine fine_unary (by decide) (by decide) ?_
    | with_reducible refine fine_binary (by decide) (by decide) (by decide) ?_
    | with_reducible refine fine_ternary (by decide) (by decide) (by decide) (by decide) ?_
    | with_reducible refine fine_reshape (by decide) (by decide) ?_
    | with_reducible refine fine_quaternary (by decide) (by decide) (by decide) (by decide) (by decide) ?_
    | with_reducible refine Fine.append ?_ ?_

/-- @main's line is fine. -/
theorem fine : Fine (past main_arg0) ops (past main_v212) :=
  fine0.append (fine1.append (fine2.append (fine3.append fine4)))

/-- Nothing is scoped on this signature. -/
theorem scopedRefs_eq : (Finset.univ.filter fun b : Ref sig .tc => b.isScoped) = ∅ := by decide +kernel

/-- Nor any semaphore. -/
theorem scopedSems_eq : (Finset.univ.filter fun sm : SemLoc sig => sm.isScoped .tc) = ∅ := by decide +kernel

variable (m : (ℓ : Loc nD τ sig) → Buf (Elt Ideal) ℓ) (ρ : Dev nD → PrngReg)

/-- What the run leaves in the device's buffers. -/
def fin (d : Dev nD) : Valuation τ sig (Elt Ideal) := after ops (launchContents m d)

/-- The contents the run leaves satisfy every operation. -/
theorem fin_sat (d : Dev nD) : Sat (fin m d) ops := fine.sat _

/-- The argument is as launched. -/
theorem fin_arg (d : Dev nD) : fin m d (Proc.devRef .tc main_arg0) = m ((d.tc : Thread nD τ).loc main_arg0) :=
  fine.below _ _ (Nat.lt_succ_self _)

/-- Every run ends with those contents. -/
theorem run : θ_run (defs (F := Ideal)) (onTc (τ := τ) (main (F := Ideal))) ⟨m, fun _ => 0, ρ⟩ fun r =>
    ∀ (d : Dev nD) (b : Ref sig .tc), r.2.mem ((d.tc : Thread nD τ).loc b) = fin m d (Proc.devRef .tc b) :=
  run_seq scopedRefs_eq scopedSems_eq defs main (fun _ => ops) (fun d => (mainL (F := Ideal) d).2)
    (fun _ => fine.sub) m ρ (fun _ => fine.fresh)

/-- Every run ends quiescent with the argument unchanged. -/
theorem frame : θ_run (defs (F := Ideal)) (onTc (τ := τ) (main (F := Ideal))) ⟨m, fun _ => 0, ρ⟩ fun r =>
    (∀ d : Dev nD, r.2.mem ((d.tc : Thread nD τ).loc main_arg0) = m ((d.tc : Thread nD τ).loc main_arg0))
      ∧ r.2.sem = fun _ => 0 :=
  (θ_run _ _ _).mono (fun r h => ⟨fun d => (h d main_arg0).trans (fin_arg m d), sem_eq_zero_of_no_sems (by decide) r.2⟩)
    (run m ρ)

end Cert.RefRun

end
-- ==== Proof.Spec.lean ====
module

public import Idealize.ShloMosaic.PureOps.Ideal
public import Mathlib.Analysis.SpecialFunctions.Log.Basic
public import Mathlib.Analysis.SpecialFunctions.Pow.Real

/-! # The mathematics of the loss

Rows of reals, the first place of a row's maximum, and the two scores the programs maximise: the kernel's log-weight
plus noise, and the reference's logarithm of the clipped normalised weight plus the same noise. The first maximum of
the second is the first maximum of the first. -/

@[expose] public section

noncomputable section

namespace Cert.Spec

/-- `j` is the first place at which `f` is greatest. -/
def IsFirst {n : ℕ} (f : Fin n → ℝ) (j : Fin n) : Prop := (∀ k, f k ≤ f j) ∧ ∀ k, k < j → f k < f j

/-- There is at most one first maximum. -/
theorem IsFirst.unique {n : ℕ} {f : Fin n → ℝ} {j k : Fin n} (hj : IsFirst f j) (hk : IsFirst f k) : j = k := by
  rcases lt_trichotomy j k with h | h | h
  · exact absurd (hk.2 j h) (not_lt.2 (hj.1 k))
  · exact h
  · exact absurd (hj.2 k h) (not_lt.2 (hk.1 j))

/-- There is a first maximum. -/
theorem exists_first (f : Fin 4096 → ℝ) : ∃ j, IsFirst f j := by
  have hne : (Finset.univ.filter fun j : Fin 4096 => ∀ k, f k ≤ f j).Nonempty := by
    obtain ⟨j, hj⟩ := Finite.exists_max f
    exact ⟨j, Finset.mem_filter.2 ⟨Finset.mem_univ _, hj⟩⟩
  refine ⟨_, (Finset.mem_filter.1 (Finset.min'_mem _ hne)).2, fun k hk => ?_⟩
  by_contra hlt
  have hkm : k ∈ Finset.univ.filter fun j : Fin 4096 => ∀ k, f k ≤ f j :=
    Finset.mem_filter.2 ⟨Finset.mem_univ _, fun l =>
      le_trans ((Finset.mem_filter.1 (Finset.min'_mem _ hne)).2 l) (not_lt.1 hlt)⟩
  exact absurd (Finset.min'_le _ k hkm) (not_le.2 hk)

/-- The first place of a row's maximum. -/
def first (f : Fin 4096 → ℝ) : Fin 4096 := Classical.choose (exists_first f)

/-- `first f` is the first maximum of `f`. -/
theorem first_spec (f : Fin 4096 → ℝ) : IsFirst f (first f) := Classical.choose_spec (exists_first f)

/-- A first maximum of `f` is `first f`. -/
theorem first_eq {f : Fin 4096 → ℝ} {j : Fin 4096} (h : IsFirst f j) : first f = j := (first_spec f).unique h

/-- The log-weight at distance one half. -/
def clampW : ℝ := 510 * Real.log 2 - 509 / 2 * Real.log (15 / 16)

/-- The kernel's log-weight of a similarity. -/
def lw (s : ℝ) : ℝ :=
  if 2 - 2 * s ≤ 1 / 4 then clampW
  else -255 * Real.log (2 - 2 * s) - 509 / 2 * Real.log (1 - 1 / 4 * (2 - 2 * s))

/-- The reference's log-weight of a similarity. -/
def dist (s : ℝ) : ℝ := max (Real.sqrt (2 - 2 * s)) (1 / 2)

/-- The reference's log-weight, of the clamped distance. -/
def rlw (s : ℝ) : ℝ := -510 * Real.log (dist s) - 509 / 2 * Real.log (1 - 1 / 4 * (dist s * dist s))

/-- The two spellings of the log-weight agree below 1. -/
theorem rlw_eq {s : ℝ} (h1 : s < 1) : rlw s = lw s := by
  unfold rlw lw dist
  by_cases h : 2 - 2 * s ≤ 1 / 4
  · have : Real.sqrt (2 - 2 * s) ≤ 1 / 2 := by
      rw [Real.sqrt_le_left (by norm_num)]; linarith
    rw [if_pos h, max_eq_right this, clampW, show (1 : ℝ) / 2 = 2⁻¹ by norm_num, Real.log_inv]
    norm_num
  · have ht : (0 : ℝ) ≤ 2 - 2 * s := by linarith
    have : 1 / 2 ≤ Real.sqrt (2 - 2 * s) := Real.le_sqrt_of_sq_le (by norm_num; linarith)
    rw [if_neg h, max_eq_left this, Real.mul_self_sqrt ht, Real.log_sqrt ht]
    ring

/-- The logarithm of 2 is at most 1. -/
theorem log_two_le : Real.log 2 ≤ 1 := by
  have := Real.log_le_sub_one_of_pos (x := 2) (by norm_num); linarith

/-- `e` is at least 2. -/
theorem two_le_exp : (2 : ℝ) ≤ Real.exp 1 := by have := Real.add_one_le_exp (1 : ℝ); linarith

/-- `e` is at most 4. -/
theorem exp_one_le : Real.exp 1 ≤ 4 := by
  have h := Real.add_one_le_exp (-(1 / 2) : ℝ)
  have e : Real.exp 1 * (Real.exp (-(1 / 2)) * Real.exp (-(1 / 2))) = 1 := by
    rw [← Real.exp_add, ← Real.exp_add]; norm_num
  have x : 1 / 4 ≤ Real.exp (-(1 / 2)) * Real.exp (-(1 / 2)) := by nlinarith
  nlinarith [Real.exp_pos 1]

/-- A log-weight is at least minus one half. -/
theorem lw_ge {s : ℝ} (h0 : 0 ≤ s) (h1 : s < 1) : -(1 / 2) ≤ lw s := by
  have l2 := log_two_le
  have l2' : 0 ≤ Real.log 2 := Real.log_nonneg (by norm_num)
  unfold lw
  split_ifs with h
  · have : Real.log (15 / 16) ≤ 0 := Real.log_nonpos (by norm_num) (by norm_num)
    unfold clampW; linarith
  · have ht : (0 : ℝ) < 2 - 2 * s := by linarith
    have hq : (0 : ℝ) < 1 - 1 / 4 * (2 - 2 * s) := by linarith
    have hp : Real.log ((2 - 2 * s) * (1 - 1 / 4 * (2 - 2 * s))) ≤ 0 :=
      Real.log_nonpos (by positivity) (by nlinarith [sq_nonneg (1 - (2 - 2 * s) / 2)])
    rw [Real.log_mul ht.ne' hq.ne'] at hp
    have hl : Real.log (2 - 2 * s) ≤ Real.log 2 := Real.log_le_log ht (by linarith)
    linarith

/-- Distances are positive. -/
theorem dist_pos (s : ℝ) : 0 < dist s := lt_of_lt_of_le (by norm_num) (le_max_right _ _)

/-- Distances are below the cut-off. -/
theorem dist_lt {s : ℝ} (h0 : 0 ≤ s) : dist s < 3 / 2 := by
  unfold dist
  refine max_lt ?_ (by norm_num)
  rw [Real.sqrt_lt' (by norm_num)]; linarith

/-- The argument of the log-weight's second logarithm is positive. -/
theorem dist_sq_lt {s : ℝ} (h0 : 0 ≤ s) : 0 < 1 - 1 / 4 * (dist s * dist s) := by
  have := dist_lt h0; have := dist_pos s; nlinarith

/-- The kernel's score of a row: `big` at the row's own place, the log-weight elsewhere, plus the noise. -/
def score (big : ℝ) (i : Fin 4096) (s g : Fin 4096 → ℝ) (j : Fin 4096) : ℝ := (if i = j then big else lw (s j)) + g j

/-- The reference's log-weights of a row, zero at the row's own place. -/
def rlw0 (i : Fin 4096) (s : Fin 4096 → ℝ) (j : Fin 4096) : ℝ := if i = j then 0 else rlw (s j)

/-- Their exponentials against `M`, none at the row's own place. -/
def rw0 (i : Fin 4096) (s : Fin 4096 → ℝ) (M : ℝ) (j : Fin 4096) : ℝ := if i = j then 0 else Real.exp (rlw0 i s j - M)

/-- The reference's score. -/
def rscore (i : Fin 4096) (s g : Fin 4096 → ℝ) (M ε δ : ℝ) (j : Fin 4096) : ℝ :=
  Real.log (max δ (rw0 i s M j / (∑ k, rw0 i s M k + ε))) + g j

/-- The logarithm of a number up to 1e-29 is at most -45. -/
theorem log_small {δ : ℝ} (h0 : 0 < δ) (h : δ ≤ 1 / 10 ^ 29) : Real.log δ ≤ -45 := by
  rw [Real.log_le_iff_le_exp h0, Real.exp_neg]
  refine h.trans ?_
  rw [one_div]
  refine inv_anti₀ (Real.exp_pos _) ?_
  have : Real.exp 45 = Real.exp 1 ^ 45 := by rw [← Real.exp_nat_mul]; norm_num
  rw [this]
  exact (pow_le_pow_left₀ (Real.exp_pos _).le exp_one_le _).trans (by norm_num)

/-- The logarithm of a number up to 4097 is at most 13. -/
theorem log_4097 {x : ℝ} (h0 : 0 < x) (h : x ≤ 4097) : Real.log x ≤ 13 := by
  rw [Real.log_le_iff_le_exp h0]
  have : Real.exp 13 = Real.exp 1 ^ 13 := by rw [← Real.exp_nat_mul]; norm_num
  rw [this]
  exact h.trans (le_trans (by norm_num) (pow_le_pow_left₀ (by norm_num) two_le_exp 13))

/-- The first maximum of the reference's score is that of the kernel's: a clipped weight is too small for the noise to
make up, and the others' logarithms are the log-weights less one number. -/
theorem first_score {big : ℝ} (hbig : big ≤ -100) {i : Fin 4096} {s g : Fin 4096 → ℝ} {M ε δ : ℝ}
    (hs0 : ∀ j, 0 ≤ s j) (hs1 : ∀ j, s j < 1) (hg0 : ∀ j, -7 ≤ g j) (hg1 : ∀ j, g j ≤ 23)
    (hM : ∀ j, rlw0 i s j ≤ M) (hM' : ∃ j, rlw0 i s j = M) (hε : 0 < ε) (hε' : ε ≤ 1) (hδ : 0 < δ) (hδ' : δ ≤ 1 / 10 ^ 29)
    {k : Fin 4096} (hk : IsFirst (rscore i s g M ε δ) k) : IsFirst (score big i s g) k := by
  have hw0 : ∀ j, 0 ≤ rw0 i s M j := fun j => by unfold rw0; split_ifs; exacts [le_rfl, (Real.exp_pos _).le]
  have hw1 : ∀ j, rw0 i s M j ≤ 1 := fun j => by
    unfold rw0; split_ifs
    · norm_num
    · exact Real.exp_le_one_iff.2 (by linarith [hM j])
  set S := ∑ k, rw0 i s M k with hS
  have hSn : 0 ≤ S := Finset.sum_nonneg fun j _ => hw0 j
  have hSu : S ≤ 4096 := by
    refine (Finset.sum_le_sum fun j _ => hw1 j).trans ?_
    simp
  have hT : 0 < S + ε := by linarith
  have hlT : Real.log (S + ε) ≤ 13 := log_4097 hT (by linarith)
  have hlδ := log_small hδ hδ'
  set c := M + Real.log (S + ε) with hc
  -- off the row's own place the weight's logarithm
  have hoff : ∀ j, i ≠ j → Real.log (max δ (rw0 i s M j / (S + ε))) = max (Real.log δ) (lw (s j) - c) := by
    intro j hj
    have he : rw0 i s M j / (S + ε) = Real.exp (lw (s j) - c) := by
      unfold rw0 rlw0
      rw [if_neg hj, if_neg hj, rlw_eq (hs1 j), hc, ← sub_sub, Real.exp_sub _ (Real.log _), Real.exp_log hT]
    rw [he]
    rcases le_total δ (Real.exp (lw (s j) - c)) with h | h
    · rw [max_eq_right h, Real.log_exp, max_eq_right ((Real.log_le_iff_le_exp hδ).2 h)]
    · rw [max_eq_left h, max_eq_left ((Real.le_log_iff_exp_le hδ).2 h)]
  have hown : Real.log (max δ (rw0 i s M i / (S + ε))) = Real.log δ := by
    unfold rw0; rw [if_pos rfl, zero_div, max_eq_left hδ.le]
  -- some other place has a weight that is not clipped
  obtain ⟨j₀, hj₀, hb⟩ : ∃ j₀, i ≠ j₀ ∧ -(1 / 2) - 13 ≤ lw (s j₀) - c := by
    obtain ⟨j, hj⟩ := hM'
    by_cases hij : i = j
    · obtain ⟨j', hj'⟩ : ∃ j' : Fin 4096, i ≠ j' := by
        by_cases h : i = 0
        · exact ⟨1, by rw [h]; decide⟩
        · exact ⟨0, h⟩
      refine ⟨j', hj', ?_⟩
      have : M = 0 := by rw [← hj, rlw0, if_pos hij]
      have := lw_ge (hs0 j') (hs1 j')
      linarith
    · refine ⟨j, hij, ?_⟩
      have : M = lw (s j) := by rw [← hj, rlw0, if_neg hij, rlw_eq (hs1 j)]
      linarith
  have hge : ∀ j, i ≠ j → lw (s j) - c + g j ≤ rscore i s g M ε δ j := fun j hj => by
    unfold rscore; rw [hoff j hj]; linarith [le_max_right (Real.log δ) (lw (s j) - c)]
  have hkb : -(1 / 2) - 13 - 7 ≤ rscore i s g M ε δ k :=
    le_trans (by linarith [hg0 j₀]) ((hge j₀ hj₀).trans (hk.1 j₀))
  have hki : i ≠ k := by
    rintro rfl
    have : rscore i s g M ε δ i = Real.log δ + g i := by unfold rscore; rw [hown]
    linarith [hg1 i]
  have hkv : rscore i s g M ε δ k = lw (s k) - c + g k := by
    have h := hoff k hki
    rcases le_total (Real.log δ) (lw (s k) - c) with h' | h'
    · rw [max_eq_right h'] at h
      unfold rscore; rw [h]
    · rw [max_eq_left h'] at h
      have : rscore i s g M ε δ k = Real.log δ + g k := by unfold rscore; rw [h]
      linarith [hg1 k]
  have hsk : score big i s g k = lw (s k) + g k := by unfold score; rw [if_neg hki]
  have hsi : score big i s g i < score big i s g k := by
    rw [hsk]; unfold score; rw [if_pos rfl]
    linarith [hg1 i, hg0 k, lw_ge (hs0 k) (hs1 k)]
  have hsj : ∀ j, i ≠ j → score big i s g j = lw (s j) + g j := fun j hj => by unfold score; rw [if_neg hj]
  refine ⟨fun j => ?_, fun j hj => ?_⟩
  · by_cases hij : i = j
    · subst hij; exact hsi.le
    · rw [hsk, hsj j hij]
      have := (hge j hij).trans (hk.1 j)
      linarith
  · by_cases hij : i = j
    · subst hij; exact hsi
    · rw [hsk, hsj j hij]
      have := lt_of_le_of_lt (hge j hij) (hk.2 j hj)
      linarith

/-- Place and half a similarity packed into one number, read back. -/
theorem unpack {n : ℕ} {s : ℝ} (h0 : 0 ≤ s) (h1 : s < 1) :
    2 * ((n + 1 / 2 * s) - (⌊(n : ℝ) + 1 / 2 * s⌋ : ℤ)) = s := by
  have : ⌊(n : ℝ) + 1 / 2 * s⌋ = (n : ℤ) := by
    rw [Int.floor_eq_iff]; push_cast; constructor <;> linarith
  rw [this]; push_cast; ring

/-- The loss of one direction: every anchor's positive margin over the similarity its score picks. -/
def loss (margin big : ℝ) (s g : Fin 4096 → Fin 4096 → ℝ) : ℝ :=
  ∑ i, max (margin + s i (first (score big i (s i) (g i))) - s i i) 0

/-- Uniform noise's Gumbel transform is between -7 and 23. -/
theorem gumbel_bounds {u : ℝ} (h0 : 1 / 2 ^ 126 ≤ u) (h1 : u ≤ 1 - 1 / 2 ^ 23) :
    0 < -Real.log u ∧ -7 ≤ -Real.log (-Real.log u) ∧ -Real.log (-Real.log u) ≤ 23 := by
  have hu : 0 < u := lt_of_lt_of_le (by positivity) h0
  have hl : 1 / 2 ^ 23 ≤ -Real.log u := by
    have := Real.log_le_sub_one_of_pos hu; linarith
  have hp : 0 < -Real.log u := lt_of_lt_of_le (by positivity) hl
  have l2 := log_two_le
  refine ⟨hp, ?_, ?_⟩
  · have h : -Real.log u ≤ 126 := by
      have : Real.log (1 / 2 ^ 126) ≤ Real.log u := Real.log_le_log (by positivity) h0
      rw [one_div, Real.log_inv, Real.log_pow] at this
      push_cast at this; linarith
    have : Real.log (-Real.log u) ≤ 7 := by
      rw [Real.log_le_iff_le_exp hp]
      have e : Real.exp 7 = Real.exp 1 ^ 7 := by rw [← Real.exp_nat_mul]; norm_num
      rw [e]
      exact h.trans (le_trans (by norm_num) (pow_le_pow_left₀ (by norm_num) two_le_exp 7))
    linarith
  · have : Real.log (1 / 2 ^ 23) ≤ Real.log (-Real.log u) := Real.log_le_log (by positivity) hl
    rw [one_div, Real.log_inv, Real.log_pow] at this
    push_cast at this; linarith

end Cert.Spec

end
-- ==== Proof.RefPick.lean ====
module

public import proofs.«01_k».proof.Proof.RefRun
public import proofs.«01_k».proof.Proof.Spec
public import Idealize.ShloMosaic.Lib.Pointwise
public import Idealize.ShloMosaic.PureOps.Reduce
public import Idealize.ShloMosaic.PureOps.Ideal.Laws

/-! # The reference's arg-max and its gathers

The arg-max of a row of reals is the row's first maximum, and a gather at a row and a column reads that entry. -/

@[expose] public section

set_option maxRecDepth 65536
set_option maxHeartbeats 4000000

noncomputable section

namespace Cert.RefPick

open Idealize.ShloMosaic Idealize.ShloMosaic.TcCoe Idealize.ShloMosaic.StableHlo Idealize.SL.Sem
open Cert.ReferenceIdeal Cert.ReferenceIdeal.Gen

local notation "Pair" => (EReal × BitVec 32)

/-- `r` is at least `p`, and of the smaller index where they are equal. -/
def Beats (r p : Pair) : Prop := p.1 < r.1 ∨ (p.1 = r.1 ∧ r.2.toInt ≤ p.2.toInt)

/-- A pair beats itself. -/
theorem Beats.refl (p : Pair) : Beats p p := Or.inr ⟨rfl, le_rfl⟩

/-- Beating is transitive. -/
theorem Beats.trans {a b c : Pair} (h : Beats a b) (h' : Beats b c) : Beats a c := by
  rcases h with h | ⟨h, h1⟩ <;> rcases h' with h' | ⟨h', h1'⟩
  · exact Or.inl (h'.trans h)
  · exact Or.inl (h' ▸ h)
  · exact Or.inl (h ▸ h')
  · exact Or.inr ⟨h'.trans h, h1.trans h1'⟩

/-- The reducer keeps one of its operands, which beats both. -/
theorem reducer_spec (a b : Pair) : let r := reducer_argmax_f32_i32 (F := Ideal) a b
    (r = a ∨ r = b) ∧ Beats r a ∧ Beats r b := by
  obtain ⟨a, i⟩ := a
  obtain ⟨b, j⟩ := b
  have hr : reducer_argmax_f32_i32 (F := Ideal) (a, i) (b, j)
      = (if b < a then a else b, if b < a ∨ (a = b ∧ i.toInt < j.toInt) then i else j) := by
    unfold reducer_argmax_f32_i32
    have hc : ∀ (p : CmpFPredicate) (x y : EReal), FloatOps.cmpf (F := Ideal) (φ := .f32) p x y = Ideal.cmp p x y := fun _ _ _ => rfl
    simp only [hc, Ideal.cmp, Scalar.select, IntOp.ori, IntOp.andi, IntOp.cmpi, BitVec.slt]
    by_cases h1 : b < a <;> by_cases h2 : a = b <;> by_cases h3 : i.toInt < j.toInt <;> simp [h1, h2, h3]
  rw [hr]
  rcases lt_trichotomy b a with h | h | h
  · rw [if_pos h, if_pos (Or.inl h)]
    exact ⟨Or.inl rfl, Beats.refl _, Or.inl h⟩
  · subst h
    rw [if_neg (lt_irrefl _)]
    by_cases h3 : i.toInt < j.toInt
    · rw [if_pos (Or.inr ⟨rfl, h3⟩)]
      exact ⟨Or.inl rfl, Beats.refl _, Or.inr ⟨rfl, h3.le⟩⟩
    · rw [if_neg (by rintro (h | h); exacts [lt_irrefl _ h, h3 h.2])]
      exact ⟨Or.inr rfl, Or.inr ⟨rfl, not_lt.1 h3⟩, Beats.refl _⟩
  · rw [if_neg (not_lt.2 h.le), if_neg (by rintro (h' | h'); exacts [lt_asymm h h', h.ne h'.1])]
    exact ⟨Or.inr rfl, Or.inl h, Beats.refl _⟩

/-- Folding by the reducer gives the start or a member of the list, which beats them all. -/
theorem foldl_spec : ∀ (L : List Pair) (z : Pair), let r := L.foldl (reducer_argmax_f32_i32 (F := Ideal)) z
    (r = z ∨ r ∈ L) ∧ Beats r z ∧ ∀ p ∈ L, Beats r p
  | [], z => ⟨Or.inl rfl, Beats.refl _, fun _ h => nomatch h⟩
  | q :: L, z => by
    obtain ⟨hm, hz, hL⟩ := foldl_spec L (reducer_argmax_f32_i32 (F := Ideal) z q)
    obtain ⟨hs, h1, h2⟩ := reducer_spec z q
    refine ⟨?_, hz.trans h1, fun p hp => ?_⟩
    · rcases hm with hm | hm
      · rcases hs with hs | hs
        · exact Or.inl (hm.trans hs)
        · exact Or.inr (List.mem_cons.2 (Or.inl (hm.trans hs)))
      · exact Or.inr (List.mem_cons_of_mem _ hm)
    · rcases List.mem_cons.1 hp with rfl | hp
      · exact hz.trans h2
      · exact hL p hp

/-- The word of a place, as an integer. -/
theorem toInt_ofNat (k : Fin 4096) : (BitVec.ofNat 32 k.val).toInt = (k.val : ℤ) := by
  have := k.isLt
  rw [BitVec.toInt_eq_toNat_cond, BitVec.toNat_ofNat]
  rw [Nat.mod_eq_of_lt (by omega), if_pos (by omega)]

/-- Dropping the column of an entry leaves its row. -/
theorem drop_ix2 (r k : Fin 4096) : (reducesTo_S4096x4096_S4096_d1).drop (ix2 r k) = ix1 r := by
  funext a
  match a with
  | 0 => rfl

/-- The arg-max of a row of reals. -/
theorem argmax_val {axes : List (Fin S4096x4096.rank)} {x : S4096x4096.Idx → EReal} {y : S4096x4096.Idx → BitVec 32}
    {ix : S_.Idx → EReal} {iy : S_.Idx → BitVec 32} {h : S4096x4096.ReducesTo axes S4096} {hu : 0 < S_.numel} {r : Fin 4096} {f : Fin 4096 → ℝ}
    (hx : ∀ k, x (ix2 r k) = ((f k : ℝ) : EReal)) (hy : ∀ k : Fin 4096, y (ix2 r k) = BitVec.ofNat 32 k.val)
    (hd2 : ∀ a k : Fin 4096, h.drop (ix2 a k) = ix1 a) (hix : ix (Shape.Idx.first hu) = ⊥) :
    (Host.argReduce (F := Ideal) (φ := .f32) reducer_argmax_f32_i32 x y ix iy h hu (ix1 r)).2 = BitVec.ofNat 32 (Spec.first f).val := by
  rw [Ideal.argReduce_eq_reduce2, Host.reduce2_eq_foldl_fiber]
  obtain ⟨hm, -, hL⟩ := foldl_spec (Host.argReduceFiber x y h (ix1 r))
    (ix (Shape.Idx.first hu), iy (Shape.Idx.first hu))
  have hmem : ∀ k : Fin 4096, (((f k : ℝ) : EReal), BitVec.ofNat 32 k.val)
      ∈ Host.argReduceFiber x y h (ix1 r) := fun k => by
    refine List.mem_map.2 ⟨S4096x4096.rowMajor (ix2 r k), List.mem_filter.2 ⟨List.mem_finRange _, ?_⟩, ?_⟩
    · rw [Equiv.symm_apply_apply]; exact decide_eq_true (hd2 r k)
    · rw [Equiv.symm_apply_apply, hx, hy]
  have hmem' : ∀ p ∈ Host.argReduceFiber x y h (ix1 r),
      ∃ k : Fin 4096, p = (((f k : ℝ) : EReal), BitVec.ofNat 32 k.val) := fun p hp => by
    obtain ⟨n, hn, rfl⟩ := List.mem_map.1 hp
    have hd := of_decide_eq_true (List.mem_filter.1 hn).2
    generalize S4096x4096.rowMajor.symm n = i at hd
    obtain ⟨a, b, rfl⟩ : ∃ a b, i = ix2 a b := ⟨i 0, i 1, (ix2_eta i).symm⟩
    rw [hd2] at hd
    obtain rfl : a = r := congrFun hd 0
    exact ⟨b, by rw [hx, hy]⟩
  generalize (Host.argReduceFiber x y h (ix1 r)).foldl
    (reducer_argmax_f32_i32 (F := Ideal)) _ = R at hm hL ⊢
  rcases hm with hm | hm
  · exfalso
    have hb : R.1 = ⊥ := by rw [hm]; exact hix
    rcases hL _ (hmem 0) with h' | ⟨h', -⟩
    · rw [hb] at h'; exact absurd h' not_lt_bot
    · rw [hb] at h'; exact absurd h' (EReal.coe_ne_bot _)
  · obtain ⟨k, rfl⟩ := hmem' R hm
    have hf : Spec.IsFirst f k := by
      refine ⟨fun l => ?_, fun l hl => ?_⟩
      · rcases hL _ (hmem l) with h' | ⟨h', -⟩
        · exact (EReal.coe_lt_coe_iff.1 h').le
        · exact (EReal.coe_eq_coe_iff.1 h').le
      · rcases hL _ (hmem l) with h' | ⟨-, h'⟩
        · exact EReal.coe_lt_coe_iff.1 h'
        · simp only [toInt_ofNat] at h'
          exact absurd hl (not_lt.2 (by exact_mod_cast h'))
    rw [Spec.first_eq hf]

/-- A gather at a row and a column. -/
theorem gather_val {α : Type} (x : S4096x4096.Idx → α) (idx : IVec S4096x2 32) {p a b : Fin 4096}
    (ha : idx (ix2 p 0) = BitVec.ofNat 32 a.val) (hb : idx (ix2 p 1) = BitVec.ofNat 32 b.val) :
    Host.gather gather_S4096x4096_S4096x2_S4096_n_01_n_n_01_1_11 x idx (ix1 p) = x (ix2 a b) := by
  unfold Host.gather
  congr 1
  have hsi : ∀ c : Fin 2, gather_S4096x4096_S4096x2_S4096_n_01_n_n_01_1_11.siIdx (ix1 p) c = ix2 p c := fun c => by
    funext e
    match e with
    | 0 => rfl
    | 1 => rfl
  have e : ∀ k : Fin 4096, min (BitVec.ofNat 32 k.val).toInt.toNat (4096 - 1) = k.val := fun k => by
    rw [toInt_ofNat, Int.toNat_natCast]; have := k.isLt; omega
  funext c
  refine Fin.ext ?_
  match c with
  | 0 =>
    refine Eq.trans ?_ (e a)
    rw [← ha, ← hsi 0]
    rfl
  | 1 =>
    refine Eq.trans ?_ (e b)
    rw [← hb, ← hsi 1]
    rfl

/-- A gather of whole rows. -/
theorem gather_row {α : Type} (x : S4096x4096.Idx → α) (idx : IVec S4096x1 32) {p a q : Fin 4096}
    (ha : idx (ix2 p 0) = BitVec.ofNat 32 a.val) :
    Host.gather gather_S4096x4096_S4096x1_S4096x4096_1_0_n_n_0_1_14096 x idx (ix2 p q) = x (ix2 a q) := by
  unfold Host.gather
  congr 1
  have hsi : gather_S4096x4096_S4096x1_S4096x4096_1_0_n_n_0_1_14096.siIdx (ix2 p q) (0 : Fin 1) = ix2 p 0 := by
    funext e
    match e with
    | 0 => rfl
    | 1 => rfl
  have e : ∀ k : Fin 4096, min (BitVec.ofNat 32 k.val).toInt.toNat (4096 - 1) = k.val := fun k => by
    rw [toInt_ofNat, Int.toNat_natCast]; have := k.isLt; omega
  funext c
  refine Fin.ext ?_
  match c with
  | 0 =>
    refine Eq.trans ?_ (e a)
    rw [← ha, ← hsi]
    rfl
  | 1 => exact Nat.zero_add _

end Cert.RefPick

end
-- ==== Proof.Noise.lean ====
module

public import Idealize.ShloMosaic.PureOps.Ideal.Laws
public import proofs.«01_k».proof.Proof.Spec

/-! # Noise from a word

The uniform number a word's upper bits make, and its Gumbel transform: a real between -7 and 23. -/

@[expose] public section

noncomputable section

namespace Cert.Noise

open Idealize.ShloMosaic

/-- The bits of a float between one and two made of a word's upper bits. -/
def oneTwo (w : BitVec 32) : BitVec 32 := IntOp.ori (IntOp.shrui .host w 9#32) 1065353216#32

/-- The word of a number in [1, 2), as a natural number. -/
theorem oneTwo_toNat (w : BitVec 32) : (oneTwo w).toNat = 2 ^ 23 * 127 + w.toNat / 512 := by
  have h : w.toNat / 512 < 2 ^ 23 := by have := w.isLt; omega
  rw [Nat.two_pow_add_eq_or_of_lt h, Nat.or_comm]
  change (w >>> (9#32) ||| 1065353216#32).toNat = _
  rw [BitVec.toNat_or]
  change w.toNat >>> 9 ||| _ = _
  rw [Nat.shiftRight_eq_div_pow, show (1065353216#32).toNat = 2 ^ 23 * 127 from rfl]

/-- The uniform number. -/
def frac (w : BitVec 32) : ℝ := ((w.toNat / 512 : ℕ) : ℝ) / 2 ^ 23

/-- The fraction of a word is not negative. -/
theorem frac_nonneg (w : BitVec 32) : 0 ≤ frac w := by unfold frac; positivity

/-- The fraction of a word stays below 1 by a step. -/
theorem frac_le (w : BitVec 32) : frac w ≤ 1 - 1 / 2 ^ 23 := by
  unfold frac
  have h : w.toNat / 512 ≤ 2 ^ 23 - 1 := by have := w.isLt; omega
  have : ((w.toNat / 512 : ℕ) : ℝ) ≤ (2 ^ 23 - 1 : ℝ) := by
    have := (Nat.cast_le (α := ℝ)).2 h
    norm_num at this ⊢; exact this
  rw [div_le_iff₀ (by positivity)]
  linarith

/-- The value of that word is 1 plus the fraction. -/
theorem ofBits_oneTwo (w : BitVec 32) : Ideal.ofBits .f32 (oneTwo w) = ((1 + frac w : ℝ) : EReal) := by
  have hn := oneTwo_toNat w
  have hl : w.toNat / 512 < 2 ^ 23 := by have := w.isLt; omega
  have hex : ((oneTwo w).extractLsb' 23 8).toNat = 127 := by
    rw [BitVec.extractLsb'_toNat, hn, Nat.shiftRight_eq_div_pow]; omega
  have hfr : ((oneTwo w).extractLsb' 0 23).toNat = w.toNat / 512 := by
    rw [BitVec.extractLsb'_toNat, hn, Nat.shiftRight_eq_div_pow]; omega
  have hsg : ((oneTwo w).extractLsb' 31 1 == 1#1) = false := by
    rw [beq_eq_false_iff_ne]
    intro h
    have := congrArg BitVec.toNat h
    rw [BitVec.extractLsb'_toNat, hn, Nat.shiftRight_eq_div_pow] at this
    simp at this
    omega
  change Ideal.ieee 8 23 (oneTwo w) = _
  unfold Ideal.ieee
  simp only [hex, hfr, show (8 + 23 : ℕ) = 31 from rfl, hsg]
  rw [if_neg (by norm_num), if_neg (by norm_num)]
  refine congrArg _ ?_
  unfold frac
  push_cast
  norm_num
  ring

/-- The least positive normal float. -/
def tiny : EReal := Ideal.ofBits .f32 0x00800000#32

/-- The smallest normal number is two to the -126. -/
theorem tiny_eq : tiny = ((1 / 2 ^ 126 : ℝ) : EReal) := by
  unfold tiny
  simp [Ideal.ofBits, Ideal.ieee, -EReal.coe_mul]
  norm_num [zpow_neg]

/-- The uniform number kept off zero. -/
def unif (w : BitVec 32) : ℝ := max (1 / 2 ^ 126) (frac w)

/-- A draw is at least the smallest normal number. -/
theorem unif_ge (w : BitVec 32) : 1 / 2 ^ 126 ≤ unif w := le_max_left _ _

/-- A draw stays below 1 by a step. -/
theorem unif_le (w : BitVec 32) : unif w ≤ 1 - 1 / 2 ^ 23 := max_le (by norm_num) (frac_le w)

/-- The noise of a word. -/
def noise (w : BitVec 32) : ℝ := -Real.log (-Real.log (unif w))

/-- The noise is at least -7. -/
theorem noise_ge (w : BitVec 32) : -7 ≤ noise w := (Spec.gumbel_bounds (unif_ge w) (unif_le w)).2.1
/-- The noise is at most 23. -/
theorem noise_le (w : BitVec 32) : noise w ≤ 23 := (Spec.gumbel_bounds (unif_ge w) (unif_le w)).2.2

/-- The clamped fraction is the draw. -/
theorem max_tiny (w : BitVec 32) : max tiny (Ideal.ofBits .f32 (oneTwo w) - 1) = ((unif w : ℝ) : EReal) := by
  rw [ofBits_oneTwo, tiny_eq, ← EReal.coe_one, ← EReal.coe_sub, ← EReal.coe_strictMono.monotone.map_max, unif]
  congr 2; ring

/-- The ideal logarithm of a positive real is the real one. -/
theorem log_pos {r : ℝ} (h : 0 < r) : Ideal.log (r : EReal) = ((Real.log r : ℝ) : EReal) := by
  change (if r ≤ 0 then (⊥ : EReal) else ((Real.log r : ℝ) : EReal)) = _
  rw [if_neg (not_le.2 h)]

/-- The double logarithm of a draw is the noise. -/
theorem gumbel (w : BitVec 32) : -Ideal.log (-Ideal.log ((unif w : ℝ) : EReal)) = ((noise w : ℝ) : EReal) := by
  have h := unif_ge w
  have h0 : 0 < unif w := lt_of_lt_of_le (by positivity) h
  rw [log_pos h0, ← EReal.coe_neg, log_pos (Spec.gumbel_bounds h (unif_le w)).1, ← EReal.coe_neg, noise]

end Cert.Noise

end
-- ==== Proof.HalfVal.lean ====
module

public import proofs.«01_k».proof.Proof.RefPick
public import proofs.«01_k».proof.Proof.Noise

/-! # One half of the reference, entry by entry

The arrays the reference computes for one orientation of the similarities, read at a row and a column as reals. -/

@[expose] public section

set_option maxRecDepth 65536
set_option maxHeartbeats 400000

noncomputable section

namespace Cert.HalfVal

open Idealize.ShloMosaic Idealize.ShloMosaic.TcCoe Idealize.ShloMosaic.StableHlo Idealize.SL.Sem
open Idealize.ShloMosaic.Pointwise Cert.ReferenceIdeal Cert.ReferenceIdeal.Gen

/-- The square arrays. -/
abbrev Sq := FVec Ideal S4096x4096 .f32

/-- The rows. -/
abbrev Row := FVec Ideal S4096 .f32

/-- A word's value, everywhere on the square. -/
def fill (c : BitVec 32) : Sq := broadcastInDim S4096x4096 ![] bcast_S_S4096x4096 (constant (F := Ideal) S_ .f32 c)

/-- Whether row and column differ. -/
def neq : IVec S4096x4096 1 :=
  noti (cmpi .eq (addi (iotaInDim S4096x4096 32 0) (broadcastInDim S4096x4096 ![] bcast_S_S4096x4096 (constantI S_ 32 0#32))) (iotaInDim S4096x4096 32 1))

/-- The clamped distances. -/
def dist (x : Sq) : Sq := maximumf (Host.sqrt (subf (fill 0x40000000#32) (mulf (fill 0x40000000#32) x))) (fill 0x3F000000#32)

/-- The log weights of distances. -/
def logw (d : Sq) : Sq :=
  subf (mulf (fill 0xC3FF0000#32) (Host.log d))
    (mulf (fill 0x437E8000#32) (Host.log (subf (fill 0x3F800000#32) (mulf (fill 0x3E800000#32) (mulf d d)))))

/-- The log weights, zero on the diagonal. -/
def masked (l : Sq) : Sq :=
  select (ori (cmpf .oeq (Host.absf l) (fill 0x7F800000#32)) (cmpf .une l l)) (fill 0x00000000#32) (mulf l (uitofp .f32 neq))

/-- A column of row values, along the rows. -/
def spread (m : FVec Ideal S4096x1 .f32) : Sq := broadcastInDim S4096x4096 ![0, 1] bcast_S4096x1_S4096x4096_0_1 m

/-- The row maxima. -/
def top (l : Sq) : Row := Host.reduce FloatOps.maximumf l (constant (F := Ideal) S_ .f32 0xFF800000#32) reducesTo_S4096x4096_S4096_d1 h_S_

/-- The weights. -/
def wts (l d : Sq) : Sq :=
  mulf (Host.exp (subf l (spread (broadcastInDim S4096x1 ![0] bcast_S4096_S4096x1_0 (top l)))))
    (uitofp .f32 (andi neq (cmpf .olt d (fill 0x3FD9999A#32))))

/-- The row sums. -/
def sums (w : Sq) : Row := Host.reduceAdd w (constant (F := Ideal) S_ .f32 0x00000000#32) reducesTo_S4096x4096_S4096_d1 h_S_

/-- The weights over their row sums. -/
def nrm (w : Sq) : Sq :=
  Host.divf w (spread (addf (broadcastInDim S4096x1 ![0] bcast_S4096_S4096x1_0 (sums w))
    (broadcastInDim S4096x1 ![] bcast_S_S4096x1 (constant (F := Ideal) S_ .f32 0x1E3CE508#32))))

/-- The row numbers. -/
def rows : IVec S4096 32 := iotaInDim S4096 32 0

/-- Negative indices counted from the end. -/
def wrap (v : IVec S4096 32) : IVec S4096 32 :=
  select (cmpi .slt v (broadcastInDim S4096 ![] bcast_S_S4096 (constantI S_ 32 0#32)))
    (addi v (broadcastInDim S4096 ![] bcast_S_S4096 (constantI S_ 32 4096#32))) v

/-- Indices as a column. -/
def col (v : IVec S4096 32) : IVec S4096x1 32 := broadcastInDim S4096x1 ![0] bcast_S4096_S4096x1_0 (wrap v)

/-- The rows of the probabilities, one for each row. -/
def lines (p : Sq) : Sq := Host.gather gather_S4096x4096_S4096x1_S4096x4096_1_0_n_n_0_1_14096 p (col rows)

/-- The logits: logs of the clipped probabilities. -/
def logits (p : Sq) : Sq := Host.log (maximumf (fill 0x0DA24260#32) p)

/-- The logits with Gumbel noise made of `u`. -/
def noisy (l u : Sq) : Sq := subf l (Host.log (Host.negf (Host.log (maximumf u (fill 0x00800000#32)))))

/-- The entries at rows and columns. -/
def entries (x : Sq) (a b : IVec S4096 32) : Row :=
  Host.gather gather_S4096x4096_S4096x2_S4096_n_01_n_n_01_1_11 x
    (concatenate S4096x2 1 [⟨S4096x1, col a⟩, ⟨S4096x1, col b⟩] concatenates_S4096x1_S4096x1_S4096x2_d1)

/-- The hinge of the picked entries against the diagonal. -/
def hinge (p q : Row) : Row :=
  maximumf (subf (addf (broadcastInDim S4096 ![] bcast_S_S4096 (constant (F := Ideal) S_ .f32 0x3E4CCCCD#32)) q) p)
    (broadcastInDim S4096 ![] bcast_S_S4096 (constant (F := Ideal) S_ .f32 0x00000000#32))

/-- The sum of a row. -/
def total (h : Row) : FVec Ideal S_ .f32 := Host.reduceAdd h (constant (F := Ideal) S_ .f32 0x00000000#32) reducesTo_S4096_S_d0 h_S_

/-! ## Words -/

/-- The real a word denotes. -/
def wd (w : BitVec 32) : ℝ := (Ideal.ofBits .f32 w).toReal

/-- The word of 2. -/
theorem w2 : Ideal.ofBits .f32 0x40000000#32 = ((2 : ℝ) : EReal) := by simp [Ideal.ofBits, Ideal.ieee, -EReal.coe_mul]; norm_num
/-- The word of one half. -/
theorem w05 : Ideal.ofBits .f32 0x3F000000#32 = ((1 / 2 : ℝ) : EReal) := by simp [Ideal.ofBits, Ideal.ieee, -EReal.coe_mul]; norm_num
/-- The word of one quarter. -/
theorem w025 : Ideal.ofBits .f32 0x3E800000#32 = ((1 / 4 : ℝ) : EReal) := by simp [Ideal.ofBits, Ideal.ieee, -EReal.coe_mul]; norm_num
/-- The word of -510. -/
theorem w510 : Ideal.ofBits .f32 0xC3FF0000#32 = ((-510 : ℝ) : EReal) := by simp [Ideal.ofBits, Ideal.ieee, -EReal.coe_mul]; norm_num
/-- The word of 254.5. -/
theorem w254 : Ideal.ofBits .f32 0x437E8000#32 = ((509 / 2 : ℝ) : EReal) := by simp [Ideal.ofBits, Ideal.ieee, -EReal.coe_mul]; norm_num
/-- The word nearest 1.7, the cut-off. -/
theorem w17 : Ideal.ofBits .f32 0x3FD9999A#32 = ((14260634 / 2 ^ 23 : ℝ) : EReal) := by simp [Ideal.ofBits, Ideal.ieee, -EReal.coe_mul]; norm_num
/-- The word of 0. -/
theorem wzero : Ideal.ofBits .f32 0x00000000#32 = ((0 : ℝ) : EReal) := by simp [Ideal.ofBits, Ideal.ieee, -EReal.coe_mul]
/-- The word of 1. -/
theorem wone : Ideal.ofBits .f32 0x3F800000#32 = ((1 : ℝ) : EReal) := by simp [Ideal.ofBits, Ideal.ieee, -EReal.coe_mul]; norm_num
/-- The value of a positive normal word. -/
theorem word_val {w : BitVec 32} {ex fr : ℕ} (h1 : w.extractLsb' 31 1 = 0#1) (h2 : (w.extractLsb' 23 8).toNat = ex)
    (h3 : (w.extractLsb' 0 23).toNat = fr) (h4 : ex ≠ 255) (h5 : ex ≠ 0) :
    Ideal.ofBits .f32 w = ((((8388608 + fr : ℕ) : ℝ) * (2 : ℝ) ^ ((ex : ℤ) - 127 - 23) : ℝ) : EReal) := by
  subst h2 h3
  change (if (w.extractLsb' 23 8).toNat = 255 then _ else if (w.extractLsb' 23 8).toNat = 0 then _ else
    (((if (w.extractLsb' 31 1 == 1#1) = true then (-1 : ℝ) else 1) * ((8388608 + (w.extractLsb' 0 23).toNat : ℕ) : ℝ)
      * (2 : ℝ) ^ (((w.extractLsb' 23 8).toNat : ℤ) - 127 - 23) : ℝ) : EReal)) = _
  rw [if_neg h4, if_neg h5, h1, if_neg (by decide), one_mul]

/-- The word nearest 1e-20, which is added to the sum of the weights. -/
theorem weps : Ideal.ofBits .f32 0x1E3CE508#32 = ((12379400 / 2 ^ 90 : ℝ) : EReal) := by
  rw [word_val (ex := 60) (fr := 3990792) (by decide) (by decide) (by decide) (by decide) (by decide)]
  refine congrArg Real.toEReal ?_
  rw [show ((60 : ℕ) : ℤ) - 127 - 23 = -90 by norm_num, zpow_neg]
  norm_num

/-- The word nearest 1e-30, at which the weights are clipped. -/
theorem wdel : Ideal.ofBits .f32 0x0DA24260#32 = ((10633824 / 2 ^ 123 : ℝ) : EReal) := by
  rw [word_val (ex := 27) (fr := 2245216) (by decide) (by decide) (by decide) (by decide) (by decide)]
  refine congrArg Real.toEReal ?_
  rw [show ((27 : ℕ) : ℤ) - 127 - 23 = -123 by norm_num, zpow_neg]
  norm_num

/-- The word nearest 0.2, the margin. -/
theorem wmargin : Ideal.ofBits .f32 0x3E4CCCCD#32 = ((13421773 / 2 ^ 26 : ℝ) : EReal) := by simp [Ideal.ofBits, Ideal.ieee, -EReal.coe_mul]; norm_num
/-- The word of minus infinity. -/
theorem wninf : Ideal.ofBits .f32 0xFF800000#32 = ⊥ := by simp [Ideal.ofBits, Ideal.ieee]
/-- The word of plus infinity. -/
theorem winf : Ideal.ofBits .f32 0x7F800000#32 = ⊤ := by simp [Ideal.ofBits, Ideal.ieee]

/-! ## Entries -/

variable {i j : Fin 4096}

/-- Every entry of a filled array is its word's value. -/
theorem fill_at (c : BitVec 32) (k : S4096x4096.Idx) : fill c k = Ideal.ofBits .f32 c := rfl

/-- The maximum of two reals, among the extended reals. -/
theorem coe_max (a b : ℝ) : max (a : EReal) (b : EReal) = ((max a b : ℝ) : EReal) := (EReal.coe_strictMono.monotone.map_max).symm

/-- The entries of the clamped distance. -/
theorem dist_at {x : Sq} {s : ℝ} (hx : x (ix2 i j) = (s : EReal)) (h0 : 0 ≤ s) (h1 : s < 1) :
    dist x (ix2 i j) = ((Spec.dist s : ℝ) : EReal) := by
  change max (Ideal.sqrt (Ideal.ofBits .f32 0x40000000#32 - Ideal.ofBits .f32 0x40000000#32 * x (ix2 i j))) (Ideal.ofBits .f32 0x3F000000#32) = _
  rw [hx, w2, w05, ← EReal.coe_mul, ← EReal.coe_sub]
  have : Ideal.sqrt ((2 - 2 * s : ℝ) : EReal) = ((Real.sqrt (2 - 2 * s) : ℝ) : EReal) := by
    change (if (2 - 2 * s : ℝ) < 0 then (⊥ : EReal) else _) = _
    rw [if_neg (by linarith)]
  rw [this, coe_max]
  rfl

/-- The entries of the log-weight. -/
theorem logw_at {d : Sq} {s : ℝ} (hd : d (ix2 i j) = ((Spec.dist s : ℝ) : EReal)) (h0 : 0 ≤ s) (h1 : s < 1) :
    logw d (ix2 i j) = ((Spec.rlw s : ℝ) : EReal) := by
  change Ideal.ofBits .f32 0xC3FF0000#32 * Ideal.log (d (ix2 i j))
    - Ideal.ofBits .f32 0x437E8000#32 * Ideal.log (Ideal.ofBits .f32 0x3F800000#32 - Ideal.ofBits .f32 0x3E800000#32 * (d (ix2 i j) * d (ix2 i j))) = _
  rw [hd, w510, w254, wone, w025, Noise.log_pos (Spec.dist_pos s), ← EReal.coe_mul, ← EReal.coe_mul, ← EReal.coe_mul, ← EReal.coe_sub,
    Noise.log_pos (Spec.dist_sq_lt h0), ← EReal.coe_mul, ← EReal.coe_sub]
  rfl

/-- The bit of a decided proposition. -/
theorem bit_ne (p : Prop) [Decidable p] : BitVec.ofBool (decide p) = if p then 1#1 else 0#1 := by by_cases h : p <;> simp [h]

/-- The mask is 0 on the diagonal and 1 off it. -/
theorem neq_at : neq (ix2 i j) = if i = j then 0#1 else 1#1 := by
  change ~~~ (BitVec.ofBool (decide (BitVec.ofNat 32 i.val + 0#32 = BitVec.ofNat 32 j.val))) = _
  have : (BitVec.ofNat 32 i.val + 0#32 = BitVec.ofNat 32 j.val) ↔ i = j := by
    have := i.isLt
    have := j.isLt
    rw [BitVec.add_zero, ← BitVec.toNat_inj, BitVec.toNat_ofNat, BitVec.toNat_ofNat, Fin.ext_iff]
    omega
  by_cases h : i = j
  · rw [if_pos h, decide_eq_true (this.2 h)]; rfl
  · rw [if_neg h, decide_eq_false (fun h' => h (this.1 h'))]; rfl

/-- The entries of the log-weight with zeros on the diagonal. -/
theorem masked_at {l : Sq} {s : Fin 4096 → ℝ} (hl : l (ix2 i j) = ((Spec.rlw (s j) : ℝ) : EReal)) :
    masked l (ix2 i j) = ((Spec.rlw0 i s j : ℝ) : EReal) := by
  change Scalar.select (BitVec.ofBool (decide (max (l (ix2 i j)) (-l (ix2 i j)) = Ideal.ofBits .f32 0x7F800000#32))
    ||| BitVec.ofBool (decide (l (ix2 i j) ≠ l (ix2 i j)))) (Ideal.ofBits .f32 0x00000000#32) (l (ix2 i j) * (((neq (ix2 i j)).toNat : ℝ) : EReal)) = _
  have hfin : ¬ max ((Spec.rlw (s j) : ℝ) : EReal) (-((Spec.rlw (s j) : ℝ) : EReal)) = ⊤ := by
    rw [← EReal.coe_neg, coe_max]; exact EReal.coe_ne_top _
  rw [hl, winf, decide_eq_false hfin, decide_eq_false (fun h => h rfl), neq_at, ← EReal.coe_mul]
  change ((Spec.rlw (s j) * _ : ℝ) : EReal) = _
  unfold Spec.rlw0
  by_cases h : i = j <;> simp [h]

/-- The maximum of a row of reals is a real, bounds the row and is attained in it. -/
theorem top_at {l : Sq} {f : Fin 4096 → ℝ} (hl : ∀ j, l (ix2 i j) = ((f j : ℝ) : EReal)) :
    ∃ M : ℝ, top l (ix1 i) = (M : EReal) ∧ (∀ j, f j ≤ M) ∧ ∃ j, f j = M := by
  obtain ⟨k, hk⟩ := Spec.exists_first f
  have ht : top l (ix1 i) = Finset.univ.fold max (Ideal.ofBits .f32 0xFF800000#32) fun j : Fin 4096 => l (ix2 i j) := by
    pointwise [top]
  refine ⟨f k, ?_, hk.1, k, rfl⟩
  rw [ht, wninf]
  refine le_antisymm (Finset.fold_max_le _ |>.2 ⟨bot_le, fun j _ => ?_⟩) (Finset.le_fold_max _ |>.2 (Or.inr ⟨k, Finset.mem_univ _, ?_⟩))
  · rw [hl]; exact EReal.coe_le_coe_iff.2 (hk.1 j)
  · rw [hl]

/-- A column spread over the array has the row's number at every entry of the row. -/
theorem spread_at (m : Row) : spread (broadcastInDim S4096x1 ![0] bcast_S4096_S4096x1_0 m) (ix2 i j) = m (ix1 i) := by
  pointwise [spread]

/-- The same for a column to which a constant was added. -/
theorem spread_add_at (m : Row) (c : BitVec 32) :
    spread (addf (broadcastInDim S4096x1 ![0] bcast_S4096_S4096x1_0 m)
      (broadcastInDim S4096x1 ![] bcast_S_S4096x1 (constant (F := Ideal) S_ .f32 c))) (ix2 i j) = m (ix1 i) + Ideal.ofBits .f32 c := by
  pointwise [spread]

/-- The entries of the weights before they are normalised. -/
theorem wts_at {l d : Sq} {s : Fin 4096 → ℝ} {M : ℝ} (hl : l (ix2 i j) = ((Spec.rlw0 i s j : ℝ) : EReal))
    (hd : d (ix2 i j) = ((Spec.dist (s j) : ℝ) : EReal)) (hM : top l (ix1 i) = (M : EReal)) (h0 : 0 ≤ s j) :
    wts l d (ix2 i j) = ((Spec.rw0 i s M j : ℝ) : EReal) := by
  have h : wts l d (ix2 i j) = Ideal.exp (l (ix2 i j) - top l (ix1 i))
      * (((neq (ix2 i j) &&& BitVec.ofBool (decide (d (ix2 i j) < Ideal.ofBits .f32 0x3FD9999A#32))).toNat : ℝ) : EReal) := by
    rw [← spread_at (j := j) (top l)]
    unfold wts
    exact congrArg₂ HMul.hMul rfl rfl
  have hlt : ((Spec.dist (s j) : ℝ) : EReal) < ((14260634 / 2 ^ 23 : ℝ) : EReal) :=
    EReal.coe_lt_coe_iff.2 (lt_trans (Spec.dist_lt h0) (by norm_num))
  rw [h, hl, hd, hM, w17, decide_eq_true hlt, ← EReal.coe_sub, neq_at]
  have he : Ideal.exp ((Spec.rlw0 i s j - M : ℝ) : EReal) = ((Real.exp (Spec.rlw0 i s j - M) : ℝ) : EReal) := rfl
  rw [he, ← EReal.coe_mul]
  unfold Spec.rw0
  by_cases h : i = j <;> simp [h]

/-- A finite sum of reals, among the extended reals. -/
theorem sum_coe {ι : Type} (t : Finset ι) (f : ι → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- The sum of a row of reals. -/
theorem sums_at {w : Sq} {f : Fin 4096 → ℝ} (hw : ∀ j, w (ix2 i j) = ((f j : ℝ) : EReal)) :
    sums w (ix1 i) = ((∑ k, f k : ℝ) : EReal) := by
  have h : sums w (ix1 i) = ∑ j : Fin 4096, w (ix2 i j) := by
    pointwise [sums]
  rw [h, ← sum_coe]
  exact Finset.sum_congr rfl fun k _ => hw k

/-- The entries of the normalised weights. -/
theorem nrm_at {w : Sq} {f : Fin 4096 → ℝ} (hw : ∀ j, w (ix2 i j) = ((f j : ℝ) : EReal)) (hf : ∀ j, 0 ≤ f j) :
    nrm w (ix2 i j) = ((f j / (∑ k, f k + 12379400 / 2 ^ 90) : ℝ) : EReal) := by
  have h : nrm w (ix2 i j) = Ideal.div (w (ix2 i j)) (sums w (ix1 i) + Ideal.ofBits .f32 0x1E3CE508#32) := by
    rw [← spread_add_at (j := j) (sums w)]
    unfold nrm
    generalize spread _ = q
    rfl
  have hs : 0 ≤ ∑ k, f k := Finset.sum_nonneg fun k _ => hf k
  rw [h, sums_at hw, hw, weps, ← EReal.coe_add, Ideal.div_coe (by positivity), ← EReal.coe_mul]
  congr 1
  rw [mul_one_div]

/-- A place is not negative, so the wrapping of negative places leaves it. -/
theorem wrap_at {v : IVec S4096 32} {k : Fin 4096} (hv : v (ix1 i) = BitVec.ofNat 32 k.val) : wrap v (ix1 i) = BitVec.ofNat 32 k.val := by
  change Scalar.select (BitVec.ofBool ((v (ix1 i)).slt 0#32)) (v (ix1 i) + 4096#32) (v (ix1 i)) = _
  rw [hv, BitVec.slt, RefPick.toInt_ofNat, decide_eq_false (by simp)]
  rfl

/-- The list of the rows counts them. -/
theorem rows_at : rows (ix1 i) = BitVec.ofNat 32 i.val := rfl

/-- The entries of the column of wrapped places. -/
theorem col_at (v : IVec S4096 32) : col v (ix2 i 0) = wrap v (ix1 i) := by
  pointwise [col]

/-- Gathering each row at its own place changes nothing. -/
theorem lines_at (p : Sq) : lines p (ix2 i j) = p (ix2 i j) := by
  unfold lines
  exact RefPick.gather_row p _ ((col_at _).trans (wrap_at rows_at))

/-- The entries of the logarithm of the clipped weights. -/
theorem logits_at {p : Sq} {q : ℝ} (hp : p (ix2 i j) = (q : EReal)) :
    logits p (ix2 i j) = ((Real.log (max (10633824 / 2 ^ 123) q) : ℝ) : EReal) := by
  change Ideal.log (max (Ideal.ofBits .f32 0x0DA24260#32) (p (ix2 i j))) = _
  rw [hp, wdel, coe_max, Noise.log_pos (lt_max_of_lt_left (by norm_num))]

/-- The entries of the logits plus noise. -/
theorem noisy_at {l u : Sq} {q : ℝ} {w : BitVec 32} (hl : l (ix2 i j) = (q : EReal)) (hu : u (ix2 i j) = ((Noise.frac w : ℝ) : EReal)) :
    noisy l u (ix2 i j) = ((q + Noise.noise w : ℝ) : EReal) := by
  change l (ix2 i j) - Ideal.log (- Ideal.log (max (u (ix2 i j)) Noise.tiny)) = _
  rw [hl, hu, max_comm, Noise.tiny_eq, coe_max, sub_eq_add_neg]
  have := Noise.gumbel w
  unfold Noise.unif at this
  rw [this, ← EReal.coe_add]

/-- The entry that two lists of places gather. -/
theorem entries_at (x : Sq) {a b : IVec S4096 32} {p q : Fin 4096} (ha : a (ix1 i) = BitVec.ofNat 32 p.val)
    (hb : b (ix1 i) = BitVec.ofNat 32 q.val) : entries x a b (ix1 i) = x (ix2 p q) := by
  unfold entries
  refine RefPick.gather_val x _ ?_ ?_
  · refine Eq.trans ?_ ((col_at a).trans (wrap_at ha))
    generalize col a = ca
    pointwise
  · refine Eq.trans ?_ ((col_at b).trans (wrap_at hb))
    generalize col b = cb
    pointwise

/-- The entries of the hinge. -/
theorem hinge_at {p q : Row} {a b : ℝ} (hp : p (ix1 i) = (a : EReal)) (hq : q (ix1 i) = (b : EReal)) :
    hinge p q (ix1 i) = ((max (13421773 / 2 ^ 26 + b - a) 0 : ℝ) : EReal) := by
  change max (Ideal.ofBits .f32 0x3E4CCCCD#32 + q (ix1 i) - p (ix1 i)) (Ideal.ofBits .f32 0x00000000#32) = _
  rw [hp, hq, wmargin, wzero, ← EReal.coe_add, ← EReal.coe_sub, coe_max]

/-- The sum of a list of reals. -/
theorem total_at {h : Row} {f : Fin 4096 → ℝ} (hh : ∀ i, h (ix1 i) = ((f i : ℝ) : EReal)) (k : S_.Idx) :
    total h k = ((∑ i, f i : ℝ) : EReal) := by
  have h1 : total h k = ∑ j : Fin 4096, h (ix1 j) := by
    pointwise [total]
  rw [h1, ← sum_coe]
  exact Finset.sum_congr rfl fun k _ => hh k

/-! ## The half -/

/-- The normalized, gathered, clipped and perturbed scores. -/
def scores (x u : Sq) : Sq := noisy (logits (lines (nrm (wts (masked (logw (dist x))) (dist x))))) u

/-- The half's loss, of the picked columns. -/
def half (x : Sq) (b : IVec S4096 32) : FVec Ideal S_ .f32 := total (hinge (entries x rows rows) (entries x rows b))

/-- The half's loss is the specified one. -/
theorem half_val {x u : Sq} {s : Fin 4096 → Fin 4096 → ℝ} {w : Fin 4096 → Fin 4096 → BitVec 32} {big : ℝ} (hbig : big ≤ -100)
    (hx : ∀ i j, x (ix2 i j) = ((s i j : ℝ) : EReal)) (h0 : ∀ i j, 0 ≤ s i j) (h1 : ∀ i j, s i j < 1)
    (hu : ∀ i j, u (ix2 i j) = ((Noise.frac (w i j) : ℝ) : EReal)) {b : IVec S4096 32}
    (hb : ∀ i f, (∀ j, scores x u (ix2 i j) = ((f j : ℝ) : EReal)) → b (ix1 i) = BitVec.ofNat 32 (Spec.first f).val) (k : S_.Idx) :
    half x b k = ((Spec.loss (13421773 / 2 ^ 26) big s fun i j => Noise.noise (w i j) : ℝ) : EReal) := by
  unfold half
  refine total_at (fun i => ?_) k
  have hl : ∀ j, masked (logw (dist x)) (ix2 i j) = ((Spec.rlw0 i (s i) j : ℝ) : EReal) := fun j =>
    masked_at (logw_at (dist_at (hx i j) (h0 i j) (h1 i j)) (h0 i j) (h1 i j))
  obtain ⟨M, hM, hle, hat⟩ := top_at hl
  have hw : ∀ j, wts (masked (logw (dist x))) (dist x) (ix2 i j) = ((Spec.rw0 i (s i) M j : ℝ) : EReal) := fun j =>
    wts_at (hl j) (dist_at (hx i j) (h0 i j) (h1 i j)) hM (h0 i j)
  have hn : ∀ j, 0 ≤ Spec.rw0 i (s i) M j := fun j => by unfold Spec.rw0; split_ifs <;> positivity
  have hs : ∀ j, scores x u (ix2 i j) = ((Spec.rscore i (s i) (fun j => Noise.noise (w i j)) M (12379400 / 2 ^ 90) (10633824 / 2 ^ 123) j : ℝ) : EReal) :=
    fun j => noisy_at (logits_at ((lines_at _).trans (nrm_at hw hn))) (hu i j)
  refine hinge_at ((entries_at x rows_at rows_at).trans (hx i i)) ?_
  refine (entries_at x rows_at (hb i _ hs)).trans ((hx i _).trans ?_)
  refine congrArg (fun k => ((s i k : ℝ) : EReal)) ?_
  exact (Spec.first_eq (Spec.first_score hbig (h0 i) (h1 i) (fun j => Noise.noise_ge _) (fun j => Noise.noise_le _) hle hat (by norm_num) (by norm_num) (by norm_num) (by norm_num) (Spec.first_spec _))).symm

end Cert.HalfVal

end
-- ==== Proof.Threefry.lean ====
module

public import Idealize.ShloMosaic.PureOps
public import proofs.«01_k».proof.Proof.Ssa

/-! # Counter words

The block cipher both programs run, on two words: its rounds and key additions as functions of words, and what a
stretch of host operations that writes one round, or one key addition, leaves at an index. -/

@[expose] public section

set_option maxRecDepth 65536

noncomputable section

namespace Cert.Threefry

open Idealize.ShloMosaic Idealize.ShloMosaic.TcCoe Idealize.ShloMosaic.StableHlo Idealize.SL.Sem
open Cert.Ssa

/-- One round: the sum, and the sum mixed with the second word shifted both ways. -/
def rnd (r r' : BitVec 32) (p : BitVec 32 × BitVec 32) : BitVec 32 × BitVec 32 :=
  (IntOp.addi p.1 p.2, IntOp.xori (IntOp.addi p.1 p.2) (IntOp.ori (IntOp.shli .host p.2 r) (IntOp.shrui .host p.2 r')))

/-- A key addition. -/
def inj (a b n : BitVec 32) (p : BitVec 32 × BitVec 32) : BitVec 32 × BitVec 32 :=
  (IntOp.addi p.1 a, IntOp.addi (IntOp.addi p.2 b) n)

/-- Four rounds of the first kind. -/
def rndA (p : BitVec 32 × BitVec 32) : BitVec 32 × BitVec 32 := rnd 6 26 (rnd 26 6 (rnd 15 17 (rnd 13 19 p)))

/-- Four rounds of the second kind. -/
def rndB (p : BitVec 32 × BitVec 32) : BitVec 32 × BitVec 32 := rnd 24 8 (rnd 16 16 (rnd 29 3 (rnd 17 15 p)))

/-- The third key word. -/
def key2 (k0 k1 : BitVec 32) : BitVec 32 := IntOp.xori (IntOp.xori k0 k1) 466688986#32

/-- The cipher from its first key addition on. -/
def rounds (k0 k1 k2 : BitVec 32) (p : BitVec 32 × BitVec 32) : BitVec 32 × BitVec 32 :=
  inj k2 k0 5 (rndA (inj k1 k2 4 (rndB (inj k0 k1 3 (rndA (inj k2 k0 2 (rndB (inj k1 k2 1 (rndA p)))))))))

/-- The cipher. -/
def cipher (k0 k1 : BitVec 32) (p : BitVec 32 × BitVec 32) : BitVec 32 × BitVec 32 :=
  rounds k0 k1 (key2 k0 k1) (IntOp.addi p.1 k0, IntOp.addi p.2 k1)

variable {τ : Topo} {sig : RefSig} {F : FTy → Type} [FloatOps F] {W : Valuation τ sig (Elt F)}
  {rest : List (HloOp τ sig (Elt F))}

section Typed
variable {S : Shape} {x0 x1 y0 y1 t1 t2 t3 t4 t5 : TRef sig ⟨S, .i32⟩} {c c' : TRef sig ⟨⟨0, ![]⟩, .i32⟩}
  {hb : (⟨0, ![]⟩ : Shape).BroadcastsInDim S ![]} {r r' : BitVec 32} {st : S.Idx → BitVec 32 × BitVec 32}

/-- A stretch that writes one round. -/
theorem round_typed (hst : ∀ i, ((get x0 W : S.Idx → BitVec 32) i, (get x1 W : S.Idx → BitVec 32) i) = st i)
    (h : Sat W (TRef.binary x0 x1 y0 addi :: TRef.nullary c (constantI ⟨0, ![]⟩ 32 r)
      :: TRef.unary c t1 (broadcastInDim S ![] hb) :: TRef.binary x1 t1 t2 Host.shli
      :: TRef.nullary c' (constantI ⟨0, ![]⟩ 32 r') :: TRef.unary c' t3 (broadcastInDim S ![] hb)
      :: TRef.binary x1 t3 t4 Host.shrui :: TRef.binary t2 t4 t5 ori :: TRef.binary y0 t5 y1 xori :: rest)) :
    (∀ i, ((get y0 W : S.Idx → BitVec 32) i, (get y1 W : S.Idx → BitVec 32) i) = rnd r r' (st i)) ∧ Sat W rest := by
  obtain ⟨e0, e1, e2, e3, e4, e5, e6, e7, e8, h⟩ := h
  refine ⟨fun i => ?_, h⟩
  rw [get_binary e8, get_binary e7, get_binary e6, get_unary e5, get_nullary e4, get_binary e3, get_unary e2,
    get_nullary e1, get_binary e0, ← hst i]
  rfl

variable {k k' : TRef sig ⟨⟨0, ![]⟩, .i32⟩} {n a b : BitVec 32}

/-- A stretch that writes one key addition. -/
theorem inj_typed (hk : ∀ j, (get k W : (⟨0, ![]⟩ : Shape).Idx → BitVec 32) j = a)
    (hk' : ∀ j, (get k' W : (⟨0, ![]⟩ : Shape).Idx → BitVec 32) j = b)
    (hst : ∀ i, ((get x0 W : S.Idx → BitVec 32) i, (get x1 W : S.Idx → BitVec 32) i) = st i)
    (h : Sat W (TRef.unary k t1 (broadcastInDim S ![] hb) :: TRef.binary x0 t1 y0 addi
      :: TRef.unary k' t2 (broadcastInDim S ![] hb) :: TRef.binary x1 t2 t3 addi
      :: TRef.nullary c (constantI ⟨0, ![]⟩ 32 n) :: TRef.unary c t4 (broadcastInDim S ![] hb)
      :: TRef.binary t3 t4 y1 addi :: rest)) :
    (∀ i, ((get y0 W : S.Idx → BitVec 32) i, (get y1 W : S.Idx → BitVec 32) i) = inj a b n (st i)) ∧ Sat W rest := by
  obtain ⟨e0, e1, e2, e3, e4, e5, e6, h⟩ := h
  refine ⟨fun i => ?_, h⟩
  rw [get_binary e6, get_unary e5, get_nullary e4, get_binary e3, get_unary e2, get_binary e1, get_unary e0, ← hst i]
  exact Prod.ext (congrArg (IntOp.addi (w := 32) _) (hk _)) (congrArg (fun z => IntOp.addi (IntOp.addi (w := 32) _ z) _) (hk' _))

end Typed

section Literal
variable {x0 x1 y0 y1 t1 t2 t3 t4 t5 c c' k k' : Ref sig .tc}
  {fa : x0.ty.Contents (Elt F) → x1.ty.Contents (Elt F) → y0.ty.Contents (Elt F)} {pa pa' pa''}
  {v : c.ty.Contents (Elt F)} {pv} {f1 : c.ty.Contents (Elt F) → t1.ty.Contents (Elt F)} {p1 p1'}
  {fl : x1.ty.Contents (Elt F) → t1.ty.Contents (Elt F) → t2.ty.Contents (Elt F)} {pl pl' pl''}
  {v' : c'.ty.Contents (Elt F)} {pv'} {f3 : c'.ty.Contents (Elt F) → t3.ty.Contents (Elt F)} {p3 p3'}
  {fr : x1.ty.Contents (Elt F) → t3.ty.Contents (Elt F) → t4.ty.Contents (Elt F)} {pr pr' pr''}
  {fo : t2.ty.Contents (Elt F) → t4.ty.Contents (Elt F) → t5.ty.Contents (Elt F)} {po po' po''}
  {fx : y0.ty.Contents (Elt F) → t5.ty.Contents (Elt F) → y1.ty.Contents (Elt F)} {px px' px''}

/-- The same at literal references: what the two results hold. -/
theorem round_literal
    (h : Sat W (StableHlo.binary x0 x1 y0 fa pa pa' pa'' :: StableHlo.nullary c v pv :: StableHlo.unary c t1 f1 p1 p1'
      :: StableHlo.binary x1 t1 t2 fl pl pl' pl'' :: StableHlo.nullary c' v' pv' :: StableHlo.unary c' t3 f3 p3 p3'
      :: StableHlo.binary x1 t3 t4 fr pr pr' pr'' :: StableHlo.binary t2 t4 t5 fo po po' po''
      :: StableHlo.binary y0 t5 y1 fx px px' px'' :: rest)) :
    (W (Proc.devRef .tc y0) = fa (W (Proc.devRef .tc x0)) (W (Proc.devRef .tc x1))
      ∧ W (Proc.devRef .tc y1) = fx (fa (W (Proc.devRef .tc x0)) (W (Proc.devRef .tc x1)))
          (fo (fl (W (Proc.devRef .tc x1)) (f1 v)) (fr (W (Proc.devRef .tc x1)) (f3 v')))) ∧ Sat W rest := by
  obtain ⟨e0, e1, e2, e3, e4, e5, e6, e7, e8, h⟩ := h
  refine ⟨⟨eq_binary e0, ?_⟩, h⟩
  rw [eq_binary e8, eq_binary e7, eq_binary e6, eq_unary e5, eq_nullary e4, eq_binary e3, eq_unary e2, eq_nullary e1,
    eq_binary e0]

end Literal

section Literal
variable {x0 x1 y0 y1 t1 t2 t3 t4 c k k' : Ref sig .tc}
  {f1 : k.ty.Contents (Elt F) → t1.ty.Contents (Elt F)} {p1 p1'}
  {fa : x0.ty.Contents (Elt F) → t1.ty.Contents (Elt F) → y0.ty.Contents (Elt F)} {pa pa' pa''}
  {f2 : k'.ty.Contents (Elt F) → t2.ty.Contents (Elt F)} {p2 p2'}
  {fb : x1.ty.Contents (Elt F) → t2.ty.Contents (Elt F) → t3.ty.Contents (Elt F)} {pb pb' pb''}
  {v : c.ty.Contents (Elt F)} {pv} {f4 : c.ty.Contents (Elt F) → t4.ty.Contents (Elt F)} {p4 p4'}
  {fc : t3.ty.Contents (Elt F) → t4.ty.Contents (Elt F) → y1.ty.Contents (Elt F)} {pc pc' pc''}

/-- A key addition at literal references. -/
theorem inj_literal
    (h : Sat W (StableHlo.unary k t1 f1 p1 p1' :: StableHlo.binary x0 t1 y0 fa pa pa' pa''
      :: StableHlo.unary k' t2 f2 p2 p2' :: StableHlo.binary x1 t2 t3 fb pb pb' pb''
      :: StableHlo.nullary c v pv :: StableHlo.unary c t4 f4 p4 p4' :: StableHlo.binary t3 t4 y1 fc pc pc' pc'' :: rest)) :
    (W (Proc.devRef .tc y0) = fa (W (Proc.devRef .tc x0)) (f1 (W (Proc.devRef .tc k)))
      ∧ W (Proc.devRef .tc y1) = fc (fb (W (Proc.devRef .tc x1)) (f2 (W (Proc.devRef .tc k')))) (f4 v)) ∧ Sat W rest := by
  obtain ⟨e0, e1, e2, e3, e4, e5, e6, h⟩ := h
  refine ⟨⟨?_, ?_⟩, h⟩
  · rw [eq_binary e1, eq_unary e0]
  · rw [eq_binary e6, eq_unary e5, eq_nullary e4, eq_binary e3, eq_unary e2]

end Literal

end Cert.Threefry

end
-- ==== Proof.RefNoise.lean ====
module

public import proofs.«01_k».proof.Proof.RefRun
public import proofs.«01_k».proof.Proof.Threefry
public import proofs.«01_k».proof.Proof.Noise
public import Idealize.ShloMosaic.Lib.Pointwise

/-! # The reference's counter words

What the reference's calls of the cipher leave: at each place the cipher of its counts, under the call's keys. -/

@[expose] public section

set_option maxRecDepth 65536
set_option maxHeartbeats 4000000

noncomputable section

namespace Cert.RefNoise

open Idealize.ShloMosaic Idealize.ShloMosaic.TcCoe Idealize.ShloMosaic.StableHlo Idealize.SL.Sem
open Idealize.ShloMosaic.Pointwise Cert.ReferenceIdeal Cert.RefLine Cert.Ssa Cert.Threefry

variable {W : Valuation τ sig (Elt Ideal)}

/-- The cipher's call at two counts. -/
theorem pair_val {a0 a1 : TRef sig ⟨S_, .i32⟩} {a2 a3 : TRef sig ⟨S2, .i32⟩} {φ : fn_threefry2x32.Bufs} {k0 k1 : BitVec 32}
    (hk0 : ∀ j, (get a0 W : S_.Idx → BitVec 32) j = k0) (hk1 : ∀ j, (get a1 W : S_.Idx → BitVec 32) j = k1)
    (h : Sat W (tfPair (F := Ideal) a0 a1 a2 a3 φ).1) (i : S2.Idx) :
    ((get φ.v171 W : S2.Idx → BitVec 32) i, (get φ.v175 W : S2.Idx → BitVec 32) i)
      = cipher k0 k1 ((get a2 W : S2.Idx → BitVec 32) i, (get a3 W : S2.Idx → BitVec 32) i) := by
  obtain ⟨e0, e1, e2, e3, e4, e5, e6, h⟩ := h
  have hk2 : ∀ j, (get φ.v1 W : S_.Idx → BitVec 32) j = key2 k0 k1 := fun j => by
    rw [get_binary e2, get_nullary e1, get_binary e0]
    exact congrArg₂ (fun x y => IntOp.xori (w := 32) (IntOp.xori x y) 466688986#32) (hk0 j) (hk1 j)
  have hst : ∀ i, ((get φ.v3 W : S2.Idx → BitVec 32) i, (get φ.v5 W : S2.Idx → BitVec 32) i)
      = (IntOp.addi ((get a2 W : S2.Idx → BitVec 32) i) k0, IntOp.addi ((get a3 W : S2.Idx → BitVec 32) i) k1) := fun i => by
    rw [get_binary e4, get_unary e3, get_binary e6, get_unary e5]
    exact Prod.ext (congrArg (IntOp.addi (w := 32) _) (hk0 _)) (congrArg (IntOp.addi (w := 32) _) (hk1 _))
  iterate 4 obtain ⟨hst, h⟩ := round_typed hst h
  obtain ⟨hst, h⟩ := inj_typed hk1 hk2 hst h
  iterate 4 obtain ⟨hst, h⟩ := round_typed hst h
  obtain ⟨hst, h⟩ := inj_typed hk2 hk0 hst h
  iterate 4 obtain ⟨hst, h⟩ := round_typed hst h
  obtain ⟨hst, h⟩ := inj_typed hk0 hk1 hst h
  iterate 4 obtain ⟨hst, h⟩ := round_typed hst h
  obtain ⟨hst, h⟩ := inj_typed hk1 hk2 hst h
  iterate 4 obtain ⟨hst, h⟩ := round_typed hst h
  obtain ⟨hst, h⟩ := inj_typed hk2 hk0 hst h
  exact hst i

/-- The cipher's call at a square of counts. -/
theorem grid_val {a0 a1 : TRef sig ⟨S_, .i32⟩} {a2 a3 : TRef sig ⟨S4096x4096, .i32⟩} {φ : fn_threefry2x32_0.Bufs} {k0 k1 : BitVec 32}
    (hk0 : ∀ j, (get a0 W : S_.Idx → BitVec 32) j = k0) (hk1 : ∀ j, (get a1 W : S_.Idx → BitVec 32) j = k1)
    (h : Sat W (tfGrid (F := Ideal) a0 a1 a2 a3 φ).1) (i : S4096x4096.Idx) :
    ((get φ.v171 W : S4096x4096.Idx → BitVec 32) i, (get φ.v175 W : S4096x4096.Idx → BitVec 32) i)
      = cipher k0 k1 ((get a2 W : S4096x4096.Idx → BitVec 32) i, (get a3 W : S4096x4096.Idx → BitVec 32) i) := by
  obtain ⟨e0, e1, e2, e3, e4, e5, e6, h⟩ := h
  have hk2 : ∀ j, (get φ.v1 W : S_.Idx → BitVec 32) j = key2 k0 k1 := fun j => by
    rw [get_binary e2, get_nullary e1, get_binary e0]
    exact congrArg₂ (fun x y => IntOp.xori (w := 32) (IntOp.xori x y) 466688986#32) (hk0 j) (hk1 j)
  have hst : ∀ i, ((get φ.v3 W : S4096x4096.Idx → BitVec 32) i, (get φ.v5 W : S4096x4096.Idx → BitVec 32) i)
      = (IntOp.addi ((get a2 W : S4096x4096.Idx → BitVec 32) i) k0, IntOp.addi ((get a3 W : S4096x4096.Idx → BitVec 32) i) k1) := fun i => by
    rw [get_binary e4, get_unary e3, get_binary e6, get_unary e5]
    exact Prod.ext (congrArg (IntOp.addi (w := 32) _) (hk0 _)) (congrArg (IntOp.addi (w := 32) _) (hk1 _))
  iterate 4 obtain ⟨hst, h⟩ := round_typed hst h
  obtain ⟨hst, h⟩ := inj_typed hk1 hk2 hst h
  iterate 4 obtain ⟨hst, h⟩ := round_typed hst h
  obtain ⟨hst, h⟩ := inj_typed hk2 hk0 hst h
  iterate 4 obtain ⟨hst, h⟩ := round_typed hst h
  obtain ⟨hst, h⟩ := inj_typed hk0 hk1 hst h
  iterate 4 obtain ⟨hst, h⟩ := round_typed hst h
  obtain ⟨hst, h⟩ := inj_typed hk1 hk2 hst h
  iterate 4 obtain ⟨hst, h⟩ := round_typed hst h
  obtain ⟨hst, h⟩ := inj_typed hk2 hk0 hst h
  exact hst i

/-- The root key. -/
def root (j : S2.Idx) : BitVec 32 := if (j 0).val = 0 then 0#32 else 42#32

/-- The two keys split from it. -/
def subkey (r c : Fin 2) : BitVec 32 :=
  match r, c with
  | 0, 0 => 1832780943#32
  | 0, 1 => 270669613#32
  | 1, 0 => 64467757#32
  | 1, 1 => 2916123636#32

/-- Splitting the root key gives the two subkeys. -/
theorem cipher_root : ∀ r : Fin 2,
    cipher 0#32 42#32 (BitVec.setWidth 32 (IntOp.shrui .host (IntOp.muli 1#64 (BitVec.ofNat 64 r.val)) 32#64),
      BitVec.setWidth 32 (IntOp.muli 1#64 (BitVec.ofNat 64 r.val))) = (subkey r 0, subkey r 1) := by
  decide +kernel

/-- The split of the root key. -/
theorem split_val {a0 : TRef sig ⟨S2, .i32⟩} {φ : fn_threefry_split.Bufs} (h0 : ∀ j, (get a0 W : S2.Idx → BitVec 32) j = root j)
    (h : Sat W (split (F := Ideal) a0 φ).1) (r c : Fin 2) :
    (get φ.v14 W : S2x2.Idx → BitVec 32) (ix2 r c) = subkey r c := by
  obtain ⟨e0, e1, e2, e3, e4, e5, e6, e7, e8, e9, e10, e11, e12, h⟩ := h
  obtain ⟨hp, e13, e14, e15, -⟩ := sat_append (l₁ := (tfPair (F := Ideal) φ.v1 φ.v3 φ.v10 φ.v9 φ.call0).1) (l₂ := [_, _, _]) h
  have hk0 : ∀ j, (get φ.v1 W : S_.Idx → BitVec 32) j = 0#32 := fun j => by
    rw [get_reshape e1, get_unary e0]; exact (h0 _).trans (if_pos (by simp only [Matrix.cons_val_zero, Nat.zero_add]; exact Nat.lt_one_iff.1 (Fin.isLt _)))
  have hk1 : ∀ j, (get φ.v3 W : S_.Idx → BitVec 32) j = 42#32 := fun j => by
    rw [get_reshape e3, get_unary e2]; exact (h0 _).trans (if_neg (by simp))
  have hv := pair_val hk0 hk1 hp
  have hv' : ∀ r : Fin 2, ((get φ.call0.v171 W : S2.Idx → BitVec 32) (ix1 r), (get φ.call0.v175 W : S2.Idx → BitVec 32) (ix1 r))
      = (subkey r 0, subkey r 1) := fun r => by
    rw [hv, get_unary e12, get_unary e11, get_binary e10, get_unary e9, get_nullary e8, get_binary e7, get_unary e6,
      get_nullary e5, get_nullary e4]
    exact cipher_root r
  have h1 := congrArg Prod.fst (hv' r)
  have h2 := congrArg Prod.snd (hv' r)
  match c with
  | 0 => rw [get_binary e15, get_unary e14, get_unary e13]; refine Eq.trans ?_ h1; pointwise
  | 1 => rw [get_binary e15, get_unary e14, get_unary e13]; refine Eq.trans ?_ h2; pointwise

/-- The upper half of an entry's count is 0. -/
theorem hi_zero (i j : Fin 4096) : BitVec.setWidth 32 (IntOp.shrui .host (IntOp.addi (IntOp.muli 4096#64 (BitVec.ofNat 64 i.val))
    (IntOp.muli 1#64 (BitVec.ofNat 64 j.val))) 32#64) = 0#32 := by
  have hi := i.isLt
  have hj := j.isLt
  change BitVec.setWidth 32 ((4096#64 * BitVec.ofNat 64 i.val + 1#64 * BitVec.ofNat 64 j.val) >>> 32#64) = 0#32
  apply BitVec.eq_of_toNat_eq
  rw [BitVec.toNat_setWidth]
  change (4096#64 * BitVec.ofNat 64 i.val + 1#64 * BitVec.ofNat 64 j.val).toNat >>> 32 % 2 ^ 32 = 0
  rw [BitVec.toNat_add, BitVec.toNat_mul, BitVec.toNat_mul, BitVec.toNat_ofNat, BitVec.toNat_ofNat, BitVec.toNat_ofNat,
    BitVec.toNat_ofNat, Nat.shiftRight_eq_div_pow]
  omega

/-- The lower half of an entry's count is the count. -/
theorem lo_count (i j : Fin 4096) : BitVec.setWidth 32 (IntOp.addi (IntOp.muli 4096#64 (BitVec.ofNat 64 i.val))
    (IntOp.muli 1#64 (BitVec.ofNat 64 j.val))) = BitVec.ofNat 32 (4096 * i.val + j.val) := by
  have hi := i.isLt
  have hj := j.isLt
  change BitVec.setWidth 32 (4096#64 * BitVec.ofNat 64 i.val + 1#64 * BitVec.ofNat 64 j.val) = _
  apply BitVec.eq_of_toNat_eq
  rw [BitVec.toNat_setWidth, BitVec.toNat_add, BitVec.toNat_mul, BitVec.toNat_mul, BitVec.toNat_ofNat, BitVec.toNat_ofNat,
    BitVec.toNat_ofNat, BitVec.toNat_ofNat, BitVec.toNat_ofNat]
  omega

/-- The word at a place of the square. -/
def word (k0 k1 : BitVec 32) (i j : Fin 4096) : BitVec 32 :=
  IntOp.xori (cipher k0 k1 (0#32, BitVec.ofNat 32 (4096 * i.val + j.val))).1
    (cipher k0 k1 (0#32, BitVec.ofNat 32 (4096 * i.val + j.val))).2

/-- Scaling the fraction to the unit interval leaves it. -/
theorem unit_scale (w : BitVec 32) :
    max (0 : EReal) ((Ideal.ofBits .f32 (Noise.oneTwo w) - 1) * (1 - 0) + 0) = ((Noise.frac w : ℝ) : EReal) := by
  rw [Noise.ofBits_oneTwo, ← EReal.coe_one, ← EReal.coe_zero, ← EReal.coe_sub, ← EReal.coe_sub, ← EReal.coe_mul,
    ← EReal.coe_add, ← EReal.coe_strictMono.monotone.map_max]
  have := Noise.frac_nonneg w
  congr 1
  rw [max_eq_right (by linarith)]; ring

/-- The uniform numbers of a call. -/
theorem uniform_val {a0 : TRef sig ⟨S2, .i32⟩} {a1 a2 : TRef sig ⟨S_, .f32⟩} {φ : fn_uniform.Bufs} {k0 k1 : BitVec 32}
    (h0 : (get a0 W : S2.Idx → BitVec 32) (ix1 0) = k0) (h1 : (get a0 W : S2.Idx → BitVec 32) (ix1 1) = k1)
    (hz : ∀ j, (get a1 W : S_.Idx → EReal) j = 0) (ho : ∀ j, (get a2 W : S_.Idx → EReal) j = 1)
    (h : Sat W (uniform (F := Ideal) a0 a1 a2 φ).1) (i j : Fin 4096) :
    (get φ.v34 W : S4096x4096.Idx → EReal) (ix2 i j) = ((Noise.frac (word k0 k1 i j) : ℝ) : EReal) := by
  obtain ⟨e0, e1, e2, e3, e4, e5, e6, e7, e8, e9, ec, e10, e11, ec0, e12, e13, e14, ec1, e15, e16, e17, e18, h⟩ := h
  obtain ⟨hp, e20, ec2, e21, e22, ec3, e23, e24, e25, ecst, e26, e27, e28, e29, e30, e31, e32, e33, e34, -⟩ :=
    sat_append (l₁ := (tfGrid (F := Ideal) φ.v5 φ.v7 φ.v18 φ.v17 φ.call0).1) (l₂ := [_, _, _, _, _, _, _, _, _, _, _, _, _, _, _, _, _, _]) h
  have hk0 : ∀ j, (get φ.v5 W : S_.Idx → BitVec 32) j = k0 := fun j => by
    rw [get_reshape e5, get_unary e4, ← h0]
    exact congrArg (get a0 W : S2.Idx → BitVec 32) (funext fun a => by
      match a with
      | 0 => exact Fin.ext (by simp only [Matrix.cons_val_zero, Nat.zero_add]; exact Nat.lt_one_iff.1 (Fin.isLt _)))
  have hk1 : ∀ j, (get φ.v7 W : S_.Idx → BitVec 32) j = k1 := fun j => by
    rw [get_reshape e7, get_unary e6, ← h1]
    exact congrArg (get a0 W : S2.Idx → BitVec 32) (funext fun a => by
      match a with
      | 0 => exact Fin.ext (congrArg (1 + ·) (Nat.lt_one_iff.1 (Fin.isLt _))))
  have hv := grid_val hk0 hk1 hp (ix2 i j)
  have hhi : (get φ.v18 W : S4096x4096.Idx → BitVec 32) (ix2 i j) = 0#32 := by
    rw [get_unary e18, get_binary e16, get_unary e15, get_nullary ec1, get_binary e14, get_binary e13, get_unary e12,
      get_nullary ec0, get_binary e11, get_unary e10, get_nullary ec, get_nullary e9, get_nullary e8]
    exact hi_zero i j
  have hlo : (get φ.v17 W : S4096x4096.Idx → BitVec 32) (ix2 i j) = BitVec.ofNat 32 (4096 * i.val + j.val) := by
    rw [get_unary e17, get_binary e14, get_binary e13, get_unary e12,
      get_nullary ec0, get_binary e11, get_unary e10, get_nullary ec, get_nullary e9, get_nullary e8]
    exact lo_count i j
  rw [hhi, hlo] at hv
  have hw : (get φ.v20 W : S4096x4096.Idx → BitVec 32) (ix2 i j) = word k0 k1 i j := by
    rw [get_binary e20]
    exact congrArg₂ (IntOp.xori (w := 32)) (congrArg Prod.fst hv) (congrArg Prod.snd hv)
  have hz2 : ∀ j, (get φ.v2 W : S1x1.Idx → EReal) j = 0 := fun j => by
    rw [get_unary e2, get_unary e0]; exact hz _
  have ho3 : ∀ j, (get φ.v3 W : S1x1.Idx → EReal) j = 1 := fun j => by
    rw [get_unary e3, get_unary e1]; exact ho _
  rw [get_binary e34, get_unary e33, get_binary e32, get_unary e31, get_binary e30, get_unary e29, get_binary e28,
    get_binary e27, get_unary e26, get_nullary ecst, get_unary e25, get_binary e24, get_unary e23, get_nullary ec3,
    get_binary e22, get_unary e21, get_nullary ec2]
  pointwise
  rw [hz2, ho3, hw]
  exact unit_scale _

end Cert.RefNoise

end
-- ==== Proof.RefValue.lean ====
module

public import proofs.«01_k».proof.Proof.HalfVal
public import proofs.«01_k».proof.Proof.RefNoise

/-! # What the reference returns

The reference's final valuation, read back through its operations. -/

@[expose] public section

set_option maxRecDepth 65536
set_option maxHeartbeats 1000000

noncomputable section

namespace Cert.RefValue

open Idealize.ShloMosaic Idealize.ShloMosaic.TcCoe Idealize.ShloMosaic.StableHlo Idealize.SL.Sem
open Cert.ReferenceIdeal Cert.ReferenceIdeal.Gen Cert.RefLine Cert.Ssa Cert.HalfVal Idealize.ShloMosaic.Pointwise

variable {W : Valuation τ sig (Elt Ideal)}

/-- The keys, and the first orientation up to its row maxima. -/
theorem part0 (h : Sat W (main0 (F := Ideal) 0).1) :
    ((∀ c, get (.of main_v9 : TRef sig ⟨S2, .i32⟩) W (ix1 c) = RefNoise.subkey 0 c)
      ∧ ∀ c, get (.of main_v11 : TRef sig ⟨S2, .i32⟩) W (ix1 c) = RefNoise.subkey 1 c)
    ∧ (W (Proc.devRef .tc main_v17) : IVec S4096x4096 1) = neq
    ∧ (W (Proc.devRef .tc main_v18) : IVec S4096 32) = rows
    ∧ (W (Proc.devRef .tc main_v19) : IVec S4096 32) = rows
    ∧ (W (Proc.devRef .tc main_v26) : Sq) = dist (W (Proc.devRef .tc main_arg0))
    ∧ (W (Proc.devRef .tc main_v44) : Sq) = masked (logw (dist (W (Proc.devRef .tc main_arg0))))
    ∧ (W (Proc.devRef .tc main_v46) : FVec Ideal S4096x1 .f32) = broadcastInDim S4096x1 ![0] bcast_S4096_S4096x1_0 (top (masked (logw (dist (W (Proc.devRef .tc main_arg0)))))) := by
  obtain ⟨ec, ec0, e0, e1, e2, ec1, e3, e4, e5, e6, h⟩ := h
  obtain ⟨hs, e8, e9, e10, e11, e12, e13, c2, e14, e15, e16, e17, e18, e19, cst, e20, e21, c3, e22, e23, e24, c4, e25, e26, e27,
    c5, e28, e29, e30, c6, e31, e32, c7, e33, e34, e35, c8, e36, e37, e38, i0, i1, i2, i3, e40, e41, e42, e43, c9, w0, w1, w2,
    c10, e45, e46, -⟩ := sat_append (l₁ := (split (F := Ideal) (.of main_v6) main_call0).1) (l₂ := [_, _, _, _, _, _, _, _, _, _, _, _, _, _, _, _, _, _, _, _, _, _, _, _, _, _, _, _, _, _, _, _, _, _, _, _, _, _, _, _, _, _, _, _, _, _, _, _, _, _, _, _, _, _]) h
  have hroot : ∀ j, (get (.of main_v6 : TRef sig ⟨S2, .i32⟩) W : S2.Idx → BitVec 32) j = RefNoise.root j := fun j => by
    change (W (Proc.devRef .tc main_v6) : S2.Idx → BitVec 32) j = _
    rw [eq_binary e6, eq_unary e2, eq_unary e1, eq_binary e0, eq_nullary ec, eq_nullary ec0, eq_unary e5, eq_unary e4, eq_binary e3, eq_nullary ec, eq_nullary ec1]
    obtain ⟨a, rfl⟩ : ∃ a, j = ix1 a := ⟨j 0, (ix1_eta j).symm⟩
    match a with
    | 0 => refine Eq.trans (b := 0#32) ?_ rfl; pointwise; decide
    | 1 => refine Eq.trans (b := 42#32) ?_ rfl; pointwise; decide
  have hsplit := RefNoise.split_val hroot hs
  have hneq : (W (Proc.devRef .tc main_v17) : IVec S4096x4096 1) = neq := by
    rw [eq_unary e17, eq_binary e16, eq_binary e15, eq_nullary e12, eq_unary e14, eq_nullary c2, eq_nullary e13]; rfl
  have hdist : (W (Proc.devRef .tc main_v26) : Sq) = dist (W (Proc.devRef .tc main_arg0)) := by
    rw [eq_binary e26, eq_unary e24, eq_binary e23, eq_unary e22, eq_nullary c3, eq_binary e21, eq_unary e20, eq_nullary cst, eq_unary e25, eq_nullary c4]; rfl
  have hlogw : (W (Proc.devRef .tc main_v38) : Sq) = logw (dist (W (Proc.devRef .tc main_arg0))) := by
    rw [← hdist, eq_binary e38, eq_binary e29, eq_unary e28, eq_nullary c5, eq_unary e27, eq_binary e37, eq_unary e36, eq_nullary c8, eq_unary e35,
      eq_binary e34, eq_unary e33, eq_nullary c7, eq_binary e32, eq_unary e31, eq_nullary c6, eq_binary e30]; rfl
  have hmask : (W (Proc.devRef .tc main_v44) : Sq) = masked (logw (dist (W (Proc.devRef .tc main_arg0)))) := by
    have q := get_ternary w2
    rw [get_unary w1, get_unary w0] at q
    have q39 := get_binary i3
    rw [get_unary i0, get_unary i2, get_nullary i1] at q39
    refine q.trans ?_
    change select (W (Proc.devRef .tc main_v41) : IVec S4096x4096 1) (broadcastInDim S4096x4096 ![] bcast_S_S4096x4096 (W (Proc.devRef .tc main_cst_9) : FVec Ideal S_ .f32)) (W (Proc.devRef .tc main_v43) : Sq) = _
    have q39' : (W (Proc.devRef .tc main_v39) : IVec S4096x4096 1) = cmpf .oeq (Host.absf (W (Proc.devRef .tc main_v38) : Sq)) (fill 0x7F800000#32) := q39
    rw [eq_binary e41, q39', eq_binary e40, eq_nullary c9, eq_binary e43, eq_unary e42, hneq, hlogw]; rfl
  have htop : (W (Proc.devRef .tc main_v46) : FVec Ideal S4096x1 .f32) = broadcastInDim S4096x1 ![0] bcast_S4096_S4096x1_0 (top (masked (logw (dist (W (Proc.devRef .tc main_arg0)))))) := by
    rw [eq_unary e46, eq_binary e45, eq_nullary c10, hmask]; rfl
  refine ⟨⟨fun c => ?_, fun c => ?_⟩, hneq, eq_nullary e18, eq_nullary e19, hdist, hmask, htop⟩
  · rw [← hsplit]
    change (W (Proc.devRef .tc main_v9) : S2.Idx → BitVec 32) (ix1 c) = _
    rw [eq_reshape e9, eq_unary e8]
    change shapeCast S2 (extractStridedSlice S1x2 ![0, 0] (W (Proc.devRef .tc main_v7) : IVec S2x2 32) slices_S2x2_S1x2_0_0) shapeCasts_S1x2_S2 (ix1 c)
      = (W (Proc.devRef .tc main_v7) : IVec S2x2 32) (ix2 0 c)
    generalize (W (Proc.devRef .tc main_v7) : IVec S2x2 32) = x
    match c with
    | 0 => pointwise
    | 1 => pointwise
  · rw [← hsplit]
    change (W (Proc.devRef .tc main_v11) : S2.Idx → BitVec 32) (ix1 c) = _
    rw [eq_reshape e11, eq_unary e10]
    change shapeCast S2 (extractStridedSlice S1x2 ![1, 0] (W (Proc.devRef .tc main_v7) : IVec S2x2 32) slices_S2x2_S1x2_1_0) shapeCasts_S1x2_S2 (ix1 c)
      = (W (Proc.devRef .tc main_v7) : IVec S2x2 32) (ix2 1 c)
    generalize (W (Proc.devRef .tc main_v7) : IVec S2x2 32) = x
    match c with
    | 0 => pointwise
    | 1 => pointwise

/-- The first orientation from its weights to its picks. -/
theorem part1 (h : Sat W (main1 (F := Ideal) 0).1) {x : Sq}
    (hx : (W (Proc.devRef .tc main_arg0) : Sq) = x)
    (hneq : (W (Proc.devRef .tc main_v17) : IVec S4096x4096 1) = neq)
    (hr : (W (Proc.devRef .tc main_v18) : IVec S4096 32) = rows)
    (hr' : (W (Proc.devRef .tc main_v19) : IVec S4096 32) = rows)
    (hdist : (W (Proc.devRef .tc main_v26) : Sq) = dist x)
    (hmask : (W (Proc.devRef .tc main_v44) : Sq) = masked (logw (dist x)))
    (htop : (W (Proc.devRef .tc main_v46) : FVec Ideal S4096x1 .f32) = broadcastInDim S4096x1 ![0] bcast_S4096_S4096x1_0 (top (masked (logw (dist x)))))
    {k0 k1 : BitVec 32} (hk0 : get (.of main_v9 : TRef sig ⟨S2, .i32⟩) W (ix1 0) = k0) (hk1 : get (.of main_v9 : TRef sig ⟨S2, .i32⟩) W (ix1 1) = k1) :
    ∃ u : Sq, (∀ i j, u (ix2 i j) = ((Noise.frac (RefNoise.word k0 k1 i j) : ℝ) : EReal))
      ∧ (∀ i f, (∀ j, scores x u (ix2 i j) = ((f j : ℝ) : EReal)) → (W (Proc.devRef .tc main_v77) : IVec S4096 32) (ix1 i) = BitVec.ofNat 32 (Spec.first f).val)
      ∧ (W (Proc.devRef .tc main_v91) : Row) = entries x rows rows
      ∧ (W (Proc.devRef .tc main_v92) : IVec S4096 32) = broadcastInDim S4096 ![] bcast_S_S4096 (constantI S_ 32 0#32) := by
  obtain ⟨e47, e48, e49, c11, e50, e51, e52, e53, e54, c12, e55, e56, c13, e57, e58, e59, e60, c14, e61, e62, c15, e63, e64, e65, e66, e67,
    c16, p0, p1, p2, e69, c17, c18, h⟩ := h
  obtain ⟨hu, c19, e71, e72, e73, e74, e75, e76, a0, a1, a2, a3, a4, c20, e78, e79, c21, e80, e81, e82, c22, e83, e84, c23, e85, e86, e87,
    e88, e89, e90, e91, c24, e92, -⟩ :=
    sat_append (l₁ := (uniform (F := Ideal) (.of main_v9) (.of main_cst_17) (.of main_cst_18) main_call4).1) (l₂ := [_, _, _, _, _, _, _, _, _, _, _, _, _, _, _, _, _, _, _, _, _, _, _, _, _, _, _, _, _, _, _, _]) h
  have hwts : (W (Proc.devRef .tc main_v54) : Sq) = wts (masked (logw (dist x))) (dist x) := by
    rw [eq_binary e54, eq_unary e49, eq_binary e48, hmask, eq_unary e47, htop, eq_unary e53, eq_binary e52, hneq, eq_binary e51, hdist, eq_unary e50, eq_nullary c11]; rfl
  have hnrm : (W (Proc.devRef .tc main_v60) : Sq) = nrm (wts (masked (logw (dist x))) (dist x)) := by
    rw [eq_binary e60, eq_unary e59, eq_binary e58, eq_unary e56, eq_binary e55, eq_nullary c12, hwts, eq_unary e57, eq_nullary c13]; rfl
  have hlines : (W (Proc.devRef .tc main_v67) : Sq) = lines (nrm (wts (masked (logw (dist x))) (dist x))) := by
    rw [eq_binary e67, hnrm, eq_unary e66, eq_ternary e65, eq_binary e62, eq_unary e61, eq_nullary c14, eq_binary e64, eq_unary e63, eq_nullary c15, hr]; rfl
  have hlog : (W (Proc.devRef .tc main_v69) : Sq) = logits (lines (nrm (wts (masked (logw (dist x))) (dist x)))) := by
    have q := get_binary p2
    rw [get_unary p1, get_unary p0] at q
    have q68 : (W (Proc.devRef .tc main_v68) : Sq) = (maximumf (broadcastInDim S4096x4096 ![] bcast_S_S4096x4096 (W (Proc.devRef .tc main_cst_16) : FVec Ideal S_ .f32)) (W (Proc.devRef .tc main_v67) : Sq) : Sq) := q
    rw [eq_unary e69, q68, hlines, eq_nullary c16]; rfl
  have hsc : (W (Proc.devRef .tc main_v76) : Sq) = scores x (W (Proc.devRef .tc main_v70)) := by
    rw [eq_binary e76, hlog, eq_unary e75, eq_unary e74, eq_unary e73, eq_binary e72, eq_unary e71, eq_nullary c19]; rfl
  refine ⟨W (Proc.devRef .tc main_v70), fun i j => ?_, fun i f hf => ?_, ?_, ?_⟩
  · refine RefNoise.uniform_val hk0 hk1 (fun j => ?_) (fun j => ?_) hu i j
    · exact (congrFun (eq_nullary c17) j).trans (wzero.trans EReal.coe_zero)
    · exact (congrFun (eq_nullary c18) j).trans (wone.trans EReal.coe_one)
  · change (get (.of main_v77 : TRef sig ⟨S4096, .i32⟩) W : IVec S4096 32) (ix1 i) = _
    refine (congrFun (get_quaternary a4) (ix1 i)).trans ?_
    refine RefPick.argmax_val (fun j => ?_) (fun j => ?_) RefPick.drop_ix2 ?_
    · rw [← hf, ← hsc]; rfl
    · exact congrFun (get_nullary a0) _
    · rw [get_nullary a1]; exact HalfVal.wninf
  · rw [eq_binary e91, hx, eq_binary e90, eq_unary e88, eq_ternary e82, eq_binary e79, eq_unary e78, eq_nullary c20, eq_binary e81, eq_unary e80, eq_nullary c21,
      eq_unary e89, eq_ternary e87, eq_binary e84, eq_unary e83, eq_nullary c22, eq_binary e86, eq_unary e85, eq_nullary c23, hr, hr']; rfl
  · rw [eq_unary e92, eq_nullary c24]

/-- The first orientation's loss, and the second up to its log weights. -/
theorem part2 (h : Sat W (main2 (F := Ideal) 0).1) {x : Sq}
    (hx : (W (Proc.devRef .tc main_arg0) : Sq) = x)
    (hr : (W (Proc.devRef .tc main_v18) : IVec S4096 32) = rows)
    (h91 : (W (Proc.devRef .tc main_v91) : Row) = entries x rows rows)
    (h92 : (W (Proc.devRef .tc main_v92) : IVec S4096 32) = broadcastInDim S4096 ![] bcast_S_S4096 (constantI S_ 32 0#32)) :
    (W (Proc.devRef .tc main_v110) : FVec Ideal S_ .f32) = half x (W (Proc.devRef .tc main_v77))
    ∧ (W (Proc.devRef .tc main_v111) : Sq) = transpose S4096x4096 [1, 0] x transposes_S4096x4096_S4096x4096_1_0
    ∧ (W (Proc.devRef .tc main_v117) : IVec S4096x4096 1) = neq
    ∧ (W (Proc.devRef .tc main_v118) : IVec S4096 32) = rows
    ∧ (W (Proc.devRef .tc main_v119) : IVec S4096 32) = rows
    ∧ (W (Proc.devRef .tc main_v126) : Sq) = dist (W (Proc.devRef .tc main_v111))
    ∧ (W (Proc.devRef .tc main_v138) : Sq) = logw (dist (W (Proc.devRef .tc main_v111)))
    ∧ (W (Proc.devRef .tc main_v139) : IVec S4096x4096 1) = cmpf .oeq (Host.absf (W (Proc.devRef .tc main_v138) : Sq)) (fill 0x7F800000#32) := by
  obtain ⟨e93, c25, e94, e95, e96, c26, e97, e98, c27, e99, e100, e101, e102, e103, e104, e105, c28, e106, e107, e108, r0, r1, r2, c29, e110,
    e111, e112, e113, c30, e114, e115, e116, e117, e118, e119, c31, e120, e121, c32, e122, e123, e124, c33, e125, e126, e127, c34, e128, e129, e130,
    c35, e131, e132, c36, e133, e134, e135, c37, e136, e137, e138, i0, i1, i2, i3, -⟩ := h
  have hdist : (W (Proc.devRef .tc main_v126) : Sq) = dist (W (Proc.devRef .tc main_v111)) := by
    rw [eq_binary e126, eq_unary e124, eq_binary e123, eq_unary e122, eq_nullary c32, eq_binary e121, eq_unary e120, eq_nullary c31, eq_unary e125, eq_nullary c33]; rfl
  refine ⟨?_, ?_, ?_, eq_nullary e118, eq_nullary e119, hdist, ?_, ?_⟩
  · have q := get_binary r2
    rw [get_unary r1, get_nullary r0] at q
    have q109 : (W (Proc.devRef .tc main_v109) : Row) = (maximumf (W (Proc.devRef .tc main_v108) : Row) (broadcastInDim S4096 ![] bcast_S_S4096 (constant (F := Ideal) S_ .f32 0x00000000#32)) : Row) := q
    rw [eq_binary e110, eq_nullary c29, q109, eq_binary e108, h91, eq_binary e107, eq_unary e106, eq_nullary c28, eq_binary e105, hx, eq_binary e104,
      eq_unary e102, eq_ternary e96, eq_binary e93, h92, eq_binary e95, eq_unary e94, eq_nullary c25, hr, eq_unary e103, eq_ternary e101, eq_binary e98,
      eq_unary e97, eq_nullary c26, eq_binary e100, eq_unary e99, eq_nullary c27]; rfl
  · rw [eq_unary e111, hx]
  · rw [eq_unary e117, eq_binary e116, eq_binary e115, eq_nullary e112, eq_unary e114, eq_nullary c30, eq_nullary e113]; rfl
  · rw [← hdist, eq_binary e138, eq_binary e129, eq_unary e128, eq_nullary c34, eq_unary e127, eq_binary e137, eq_unary e136, eq_nullary c37, eq_unary e135,
      eq_binary e134, eq_unary e133, eq_nullary c36, eq_binary e132, eq_unary e131, eq_nullary c35, eq_binary e130]; rfl
  · have q := get_binary i3
    rw [get_unary i0, get_unary i2, get_nullary i1] at q
    exact q

/-- The second orientation from its weights to its picks. -/
theorem part3 (h : Sat W (main3 (F := Ideal) 0).1) {x : Sq}
    (hneq : (W (Proc.devRef .tc main_v117) : IVec S4096x4096 1) = neq)
    (hr : (W (Proc.devRef .tc main_v118) : IVec S4096 32) = rows)
    (hr' : (W (Proc.devRef .tc main_v119) : IVec S4096 32) = rows)
    (hdist : (W (Proc.devRef .tc main_v126) : Sq) = dist x)
    (hlogw : (W (Proc.devRef .tc main_v138) : Sq) = logw (dist x))
    (hinf : (W (Proc.devRef .tc main_v139) : IVec S4096x4096 1) = cmpf .oeq (Host.absf (W (Proc.devRef .tc main_v138) : Sq)) (fill 0x7F800000#32))
    {k0 k1 : BitVec 32} (hk0 : get (.of main_v11 : TRef sig ⟨S2, .i32⟩) W (ix1 0) = k0) (hk1 : get (.of main_v11 : TRef sig ⟨S2, .i32⟩) W (ix1 1) = k1) :
    ∃ u : Sq, (∀ i j, u (ix2 i j) = ((Noise.frac (RefNoise.word k0 k1 i j) : ℝ) : EReal))
      ∧ (∀ i f, (∀ j, scores x u (ix2 i j) = ((f j : ℝ) : EReal)) → (W (Proc.devRef .tc main_v177) : IVec S4096 32) (ix1 i) = BitVec.ofNat 32 (Spec.first f).val)
      ∧ (W (Proc.devRef .tc main_v182) : IVec S4096 32) = wrap rows
      ∧ (W (Proc.devRef .tc main_v184) : IVec S4096 1) = cmpi .slt rows (broadcastInDim S4096 ![] bcast_S_S4096 (constantI S_ 32 0#32))
      ∧ (W (Proc.devRef .tc main_c_52) : IVec S_ 32) = constantI S_ 32 4096#32 := by
  obtain ⟨e140, e141, e142, e143, c38, w0, w1, w2, c39, e145, e146, e147, e148, e149, c40, e150, e151, e152, e153, e154, c41, e155, e156, c42, e157, e158, e159, e160,
    c43, e161, e162, c44, e163, e164, e165, e166, e167, c45, p0, p1, p2, e169, c46, c47, h⟩ := h
  obtain ⟨hu, c48, e171, e172, e173, e174, e175, e176, a0, a1, a2, a3, a4, c49, e178, e179, c50, e180, e181, e182, c51, e183, e184, c52, -⟩ :=
    sat_append (l₁ := (uniform (F := Ideal) (.of main_v11) (.of main_cst_46) (.of main_cst_47) main_call10).1) (l₂ := [_, _, _, _, _, _, _, _, _, _, _, _, _, _, _, _, _, _, _, _, _, _, _]) h
  have hmask : (W (Proc.devRef .tc main_v144) : Sq) = masked (logw (dist x)) := by
    have q := get_ternary w2
    rw [get_unary w1, get_unary w0] at q
    refine q.trans ?_
    change select (W (Proc.devRef .tc main_v141) : IVec S4096x4096 1) (broadcastInDim S4096x4096 ![] bcast_S_S4096x4096 (W (Proc.devRef .tc main_cst_38) : FVec Ideal S_ .f32)) (W (Proc.devRef .tc main_v143) : Sq) = _
    rw [eq_binary e141, hinf, eq_binary e140, eq_nullary c38, eq_binary e143, eq_unary e142, hneq, hlogw]; rfl
  have htop : (W (Proc.devRef .tc main_v146) : FVec Ideal S4096x1 .f32) = broadcastInDim S4096x1 ![0] bcast_S4096_S4096x1_0 (top (masked (logw (dist x)))) := by
    rw [eq_unary e146, eq_binary e145, eq_nullary c39, hmask]; rfl
  have hwts : (W (Proc.devRef .tc main_v154) : Sq) = wts (masked (logw (dist x))) (dist x) := by
    rw [eq_binary e154, eq_unary e149, eq_binary e148, hmask, eq_unary e147, htop, eq_unary e153, eq_binary e152, hneq, eq_binary e151, hdist, eq_unary e150, eq_nullary c40]; rfl
  have hnrm : (W (Proc.devRef .tc main_v160) : Sq) = nrm (wts (masked (logw (dist x))) (dist x)) := by
    rw [eq_binary e160, eq_unary e159, eq_binary e158, eq_unary e156, eq_binary e155, eq_nullary c41, hwts, eq_unary e157, eq_nullary c42]; rfl
  have hlines : (W (Proc.devRef .tc main_v167) : Sq) = lines (nrm (wts (masked (logw (dist x))) (dist x))) := by
    rw [eq_binary e167, hnrm, eq_unary e166, eq_ternary e165, eq_binary e162, eq_unary e161, eq_nullary c43, eq_binary e164, eq_unary e163, eq_nullary c44, hr]; rfl
  have hlog : (W (Proc.devRef .tc main_v169) : Sq) = logits (lines (nrm (wts (masked (logw (dist x))) (dist x)))) := by
    have q := get_binary p2
    rw [get_unary p1, get_unary p0] at q
    have q168 : (W (Proc.devRef .tc main_v168) : Sq) = (maximumf (broadcastInDim S4096x4096 ![] bcast_S_S4096x4096 (W (Proc.devRef .tc main_cst_45) : FVec Ideal S_ .f32)) (W (Proc.devRef .tc main_v167) : Sq) : Sq) := q
    rw [eq_unary e169, q168, hlines, eq_nullary c45]; rfl
  have hsc : (W (Proc.devRef .tc main_v176) : Sq) = scores x (W (Proc.devRef .tc main_v170)) := by
    rw [eq_binary e176, hlog, eq_unary e175, eq_unary e174, eq_unary e173, eq_binary e172, eq_unary e171, eq_nullary c48]; rfl
  refine ⟨W (Proc.devRef .tc main_v170), fun i j => ?_, fun i f hf => ?_, ?_, ?_, eq_nullary c52⟩
  · refine RefNoise.uniform_val hk0 hk1 (fun j => ?_) (fun j => ?_) hu i j
    · exact (congrFun (eq_nullary c46) j).trans (wzero.trans EReal.coe_zero)
    · exact (congrFun (eq_nullary c47) j).trans (wone.trans EReal.coe_one)
  · change (get (.of main_v177 : TRef sig ⟨S4096, .i32⟩) W : IVec S4096 32) (ix1 i) = _
    refine (congrFun (get_quaternary a4) (ix1 i)).trans ?_
    refine RefPick.argmax_val (fun j => ?_) (fun j => ?_) RefPick.drop_ix2 ?_
    · rw [← hf, ← hsc]; rfl
    · exact congrFun (get_nullary a0) _
    · rw [get_nullary a1]; exact HalfVal.wninf
  · rw [eq_ternary e182, eq_binary e179, eq_unary e178, eq_nullary c49, eq_binary e181, eq_unary e180, eq_nullary c50, hr]; rfl
  · rw [eq_binary e184, eq_unary e183, eq_nullary c51, hr']

/-- The second orientation's loss, and the sum. -/
theorem part4 (h : Sat W (main4 (F := Ideal) 0).1) {x : Sq} {b : FVec Ideal S_ .f32}
    (hb : (W (Proc.devRef .tc main_v110) : FVec Ideal S_ .f32) = b)
    (hx : (W (Proc.devRef .tc main_v111) : Sq) = x)
    (hr : (W (Proc.devRef .tc main_v118) : IVec S4096 32) = rows)
    (hr' : (W (Proc.devRef .tc main_v119) : IVec S4096 32) = rows)
    (h182 : (W (Proc.devRef .tc main_v182) : IVec S4096 32) = wrap rows)
    (h184 : (W (Proc.devRef .tc main_v184) : IVec S4096 1) = cmpi .slt rows (broadcastInDim S4096 ![] bcast_S_S4096 (constantI S_ 32 0#32)))
    (h52 : (W (Proc.devRef .tc main_c_52) : IVec S_ 32) = constantI S_ 32 4096#32) (k : S1x1.Idx) :
    (W (Proc.devRef .tc main_v212) : FVec Ideal S1x1 .f32) k
      = b ix0 + half x (W (Proc.devRef .tc main_v177)) ix0 := by
  obtain ⟨e185, e186, e187, e188, e189, e190, e191, c53, e192, e193, c54, e194, e195, e196, c55, e197, e198, c56, e199, e200, e201, e202, e203, e204, e205,
    c57, e206, e207, e208, r0, r1, r2, c58, e210, e211, e212, -⟩ := h
  have h191 : (W (Proc.devRef .tc main_v191) : Row) = entries x rows rows := by
    rw [eq_binary e191, hx, eq_binary e190, eq_unary e188, h182, eq_unary e189, eq_ternary e187, h184, eq_binary e186, eq_unary e185, h52, hr']; rfl
  have hhalf : (W (Proc.devRef .tc main_v210) : FVec Ideal S_ .f32) = half x (W (Proc.devRef .tc main_v177)) := by
    have q := get_binary r2
    rw [get_unary r1, get_nullary r0] at q
    have q209 : (W (Proc.devRef .tc main_v209) : Row) = (maximumf (W (Proc.devRef .tc main_v208) : Row) (broadcastInDim S4096 ![] bcast_S_S4096 (constant (F := Ideal) S_ .f32 0x00000000#32)) : Row) := q
    rw [eq_binary e210, eq_nullary c58, q209, eq_binary e208, h191, eq_binary e207, eq_unary e206, eq_nullary c57, eq_binary e205, hx, eq_binary e204,
      eq_unary e202, eq_ternary e196, eq_binary e193, eq_unary e192, eq_nullary c53, eq_binary e195, eq_unary e194, eq_nullary c54, hr, eq_unary e203, eq_ternary e201, eq_binary e198,
      eq_unary e197, eq_nullary c55, eq_binary e200, eq_unary e199, eq_nullary c56]; rfl
  rw [eq_reshape e212, eq_binary e211, hhalf, hb]
  generalize half x _ = a
  exact congrArg₂ (fun p q : EReal => p + q) (congrArg b (funext fun a => a.elim0)) (congrArg a (funext fun a => a.elim0))

/-- The word the reference's first draw leaves at a row and a column. -/
def word1 (i j : Fin 4096) : BitVec 32 := RefNoise.word (RefNoise.subkey 0 0) (RefNoise.subkey 0 1) i j

/-- The word the reference's second draw leaves at a row and a column. -/
def word2 (i j : Fin 4096) : BitVec 32 := RefNoise.word (RefNoise.subkey 1 0) (RefNoise.subkey 1 1) i j

/-- The reference returns the two orientations' losses added. -/
theorem value (m : (ℓ : Loc nD τ sig) → Buf (Elt Ideal) ℓ) (d : Dev nD) {s : Fin 4096 → Fin 4096 → ℝ} {big : ℝ} (hbig : big ≤ -100)
    (hx : ∀ i j, (RefRun.fin m d (Proc.devRef .tc main_arg0) : Sq) (ix2 i j) = ((s i j : ℝ) : EReal))
    (hs0 : ∀ i j, 0 ≤ s i j) (hs1 : ∀ i j, s i j < 1) (k : S1x1.Idx) :
    (RefRun.fin m d (Proc.devRef .tc main_v212) : FVec Ideal S1x1 .f32) k
      = ((Spec.loss (13421773 / 2 ^ 26) big s (fun i j => Noise.noise (word1 i j))
          + Spec.loss (13421773 / 2 ^ 26) big (fun i j => s j i) (fun i j => Noise.noise (word2 i j)) : ℝ) : EReal) := by
  obtain ⟨h0, h⟩ := sat_append (l₁ := (main0 (F := Ideal) 0).1) (RefRun.fin_sat m d)
  obtain ⟨h1, h⟩ := sat_append (l₁ := (main1 (F := Ideal) 0).1) h
  obtain ⟨h2, h⟩ := sat_append (l₁ := (main2 (F := Ideal) 0).1) h
  obtain ⟨h3, h4⟩ := sat_append (l₁ := (main3 (F := Ideal) 0).1) h
  generalize RefRun.fin m d = W at *
  obtain ⟨⟨hk, hk'⟩, hneq, hr, hr', hdist, hmask, htop⟩ := part0 h0
  obtain ⟨u, hu, hb, h91, h92⟩ := part1 h1 rfl hneq hr hr' hdist hmask htop (hk 0) (hk 1)
  obtain ⟨h110, h111, hneq', hq, hq', hdist', hlogw', hinf'⟩ := part2 h2 rfl hr h91 h92
  obtain ⟨u', hu', hb', h182, h184, h52⟩ := part3 h3 hneq' hq hq' hdist' hlogw' hinf' (hk' 0) (hk' 1)
  rw [part4 h4 h110 rfl hq hq' h182 h184 h52 k, half_val hbig hx hs0 hs1 hu hb, half_val hbig (s := fun i j => s j i) (fun i j => ?_) (fun i j => hs0 j i) (fun i j => hs1 j i) hu' hb',
    ← EReal.coe_add]
  · rfl
  · rw [h111, ← hx j i]
    generalize (W (Proc.devRef .tc main_arg0) : Sq) = x
    pointwise

end Cert.RefValue

end
-- ==== Proof.KernelBlock.lean ====
module

public import proofs.«01_k».proof.Proof.Gen.KernelIdeal.Frame
public import proofs.«01_k».proof.Proof.Spec
public import proofs.«01_k».proof.Proof.HalfVal
public import proofs.«01_k».proof.Proof.RefPick
import Idealize.ShloMosaic.Lib.Pointwise

/-! # One block of the kernel

What the kernel computes from a block of 256 rows, over the reals: the masked log-weights and scores, the first maximum
of each row and of each column and the similarity there (the integer part of a packed number is thrown away), the
diagonal and the block's row losses. -/

@[expose] public section

set_option maxRecDepth 65536
set_option maxHeartbeats 400000

noncomputable section

namespace Cert.KernelBlock

open Cert.KernelIdeal Cert.KernelIdeal.Gen
open Idealize.ShloMosaic Idealize.ShloMosaic.TcCoe Idealize.SL.Sem Idealize.ShloMosaic.Pointwise

/-- A block of 256 rows. -/
abbrev Blk := FVec Ideal S256x4096 .f32

/-! ## Reductions and layouts -/

/-- Reducing a row: the entry at column `k`. -/
theorem lift_row (r : Fin 256) (k : Fin 4096) : reduces_S256x4096_S256.lift (ix1 r) k = ix2 r k := by
  funext a
  refine Fin.ext ?_
  match a with
  | 0 => rfl
  | 1 => rfl

/-- Reducing a column: the entry at row `k`. -/
theorem lift_col (c : Fin 4096) (k : Fin 256) : reduces_S256x4096_S4096.lift (ix1 c) k = ix2 k c := by
  funext a
  refine Fin.ext ?_
  match a with
  | 0 => rfl
  | 1 => rfl

/-- The greatest of a row. -/
theorem rowMax (x : Blk) (r : Fin 256) :
    multiReduction (F := Ideal) (φ := .f32) .maximumf [1] S256 x 0xFF800000#32 reduces_S256x4096_S256 (.inl rfl) rfl (ix1 r)
      = Finset.univ.fold max ⊥ fun k : Fin 4096 => x (ix2 r k) := by
  rw [← HalfVal.wninf]
  exact (Ideal.multiReduction_maximumf_single x _ _ _ _ _).trans
    (congrArg (fun f => Finset.univ.fold max _ f) (funext fun k => congrArg x (lift_row r k)))

/-- The greatest of a column. -/
theorem colMax (x : Blk) (c : Fin 4096) :
    multiReduction (F := Ideal) (φ := .f32) .maximumf [0] S4096 x 0xFF800000#32 reduces_S256x4096_S4096 (.inl rfl) rfl (ix1 c)
      = Finset.univ.fold max ⊥ fun k : Fin 256 => x (ix2 k c) := by
  rw [← HalfVal.wninf]
  exact (Ideal.multiReduction_maximumf_single x _ _ _ _ _).trans
    (congrArg (fun f => Finset.univ.fold max _ f) (funext fun k => congrArg x (lift_col c k)))

/-- The least of a row. -/
theorem rowMin (x : Blk) (r : Fin 256) :
    multiReduction (F := Ideal) (φ := .f32) .minimumf [1] S256 x 0x7F800000#32 reduces_S256x4096_S256 (.inl rfl) rfl (ix1 r)
      = Finset.univ.fold min ⊤ fun k : Fin 4096 => x (ix2 r k) := by
  rw [← HalfVal.winf]
  refine (multiReduction_minimumf_eq_fold _ _ _ _ _ _).trans ?_
  exact (reduces_S256x4096_S256.fold_filter_drop_single (min : EReal → EReal → EReal) _ x (ix1 r)).trans
    (congrArg (fun f => Finset.univ.fold min _ f) (funext fun k => congrArg x (lift_row r k)))

/-- The least of a column. -/
theorem colMin (x : Blk) (c : Fin 4096) :
    multiReduction (F := Ideal) (φ := .f32) .minimumf [0] S4096 x 0x7F800000#32 reduces_S256x4096_S4096 (.inl rfl) rfl (ix1 c)
      = Finset.univ.fold min ⊤ fun k : Fin 256 => x (ix2 k c) := by
  rw [← HalfVal.winf]
  refine (multiReduction_minimumf_eq_fold _ _ _ _ _ _).trans ?_
  exact (reduces_S256x4096_S4096.fold_filter_drop_single (min : EReal → EReal → EReal) _ x (ix1 c)).trans
    (congrArg (fun f => Finset.univ.fold min _ f) (funext fun k => congrArg x (lift_col c k)))

/-- The sum of a row. -/
theorem rowSum (x : Blk) (r : Fin 256) :
    multiReduction (F := Ideal) (φ := .f32) .add [1] S256 x 0x00000000#32 reduces_S256x4096_S256 (.inl rfl) rfl (ix1 r)
      = ∑ k : Fin 4096, x (ix2 r k) :=
  (Ideal.multiReduction_add_single x _ _ _ _ _).trans (Finset.sum_congr rfl fun k _ => congrArg x (lift_row r k))

/-- The sum of a column. -/
theorem colSum (x : Blk) (c : Fin 4096) :
    multiReduction (F := Ideal) (φ := .f32) .add [0] S4096 x 0x00000000#32 reduces_S256x4096_S4096 (.inl rfl) rfl (ix1 c)
      = ∑ k : Fin 256, x (ix2 k c) :=
  (Ideal.multiReduction_add_single x _ _ _ _ _).trans (Finset.sum_congr rfl fun k _ => congrArg x (lift_col c k))

/-- Row results as a column of the block. -/
theorem cast1 (x : FVec Ideal S256 .f32) (r : Fin 256) : shapeCast S256x1 x shapeCasts_S256_S256x1 (ix2 r 0) = x (ix1 r) := by
  pointwise

/-- Column results as a row of the block. -/
theorem cast2 (x : FVec Ideal S4096 .f32) (c : Fin 4096) : shapeCast S1x4096 x shapeCasts_S4096_S1x4096 (ix2 0 c) = x (ix1 c) := by
  pointwise

/-- A row cast to its own shape is itself. -/
theorem cast3 (x : FVec Ideal S1x4096 .f32) : shapeCast S1x4096 x shapeCasts_S1x4096_S1x4096 = x := by
  funext k; pointwise

/-- A block cast to its own shape is itself. -/
theorem cast4 (x : Blk) : shapeCast S256x4096 x shapeCasts_S256x4096_S256x4096 = x := by
  funext k; pointwise

/-- One number cast to its own shape is itself. -/
theorem cast5 (x : FVec Ideal S1x1 .f32) : shapeCast S1x1 x shapeCasts_S1x1_S1x1 = x := by
  funext k; pointwise

/-- Row results spread along their rows. -/
theorem spread1 (x : FVec Ideal S256x1 .f32) (r : Fin 256) (c : Fin 4096) :
    broadcastTo S256x4096 x broadcasts_S256x1_S256x4096 (ix2 r c) = x (ix2 r 0) := by
  pointwise

/-- Column results spread down their columns. -/
theorem spread2 (x : FVec Ideal S1x4096 .f32) (r : Fin 256) (c : Fin 4096) :
    broadcastTo S256x4096 x broadcasts_S1x4096_S256x4096 (ix2 r c) = x (ix2 0 c) := by
  pointwise

/-- The sum of all row results. -/
theorem total1 (x : FVec Ideal S256x1 .f32) :
    extractAt ![0, 0, 0] (shapeCast S1x1x1 (multiReduction (F := Ideal) (φ := .f32) .add [1, 2] S1
      (shapeCast S1x256x1 x shapeCasts_S256x1_S1x256x1) 0x00000000#32 reduces_S1x256x1_S1 (.inl rfl) rfl) shapeCasts_S1_S1x1x1) inpos_S1x1x1_p0_0_0
      = ∑ k : Fin 256, x (ix2 k 0) := by
  pointwise
  simp

/-- The sum of all column results. -/
theorem total2 (x : FVec Ideal S1x4096 .f32) :
    extractAt ![0, 0, 0] (shapeCast S1x1x1 (multiReduction (F := Ideal) (φ := .f32) .add [1, 2] S1
      (shapeCast S1x1x4096 x shapeCasts_S1x4096_S1x1x4096) 0x00000000#32 reduces_S1x1x4096_S1 (.inl rfl) rfl) shapeCasts_S1_S1x1x1) inpos_S1x1x1_p0_0_0
      = ∑ k : Fin 4096, x (ix2 0 k) := by
  pointwise
  simp

/-! ## Words -/

/-- The mask's value, a large negative number. -/
def big : ℝ := -(13234890 * 2 ^ 76)

/-- The mask lies far below every score. -/
theorem big_le : big ≤ -100 := by unfold big; norm_num

/-- The word of the mask. -/
theorem wbig : Ideal.ofBits .f32 0xF149F2CA#32 = ((big : ℝ) : EReal) := by
  unfold big; simp [Ideal.ofBits, Ideal.ieee, -EReal.coe_mul]

/-- The word of -255. -/
theorem w255 : Ideal.ofBits .f32 0xC37F0000#32 = ((-255 : ℝ) : EReal) := by
  simp [Ideal.ofBits, Ideal.ieee, -EReal.coe_mul]; norm_num

/-- The word of 8192. -/
theorem w8192 : Ideal.ofBits .f32 0x46000000#32 = ((8192 : ℝ) : EReal) := by
  simp [Ideal.ofBits, Ideal.ieee, -EReal.coe_mul]; norm_num

/-- The logarithm named in place of the clamp is the log-weight at distance one half. -/
theorem log_clamp : Real.log ((2 ^ 255 * 2 ^ 255 * 16 ^ 254 / 15 ^ 254) * Real.sqrt (16 / 15)) = Spec.clampW := by
  have h : (2 ^ 255 * 2 ^ 255 * 16 ^ 254 / 15 ^ 254 : ℝ) = 2 ^ 510 * (16 / 15) ^ 254 := by rw [div_pow, mul_div_assoc, ← pow_add]
  have hl : Real.log (15 / 16) = -Real.log (16 / 15) := by rw [← Real.log_inv]; norm_num
  rw [h, Real.log_mul (by positivity) (by positivity), Real.log_mul (by positivity) (by positivity), Real.log_pow, Real.log_pow,
    Real.log_sqrt (by norm_num), Spec.clampW, hl]
  push_cast
  ring

/-- The named constant is that log-weight. -/
theorem clamp : Named.named (F := Ideal) κ "lw_clamp" (φ := .f32) 0x43B8F70E#32 = ((Spec.clampW : ℝ) : EReal) := by
  rw [← log_clamp]
  unfold κ
  refine congrArg Real.toEReal (congrArg Real.log (congrArg₂ HMul.hMul ?_ rfl))
  norm_num

/-! ## First places -/

/-- A block has a first maximum. -/
theorem exists_first (f : Fin 256 → ℝ) : ∃ j, Spec.IsFirst f j := by
  obtain ⟨j, hj⟩ := Spec.exists_first fun j => f ⟨j.val % 256, Nat.mod_lt _ (by norm_num)⟩
  have hlt : j.val < 256 := by
    by_contra h
    have h1 := hj.2 ⟨j.val % 256, (Nat.mod_lt _ (by norm_num)).trans (by norm_num)⟩ (Fin.lt_def.2 ((Nat.mod_lt _ (by norm_num)).trans_le (not_lt.1 h)))
    simp at h1
  refine ⟨⟨j.val, hlt⟩, fun k => ?_, fun k hk => ?_⟩
  · have := hj.1 ⟨k.val, by omega⟩
    simpa [Nat.mod_eq_of_lt hlt, Nat.mod_eq_of_lt k.isLt] using this
  · have := hj.2 ⟨k.val, by omega⟩ hk
    simpa [Nat.mod_eq_of_lt hlt, Nat.mod_eq_of_lt k.isLt] using this

/-- The greatest of reals is the value at their first maximum. -/
theorem max_val {n : ℕ} {f : Fin n → ℝ} {g : Fin n → EReal} {j : Fin n} (hj : Spec.IsFirst f j) (hg : ∀ k, g k = (f k : EReal)) :
    Finset.univ.fold max ⊥ g = ((f j : ℝ) : EReal) := by
  refine le_antisymm (Finset.fold_max_le _ |>.2 ⟨bot_le, fun k _ => ?_⟩) (Finset.le_fold_max _ |>.2 (Or.inr ⟨j, Finset.mem_univ _, ?_⟩))
  · rw [hg]; exact EReal.coe_le_coe_iff.2 (hj.1 k)
  · rw [hg]

/-- The least packed number is that of the first maximum: place plus half the similarity. -/
theorem pick_val {n : ℕ} (hn : n ≤ 8192) {f s : Fin n → ℝ} {g : Fin n → EReal} {j : Fin n} (hj : Spec.IsFirst f j)
    (hs0 : ∀ k, 0 ≤ s k) (hs1 : ∀ k, s k < 1)
    (hg : ∀ k, g k = if f k = f j then ((k.val + 1 / 2 * s k : ℝ) : EReal) else ((8192 : ℝ) : EReal)) :
    Finset.univ.fold min ⊤ g = ((j.val + 1 / 2 * s j : ℝ) : EReal) := by
  refine le_antisymm (Finset.fold_min_le _ |>.2 (Or.inr ⟨j, Finset.mem_univ _, ?_⟩)) (Finset.le_fold_min _ |>.2 ⟨le_top, fun k _ => ?_⟩)
  · rw [hg, if_pos rfl]
  · rw [hg]
    have hb : (j.val : ℝ) + 1 ≤ 8192 := by exact_mod_cast (by omega : j.val + 1 ≤ 8192)
    have := hs1 j
    split_ifs with h
    · rw [EReal.coe_le_coe_iff]
      rcases lt_trichotomy k j with hk | hk | hk
      · exact absurd h (hj.2 k hk).ne
      · rw [hk]
      · have h1 : (j.val : ℝ) + 1 ≤ k.val := by exact_mod_cast (Fin.lt_def.1 hk)
        have := hs0 k
        linarith
    · rw [EReal.coe_le_coe_iff]; linarith

/-- Unpacking, over the extended reals. -/
theorem unpacked {n : ℕ} {s : ℝ} (h0 : 0 ≤ s) (h1 : s < 1) {p : EReal} (hp : p = ((n + 1 / 2 * s : ℝ) : EReal)) :
    Ideal.ofBits .f32 0x40000000#32 * (p - Ideal.liftRound Int.floor p) = ((s : ℝ) : EReal) := by
  rw [hp, HalfVal.w2]
  change ((2 : ℝ) : EReal) * (((n + 1 / 2 * s : ℝ) : EReal) - ((⌊(n + 1 / 2 * s : ℝ)⌋ : ℝ) : EReal)) = _
  rw [← EReal.coe_sub, ← EReal.coe_mul, Spec.unpack h0 h1]

end Cert.KernelBlock
-- ==== Proof.KernelStep.lean ====
module

public import proofs.«01_k».proof.Proof.Gen.KernelIdeal.Value
import Idealize.ShloMosaic.Lib.VecWindow
import Idealize.ShloMosaic.Lib.Tactic.Stretches

/-! # One grid point

What a grid point leaves in the carried arrays (each column's best score, its similarity, the diagonal, the running
total), as one function of the point's blocks and of what the point before left. -/

@[expose] public section

set_option maxRecDepth 65536
set_option maxHeartbeats 400000

noncomputable section

namespace Cert.KernelStep

open Cert.KernelIdeal Cert.KernelIdeal.Gen Cert.KernelIdeal.Value
open Idealize.ShloMosaic Idealize.ShloMosaic.TcCoe Idealize.SL.Sem

/-- A block of 256 rows. -/
abbrev Blk := Vec Ideal S256x4096 .f32
/-- A row of columns. -/
abbrev Cols := Vec Ideal S1x4096 .f32
/-- One number. -/
abbrev One := Vec Ideal S1x1 .f32

variable (i : grid0.Coords) (x0 x1 x2 : Blk) (xs0 xs1 xs2 : Cols) (xs3 : One)

/-- The row numbers within a block. -/
abbrev rows : IVec S256x4096 32 := iota Kind.tc S256x4096 32 [0] iota_S256x4096_d0_w32

/-- The next best scores. -/
def best : Cols := k0_pay8 (k0_pay21 (k0_pay12 i x0) x2) xs0 xs0
/-- The next similarities there. -/
def sim : Cols := k0_pay9 (k0_pay21 (k0_pay12 i x0) x2) (k0_pay22 x0 rows (k0_pay12 i x0) x2) xs0 xs1
/-- The next diagonal. -/
def dia : Cols := k0_pay6 (k0_pay15 i x0) xs2
/-- The next total. -/
def tot : One := k0_pay5 (k0_pay19 x0 (k0_pay14 i x0) (k0_pay16 i x0 x1) k0_pay17 (k0_pay18 i x0 x1)) xs3

section
variable (c : Dev nD)
  (a1 : Memref sig .tc .vmem S256x4096 .f32) (h1 : a1.IsWhole) (a2 : Memref sig .tc .vmem S256x4096 .f32) (h2 : a2.IsWhole)
  (a3 : Memref sig .tc .vmem S256x4096 .f32) (h3 : a3.IsWhole) (a4 : Memref sig .tc .vmem S1x1 .f32) (h4 : a4.IsWhole)
  (a5 : Memref sig .tc .vmem S1x4096 .f32) (h5 : a5.IsWhole) (a6 : Memref sig .tc .vmem S1x4096 .f32) (h6 : a6.IsWhole)
  (a7 : Memref sig .tc .vmem S1x4096 .f32) (h7 : a7.IsWhole) (a8 : Memref sig .tc .vmem S1x1 .f32) (h8 : a8.IsWhole)

/-- The first point starts each carried array afresh. -/
theorem point_A (hc0 : cond0_0 i) (hc1 : ¬cond0_1 i) :
    sout0_A_0 (F := Ideal) c i a1 h1 a2 h2 a3 h3 a4 h4 a5 h5 a6 h6 a7 h7 a8 h8 hc0 hc1 x0 x1 x2 = best i x0 x2 (k0_pay2 (F := Ideal))
    ∧ sout0_A_1 (F := Ideal) c i a1 h1 a2 h2 a3 h3 a4 h4 a5 h5 a6 h6 a7 h7 a8 h8 hc0 hc1 x0 x1 x2 = sim i x0 x2 (k0_pay2 (F := Ideal)) (k0_pay3 (F := Ideal))
    ∧ sout0_A_2 (F := Ideal) c i a1 h1 a2 h2 a3 h3 a4 h4 a5 h5 a6 h6 a7 h7 a8 h8 hc0 hc1 x0 x1 x2 = dia i x0 (k0_pay4 (F := Ideal))
    ∧ sout0_A_3 (F := Ideal) c i a1 h1 a2 h2 a3 h3 a4 h4 a5 h5 a6 h6 a7 h7 a8 h8 hc0 hc1 x0 x1 x2 = tot i x0 x1 (k0_pay1 (F := Ideal)) := by
  unfold sout0_A_0 sout0_A_1 sout0_A_2 sout0_A_3 kernelRun0_A best sim dia tot rows
  dsimp only
  refine ⟨?_, ?_, ?_, ?_⟩
  all_goals
    rw [View.read_writes_full]
    sl_open_run
    repeat first | rw [View.readCov_full] | rw [View.readAt_full] | rw [h1.read_unread] | rw [h2.read_unread] | rw [h3.read_unread]

/-- A later point updates them. -/
theorem point_B (hc0 : ¬cond0_0 i) (hc1 : ¬cond0_1 i) :
    sout0_B_0 (F := Ideal) c i a1 h1 a2 h2 a3 h3 a4 h4 a5 h5 a6 h6 a7 h7 a8 h8 hc0 hc1 x0 x1 x2 xs0 xs1 xs2 xs3 = best i x0 x2 xs0
    ∧ sout0_B_1 (F := Ideal) c i a1 h1 a2 h2 a3 h3 a4 h4 a5 h5 a6 h6 a7 h7 a8 h8 hc0 hc1 x0 x1 x2 xs0 xs1 xs2 xs3 = sim i x0 x2 xs0 xs1
    ∧ sout0_B_2 (F := Ideal) c i a1 h1 a2 h2 a3 h3 a4 h4 a5 h5 a6 h6 a7 h7 a8 h8 hc0 hc1 x0 x1 x2 xs0 xs1 xs2 xs3 = dia i x0 xs2
    ∧ sout0_B_3 (F := Ideal) c i a1 h1 a2 h2 a3 h3 a4 h4 a5 h5 a6 h6 a7 h7 a8 h8 hc0 hc1 x0 x1 x2 xs0 xs1 xs2 xs3 = tot i x0 x1 xs3 := by
  unfold sout0_B_0 sout0_B_1 sout0_B_2 sout0_B_3 kernelRun0_B best sim dia tot rows
  dsimp only
  refine ⟨?_, ?_, ?_, ?_⟩
  all_goals
    rw [View.read_writes_full]
    sl_open_run
    repeat first | rw [View.readCov_full] | rw [View.readAt_full] | rw [h1.read_unread] | rw [h2.read_unread] | rw [h3.read_unread] | rw [h5.read_unread] | rw [h6.read_unread] | rw [h7.read_unread] | rw [h8.read_unread]

/-- The last point also writes the result, from the arrays it has just updated. -/
theorem point_C (hc0 : ¬cond0_0 i) (hc1 : cond0_1 i) :
    out0_C_3 (F := Ideal) c i a1 h1 a2 h2 a3 h3 a4 h4 a5 h5 a6 h6 a7 h7 a8 h8 hc0 hc1 x0 x1 x2 xs0 xs1 xs2 xs3
      = k0_pay10 (sim i x0 x2 xs0 xs1) (dia i x0 xs2) (tot i x0 x1 xs3) := by
  unfold out0_C_3 kernelRun0_C sim dia tot rows
  dsimp only
  rw [View.read_writes_full]
  sl_open_run
  repeat first | rw [View.readCov_full] | rw [View.readAt_full] | rw [h1.read_unread] | rw [h2.read_unread] | rw [h3.read_unread] | rw [h5.read_unread] | rw [h6.read_unread] | rw [h7.read_unread] | rw [h8.read_unread]

end

/-- What the carried arrays hold, together. -/
abbrev St := Cols × Cols × Cols × One

/-- The update. -/
def nxt (s : St) : St := (best i x0 x2 s.1, sim i x0 x2 s.1 s.2.1, dia i x0 s.2.2.1, tot i x0 x1 s.2.2.2)

/-- The start. -/
def start : St := ((k0_pay2 (F := Ideal)), (k0_pay3 (F := Ideal)), (k0_pay4 (F := Ideal)), (k0_pay1 (F := Ideal)))

attribute [local irreducible] best sim dia tot

variable (m : (ℓ : Loc nD τ sig) → Buf (Elt Ideal) ℓ) (c : Dev nD)

/-- The update at a point of the grid. -/
def upd (t : Fin cfg0.N) (s : St) : St := nxt (grid0.coords t) (iblk m c 0 t) (iblk m c 1 t) (iblk m c 2 t) s

/-- The first point's arrays. -/
theorem at_A (t : Fin cfg0.N) (acc) (q0 : t.val % 16 = 0) (q1 : ¬t.val % 16 = 15) :
    (stAt0 m c t.val t.isLt acc).2 = upd m c t start := by
  obtain ⟨e0, e1, e2, e3⟩ := point_A (grid0.coords t) (iblk m c 0 t) (iblk m c 1 t) (iblk m c 2 t) c
    (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    ((hcond0_0 t).mpr q0) (fun q => q1 ((hcond0_1 t).mp q))
  rw [stAt0_A m c t acc q0 q1]
  unfold upd nxt start
  rw [← e0, ← e1, ← e2, ← e3]

/-- A later point's arrays. -/
theorem at_B (t : Fin cfg0.N) (acc) (q0 : ¬t.val % 16 = 0) (q1 : ¬t.val % 16 = 15) :
    (stAt0 m c t.val t.isLt acc).2 = upd m c t acc.2 := by
  obtain ⟨o, s0, s1, s2, s3⟩ := acc
  obtain ⟨e0, e1, e2, e3⟩ := point_B (grid0.coords t) (iblk m c 0 t) (iblk m c 1 t) (iblk m c 2 t) s0 s1 s2 s3 c
    (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (fun q => q0 ((hcond0_0 t).mp q)) (fun q => q1 ((hcond0_1 t).mp q))
  rw [stAt0_B m c t _ q0 q1]
  unfold upd nxt
  rw [← e0, ← e1, ← e2, ← e3]

/-- The last point's result. -/
theorem at_C (t : Fin cfg0.N) (acc) (q0 : ¬t.val % 16 = 0) (q1 : t.val % 16 = 15) :
    (stAt0 m c t.val t.isLt acc).1
      = k0_pay10 (upd m c t acc.2).2.1 (upd m c t acc.2).2.2.1 (upd m c t acc.2).2.2.2 := by
  obtain ⟨o, s0, s1, s2, s3⟩ := acc
  have e := point_C (grid0.coords t) (iblk m c 0 t) (iblk m c 1 t) (iblk m c 2 t) s0 s1 s2 s3 c
    (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (fun q => q0 ((hcond0_0 t).mp q)) ((hcond0_1 t).mpr q1)
  rw [stAt0_C m c t _ q0 q1]
  unfold upd nxt
  rw [← e]

/-- The carried arrays after a point. -/
def st : (n : ℕ) → n < cfg0.N → St
  | 0, h => upd m c ⟨0, h⟩ start
  | n + 1, h => upd m c ⟨n + 1, h⟩ (st n (Nat.lt_of_succ_lt h))

/-- After the first point: the update of the start. -/
theorem st_zero (h : 0 < cfg0.N) : st m c 0 h = upd m c ⟨0, h⟩ start := rfl

/-- After a later point: the update of what was there. -/
theorem st_succ (n : ℕ) (h : n + 1 < cfg0.N) : st m c (n + 1) h = upd m c ⟨n + 1, h⟩ (st m c n (Nat.lt_of_succ_lt h)) := rfl

/-- Before the last point the run holds just those. -/
theorem outs_st (n : ℕ) (h : n < cfg0.N) (h15 : n < 15) : (outsAt0 m c n h).2 = st m c n h := by
  induction n with
  | zero => rw [outsAt0_zero, at_A m c ⟨0, h⟩ _ (Nat.zero_mod _) (fun q => absurd q (by simp)), st_zero]
  | succ n ih =>
    rw [outsAt0_succ, at_B m c ⟨n + 1, h⟩ _ (fun q => by simp only at q; omega) (fun q => by simp only at q; omega), st_succ,
      ih (Nat.lt_of_succ_lt h) (by omega)]

/-- At the last point the result is written from the carried arrays. -/
theorem outs_last (n : ℕ) (h : n + 1 < cfg0.N) (hn : n + 1 = 15) :
    (outsAt0 m c (n + 1) h).1 = k0_pay10 (st m c (n + 1) h).2.1 (st m c (n + 1) h).2.2.1 (st m c (n + 1) h).2.2.2 := by
  rw [outsAt0_succ, at_C m c ⟨n + 1, h⟩ _ (fun q => by simp only at q; omega) (by simp only; omega), st_succ,
    outs_st m c n (Nat.lt_of_succ_lt h) (by omega)]

/-- The same, the last point given by its number. -/
theorem outs_end (k : ℕ) (hk : k = 15) (h : k < cfg0.N) :
    (outsAt0 m c k h).1 = k0_pay10 (st m c k h).2.1 (st m c k h).2.2.1 (st m c k h).2.2.2 := by
  obtain ⟨n, rfl⟩ : ∃ n, k = n + 1 := ⟨14, hk⟩
  exact outs_last m c n h hk

/-- The result array: the last point's result, from the carried arrays. -/
theorem result (k : ℕ) (hk : k = 15) (h : k < cfg0.N) : (G3 m c : One)
    = k0_pay10 (st m c k h).2.1 (st m c k h).2.2.1 (st m c k h).2.2.2 := by
  refine Eq.trans ?_ (outs_end m c k hk h)
  subst hk
  exact (G3_last m c).trans (congrArg Prod.fst (outsAt0_sweep m c 15 h).symm)

end Cert.KernelStep

end
-- ==== Proof.KernelPay.lean ====
module

public import proofs.«01_k».proof.Proof.KernelBlock
public import proofs.«01_k».proof.Proof.KernelStep

/-! # The kernel's arrays after a block

What the kernel makes of its carried arrays from a block of 256 rows whose entries are known reals. -/

@[expose] public section

set_option maxRecDepth 65536
set_option maxHeartbeats 400000

noncomputable section

namespace Cert.KernelPay

open Cert.KernelIdeal Cert.KernelIdeal.Gen Cert.KernelBlock
open Idealize.ShloMosaic Idealize.ShloMosaic.TcCoe Idealize.SL.Sem Idealize.ShloMosaic.Pointwise

/-! ## Elementwise steps -/

/-- A packed number, where the score is best, and 8192 elsewhere. -/
theorem packed_at (a b d x : Blk) (r : Fin 256) (c : Fin 4096) :
    select (cmpf .oeq a b) (addf d (mulf (broadcast S256x4096 (Scalar.ofBits (F := Ideal) .f32 0x3F000000#32)) x))
        (broadcast S256x4096 (Scalar.ofBits (F := Ideal) .f32 0x46000000#32)) (ix2 r c)
      = Scalar.select (BitVec.ofBool (decide (a (ix2 r c) = b (ix2 r c)))) (d (ix2 r c) + Ideal.ofBits .f32 0x3F000000#32 * x (ix2 r c))
        (Ideal.ofBits .f32 0x46000000#32) := rfl

/-- Twice what is left of a packed number without its integer part. -/
theorem halves_at (p : FVec Ideal S1x4096 .f32) (c : Fin 4096) :
    mulf (broadcast S1x4096 (Scalar.ofBits (F := Ideal) .f32 0x40000000#32)) (subf p (floor p)) (ix2 0 c)
      = Ideal.ofBits .f32 0x40000000#32 * (p (ix2 0 c) - Ideal.liftRound Int.floor (p (ix2 0 c))) := rfl

/-- A choice between two rows by which of two others is greater. -/
theorem keep_at (a b x y : FVec Ideal S1x4096 .f32) (c : Fin 4096) :
    select (cmpf .ogt a b) x y (ix2 0 c) = Scalar.select (BitVec.ofBool (decide (b (ix2 0 c) < a (ix2 0 c)))) (x (ix2 0 c)) (y (ix2 0 c)) := rfl

/-- A hinge, of a packed number and an entry of the diagonal. -/
theorem hinges_at (p v : FVec Ideal S256x1 .f32) (r : Fin 256) :
    maximumf (subf (addf (broadcast S256x1 (Scalar.ofBits (F := Ideal) .f32 0x3E4CCCCD#32))
        (mulf (broadcast S256x1 (Scalar.ofBits (F := Ideal) .f32 0x40000000#32)) (subf p (floor p)))) v)
        (broadcast S256x1 (Scalar.ofBits (F := Ideal) .f32 0x00000000#32)) (ix2 r 0)
      = max (Ideal.ofBits .f32 0x3E4CCCCD#32 + Ideal.ofBits .f32 0x40000000#32 * (p (ix2 r 0) - Ideal.liftRound Int.floor (p (ix2 r 0)))
        - v (ix2 r 0)) (Ideal.ofBits .f32 0x00000000#32) := rfl

/-- The row numbers. -/
theorem iota0_at (r : Fin 256) (c : Fin 4096) :
    iota Kind.tc S256x4096 32 [0] iota_S256x4096_d0_w32 (ix2 r c) = BitVec.ofNat 32 r.val := by
  pointwise

/-- The column numbers. -/
theorem iota1_at (r : Fin 256) (c : Fin 4096) :
    iota Kind.tc S256x4096 32 [1] iota_S256x4096_d1_w32 (ix2 r c) = BitVec.ofNat 32 c.val := by
  pointwise

/-- A word as a real. -/
theorem real_at (x : IVec S256x4096 32) (k : S256x4096.Idx) : (sitofp (F := Ideal) .f32 x : Blk) k = ((((x k).toInt : ℤ) : ℝ) : EReal) := rfl

/-- Where two arrays of words differ, the first shifted. -/
theorem differ_at (x y : IVec S256x4096 32) (b : BitVec 32) (k : S256x4096.Idx) :
    cmpi .ne (addi x (broadcast S256x4096 b)) y k = BitVec.ofBool (decide (x k + b ≠ y k)) := by
  rw [show decide (x k + b ≠ y k) = !decide (x k + b = y k) from decide_not]
  rfl

variable (i : grid0.Coords) {x0 x1 x2 : Blk} {s g1 g2 : Fin 4096 → Fin 4096 → ℝ}

/-- There are sixteen points. -/
theorem point_lt : (i 0).val < 16 := (i 0).isLt

/-- The row of the array at a row of the block. -/
def row (r : Fin 256) : Fin 4096 := ⟨256 * (i 0).val + r.val, by have := point_lt i; omega⟩

/-- The entries off the diagonal. -/
theorem off_at (r : Fin 256) (c : Fin 4096) : k0_pay11 i (ix2 r c) = if row i r = c then 0#1 else 1#1 := by
  have h := point_lt i
  refine (differ_at _ _ _ _).trans ?_
  rw [iota0_at, iota1_at]
  change BitVec.ofBool (decide (BitVec.ofNat 32 r.val + BitVec.ofNat 32 (i 0).val * 256#32 ≠ BitVec.ofNat 32 c.val)) = _
  have e : (BitVec.ofNat 32 r.val + BitVec.ofNat 32 (i 0).val * 256#32 = BitVec.ofNat 32 c.val) ↔ row i r = c := by
    rw [← BitVec.toNat_inj, BitVec.toNat_add, BitVec.toNat_mul, BitVec.toNat_ofNat, BitVec.toNat_ofNat, BitVec.toNat_ofNat,
      BitVec.toNat_ofNat, Fin.ext_iff]
    unfold row
    simp only
    omega
  by_cases hc : row i r = c
  · rw [if_pos hc, e.2 hc]; simp
  · rw [if_neg hc]
    simp [mt e.1 hc]

/-- The masked log-weights. -/
theorem weight_at (hs0 : ∀ a b, 0 ≤ s a b) (hs1 : ∀ a b, s a b < 1) (h0 : ∀ r c, x0 (ix2 r c) = ((s (row i r) c : ℝ) : EReal)) (r : Fin 256) (c : Fin 4096) :
    k0_pay12 (F := Ideal) i x0 (ix2 r c) = (((if row i r = c then big else Spec.lw (s (row i r) c)) : ℝ) : EReal) := by
  change Scalar.select (k0_pay11 i (ix2 r c))
    (Scalar.select (BitVec.ofBool (decide (Ideal.ofBits .f32 0x40000000#32 - Ideal.ofBits .f32 0x40000000#32 * x0 (ix2 r c) ≤ Ideal.ofBits .f32 0x3E800000#32)))
      (Named.named (F := Ideal) κ "lw_clamp" (φ := .f32) 0x43B8F70E#32)
      (Ideal.ofBits .f32 0xC37F0000#32 * Ideal.log (Ideal.ofBits .f32 0x40000000#32 - Ideal.ofBits .f32 0x40000000#32 * x0 (ix2 r c))
        - Ideal.ofBits .f32 0x437E8000#32 * Ideal.log (Ideal.ofBits .f32 0x3F800000#32
          - Ideal.ofBits .f32 0x3E800000#32 * (Ideal.ofBits .f32 0x40000000#32 - Ideal.ofBits .f32 0x40000000#32 * x0 (ix2 r c)))))
    (Ideal.ofBits .f32 0xF149F2CA#32) = _
  rw [off_at, h0, HalfVal.w2, HalfVal.w025, w255, HalfVal.w254, HalfVal.wone, wbig, clamp]
  generalize row i r = a
  have p0 := hs0 a c
  have p1 := hs1 a c
  rw [← EReal.coe_mul, ← EReal.coe_sub, ← EReal.coe_mul, ← EReal.coe_sub, Noise.log_pos (by linarith), Noise.log_pos (by linarith),
    ← EReal.coe_mul, ← EReal.coe_mul, ← EReal.coe_sub]
  by_cases hc : a = c
  · rw [if_pos hc, if_pos hc]; rfl
  · rw [if_neg hc, if_neg hc]
    unfold Spec.lw
    by_cases hl : 2 - 2 * s a c ≤ 1 / 4
    · rw [if_pos hl, decide_eq_true (EReal.coe_le_coe_iff.2 hl)]; rfl
    · rw [if_neg hl, decide_eq_false (fun h => hl (EReal.coe_le_coe_iff.1 h))]; rfl

/-- The diagonal alone. -/
theorem only_at (h0 : ∀ r c, x0 (ix2 r c) = ((s (row i r) c : ℝ) : EReal)) (r : Fin 256) (c : Fin 4096) :
    k0_pay13 (F := Ideal) i x0 (ix2 r c) = (((if row i r = c then s c c else 0) : ℝ) : EReal) := by
  change Scalar.select (k0_pay11 i (ix2 r c)) (Ideal.ofBits .f32 0x00000000#32) (x0 (ix2 r c)) = _
  rw [off_at, h0, HalfVal.wzero]
  by_cases hc : row i r = c
  · rw [if_pos hc, if_pos hc, hc]; rfl
  · rw [if_neg hc, if_neg hc]; rfl

/-- The block's rows' own entries. -/
theorem own_at (h0 : ∀ r c, x0 (ix2 r c) = ((s (row i r) c : ℝ) : EReal)) (r : Fin 256) :
    k0_pay14 (F := Ideal) i x0 (ix2 r 0) = ((s (row i r) (row i r) : ℝ) : EReal) := by
  refine (cast1 _ r).trans ((rowSum _ r).trans ?_)
  rw [Finset.sum_congr rfl fun k _ => only_at i h0 r k, HalfVal.sum_coe, Finset.sum_ite_eq, if_pos (Finset.mem_univ _)]

/-- The scores of a row. -/
theorem score_at (hs0 : ∀ a b, 0 ≤ s a b) (hs1 : ∀ a b, s a b < 1) (h0 : ∀ r c, x0 (ix2 r c) = ((s (row i r) c : ℝ) : EReal)) (h1 : ∀ r c, x1 (ix2 r c) = ((g1 (row i r) c : ℝ) : EReal))
    (r : Fin 256) (c : Fin 4096) :
    k0_pay16 (F := Ideal) i x0 x1 (ix2 r c) = ((Spec.score big (row i r) (s (row i r)) (g1 (row i r)) c : ℝ) : EReal) := by
  unfold k0_pay16
  rw [cast4]
  refine (congrArg₂ (fun a b : EReal => a + b) (weight_at i hs0 hs1 h0 r c) (h1 r c)).trans ?_
  rw [← EReal.coe_add]
  rfl

/-- A row's best score, along the row. -/
theorem rowbest_at (hs0 : ∀ a b, 0 ≤ s a b) (hs1 : ∀ a b, s a b < 1) (h0 : ∀ r c, x0 (ix2 r c) = ((s (row i r) c : ℝ) : EReal)) (h1 : ∀ r c, x1 (ix2 r c) = ((g1 (row i r) c : ℝ) : EReal))
    {r : Fin 256} {j : Fin 4096} (hj : Spec.IsFirst (Spec.score big (row i r) (s (row i r)) (g1 (row i r))) j) (c : Fin 4096) :
    k0_pay18 (F := Ideal) i x0 x1 (ix2 r c) = ((Spec.score big (row i r) (s (row i r)) (g1 (row i r)) j : ℝ) : EReal) := by
  unfold k0_pay18
  refine (spread1 _ r c).trans ((cast1 _ r).trans ((rowMax _ r).trans ?_))
  exact max_val hj fun k => score_at i hs0 hs1 h0 h1 r k

/-- The place of a column, as a real. -/
theorem place_at (r : Fin 256) (c : Fin 4096) : k0_pay17 (F := Ideal) (ix2 r c) = ((c.val : ℝ) : EReal) := by
  refine (real_at _ _).trans ?_
  rw [iota1_at, RefPick.toInt_ofNat, Int.cast_natCast]

/-- One row's loss, over the reals. -/
def rowLoss (s g : Fin 4096 → Fin 4096 → ℝ) (a : Fin 4096) : ℝ :=
  max (13421773 / 2 ^ 26 + s a (Spec.first (Spec.score big a (s a) (g a))) - s a a) 0

/-- The next total adds the block's. -/
theorem add_at (v x : FVec Ideal S1x1 .f32) (k : S1x1.Idx) : k0_pay5 (F := Ideal) v x k = x k + v k := by
  unfold k0_pay5
  exact congrFun (cast5 _) k

/-- The sum of the hinges. -/
theorem hinge_total (p v : FVec Ideal S256x1 .f32) (k : S1x1.Idx) :
    broadcast S1x1 (extractAt ![0, 0, 0] (shapeCast S1x1x1 (multiReduction (F := Ideal) (φ := .f32) .add [1, 2] S1
      (shapeCast S1x256x1 (maximumf (subf (addf (broadcast S256x1 (Scalar.ofBits (F := Ideal) .f32 0x3E4CCCCD#32))
        (mulf (broadcast S256x1 (Scalar.ofBits (F := Ideal) .f32 0x40000000#32)) (subf p (floor p)))) v)
        (broadcast S256x1 (Scalar.ofBits (F := Ideal) .f32 0x00000000#32))) shapeCasts_S256x1_S1x256x1)
        0x00000000#32 reduces_S1x256x1_S1 (.inl rfl) rfl) shapeCasts_S1_S1x1x1) inpos_S1x1x1_p0_0_0) k
      = ∑ r : Fin 256, max (Ideal.ofBits .f32 0x3E4CCCCD#32 + Ideal.ofBits .f32 0x40000000#32
        * (p (ix2 r 0) - Ideal.liftRound Int.floor (p (ix2 r 0))) - v (ix2 r 0)) (Ideal.ofBits .f32 0x00000000#32) :=
  (total1 _).trans (Finset.sum_congr rfl fun r _ => hinges_at p v r)

/-- The block's hinges summed, of the rows' least packed numbers. -/
theorem hinges_sum (x a d b : Blk) (v : FVec Ideal S256x1 .f32) (k : S1x1.Idx) :
    k0_pay19 (F := Ideal) x v a d b k = ∑ r : Fin 256, max (Ideal.ofBits .f32 0x3E4CCCCD#32 + Ideal.ofBits .f32 0x40000000#32
      * ((Finset.univ.fold min ⊤ fun c : Fin 4096 => Scalar.select (BitVec.ofBool (decide (a (ix2 r c) = b (ix2 r c))))
          (d (ix2 r c) + Ideal.ofBits .f32 0x3F000000#32 * x (ix2 r c)) (Ideal.ofBits .f32 0x46000000#32))
        - Ideal.liftRound Int.floor (Finset.univ.fold min ⊤ fun c : Fin 4096 => Scalar.select (BitVec.ofBool (decide (a (ix2 r c) = b (ix2 r c))))
          (d (ix2 r c) + Ideal.ofBits .f32 0x3F000000#32 * x (ix2 r c)) (Ideal.ofBits .f32 0x46000000#32)))
      - v (ix2 r 0)) (Ideal.ofBits .f32 0x00000000#32) := by
  unfold k0_pay19
  refine (hinge_total _ v k).trans (Finset.sum_congr rfl fun r _ => ?_)
  rw [cast1, rowMin]
  simp only [packed_at]

/-- The block's total. -/
theorem tot_at (hs0 : ∀ a b, 0 ≤ s a b) (hs1 : ∀ a b, s a b < 1) (h0 : ∀ r c, x0 (ix2 r c) = ((s (row i r) c : ℝ) : EReal)) (h1 : ∀ r c, x1 (ix2 r c) = ((g1 (row i r) c : ℝ) : EReal))
    {xs3 : FVec Ideal S1x1 .f32} {T : ℝ} (h3 : ∀ k, xs3 k = (T : EReal)) (k : S1x1.Idx) :
    KernelStep.tot i x0 x1 xs3 k = ((T + ∑ r : Fin 256, rowLoss s g1 (row i r) : ℝ) : EReal) := by
  unfold KernelStep.tot
  rw [add_at, h3, hinges_sum, EReal.coe_add, ← HalfVal.sum_coe]
  refine congrArg (fun b : EReal => (T : EReal) + b) (Finset.sum_congr rfl fun r _ => ?_)
  have hj := Spec.first_spec (Spec.score big (row i r) (s (row i r)) (g1 (row i r)))
  unfold rowLoss
  generalize Spec.first (Spec.score big (row i r) (s (row i r)) (g1 (row i r))) = j at hj ⊢
  rw [unpacked (n := j.val) (hs0 (row i r) j) (hs1 (row i r) j)
    (pick_val (by norm_num) hj (hs0 (row i r)) (hs1 (row i r)) fun c => ?_), own_at i h0 r, HalfVal.wmargin, HalfVal.wzero, ← EReal.coe_add, ← EReal.coe_sub, HalfVal.coe_max]
  rw [score_at i hs0 hs1 h0 h1, rowbest_at i hs0 hs1 h0 h1 hj, place_at, h0, HalfVal.w05, w8192, ← EReal.coe_mul, ← EReal.coe_add]
  by_cases hc : Spec.score big (row i r) (s (row i r)) (g1 (row i r)) c = Spec.score big (row i r) (s (row i r)) (g1 (row i r)) j
  · rw [if_pos hc, hc, decide_eq_true rfl]; rfl
  · rw [if_neg hc, decide_eq_false (fun h => hc (EReal.coe_eq_coe_iff.1 h))]; rfl

/-! ## Columns -/

/-- The scores of a column. -/
abbrev colScore (s g : Fin 4096 → Fin 4096 → ℝ) (c : Fin 4096) : Fin 4096 → ℝ := Spec.score big c (fun a => s a c) (g c)

/-- The scores down a column. -/
theorem colscore_at (hs0 : ∀ a b, 0 ≤ s a b) (hs1 : ∀ a b, s a b < 1) (h0 : ∀ r c, x0 (ix2 r c) = ((s (row i r) c : ℝ) : EReal))
    (h2 : ∀ r c, x2 (ix2 r c) = ((g2 c (row i r) : ℝ) : EReal)) (r : Fin 256) (c : Fin 4096) :
    k0_pay20 (F := Ideal) (k0_pay12 i x0) x2 (ix2 r c) = ((colScore s g2 c (row i r) : ℝ) : EReal) := by
  unfold k0_pay20
  rw [cast4]
  refine (congrArg₂ (fun a b : EReal => a + b) (weight_at i hs0 hs1 h0 r c) (h2 r c)).trans ?_
  rw [← EReal.coe_add]
  unfold colScore Spec.score
  by_cases hc : row i r = c
  · rw [if_pos hc, if_pos hc.symm]
  · rw [if_neg hc, if_neg (fun h => hc h.symm)]

/-- A column's best score within the block. -/
theorem colbest_at (hs0 : ∀ a b, 0 ≤ s a b) (hs1 : ∀ a b, s a b < 1) (h0 : ∀ r c, x0 (ix2 r c) = ((s (row i r) c : ℝ) : EReal))
    (h2 : ∀ r c, x2 (ix2 r c) = ((g2 c (row i r) : ℝ) : EReal)) {c : Fin 4096} {q : Fin 256}
    (hq : Spec.IsFirst (fun r => colScore s g2 c (row i r)) q) :
    k0_pay21 (F := Ideal) (k0_pay12 i x0) x2 (ix2 0 c) = ((colScore s g2 c (row i q) : ℝ) : EReal) := by
  unfold k0_pay21
  exact (cast2 _ c).trans ((colMax _ c).trans (max_val hq fun r => colscore_at i hs0 hs1 h0 h2 r c))

/-- The place within the block, as a real. -/
theorem local_at (r : Fin 256) (c : Fin 4096) :
    (sitofp (F := Ideal) .f32 KernelStep.rows : Blk) (ix2 r c) = ((r.val : ℝ) : EReal) := by
  refine (real_at _ _).trans ?_
  rw [show KernelStep.rows (ix2 r c) = BitVec.ofNat 32 r.val from iota0_at r c, RefPick.toInt_ofNat ⟨r.val, by omega⟩, Int.cast_natCast]

/-- The similarity there. -/
theorem colsim_at (hs0 : ∀ a b, 0 ≤ s a b) (hs1 : ∀ a b, s a b < 1) (h0 : ∀ r c, x0 (ix2 r c) = ((s (row i r) c : ℝ) : EReal))
    (h2 : ∀ r c, x2 (ix2 r c) = ((g2 c (row i r) : ℝ) : EReal)) {c : Fin 4096} {q : Fin 256}
    (hq : Spec.IsFirst (fun r => colScore s g2 c (row i r)) q) :
    k0_pay22 (F := Ideal) x0 KernelStep.rows (k0_pay12 i x0) x2 (ix2 0 c) = ((s (row i q) c : ℝ) : EReal) := by
  unfold k0_pay22
  refine (halves_at _ c).trans (unpacked (n := q.val) (hs0 (row i q) c) (hs1 (row i q) c) ((cast2 _ c).trans ((colMin _ c).trans
    (pick_val (by norm_num) hq (fun r => hs0 (row i r) c) (fun r => hs1 (row i r) c) fun r => (packed_at _ _ _ _ r c).trans ?_))))
  rw [spread2, colscore_at i hs0 hs1 h0 h2, colbest_at i hs0 hs1 h0 h2 hq, local_at, h0, HalfVal.w05, w8192, ← EReal.coe_mul, ← EReal.coe_add]
  by_cases hc : colScore s g2 c (row i r) = colScore s g2 c (row i q)
  · rw [if_pos hc, hc, decide_eq_true rfl]; rfl
  · rw [if_neg hc, decide_eq_false (fun h => hc (EReal.coe_eq_coe_iff.1 h))]; rfl

/-- `j` is the first place at which `f` is greatest among the first `N`. -/
def FirstBelow (N : ℕ) (f : Fin 4096 → ℝ) (j : Fin 4096) : Prop :=
  j.val < N ∧ (∀ k : Fin 4096, k.val < N → f k ≤ f j) ∧ ∀ k, k < j → f k < f j

/-- A block that beats all before it holds the new first place. -/
theorem first_new {f : Fin 4096 → ℝ} {q : Fin 256} (hq : Spec.IsFirst (fun r => f (row i r)) q)
    (h : ∀ k : Fin 4096, k.val < 256 * (i 0).val → f k < f (row i q)) : FirstBelow (256 * ((i 0).val + 1)) f (row i q) := by
  have e : ∀ k : Fin 4096, ¬k.val < 256 * (i 0).val → (hk : k.val - 256 * (i 0).val < 256) → k = row i ⟨k.val - 256 * (i 0).val, hk⟩ := by
    intro k h1 h2
    refine Fin.ext ?_
    simp only [row]
    omega
  have hrow : (row i q).val = 256 * (i 0).val + q.val := rfl
  refine ⟨by omega, fun k hk => ?_, fun k hk => ?_⟩
  · by_cases hlt : k.val < 256 * (i 0).val
    · exact (h k hlt).le
    · rw [e k hlt (by omega)]; exact hq.1 _
  · by_cases hlt : k.val < 256 * (i 0).val
    · exact h k hlt
    · have hk' := Fin.lt_def.1 hk
      rw [e k hlt (by omega)]
      exact hq.2 _ (Fin.lt_def.2 (by simp only; omega))

/-- A block that does not leaves the first place. -/
theorem first_old {f : Fin 4096 → ℝ} {q : Fin 256} (hq : Spec.IsFirst (fun r => f (row i r)) q) {j : Fin 4096}
    (hj : FirstBelow (256 * (i 0).val) f j) (h : ¬f j < f (row i q)) : FirstBelow (256 * ((i 0).val + 1)) f j := by
  refine ⟨by have := hj.1; omega, fun k hk => ?_, hj.2.2⟩
  by_cases hlt : k.val < 256 * (i 0).val
  · exact hj.2.1 k hlt
  · have e : k = row i ⟨k.val - 256 * (i 0).val, by omega⟩ := Fin.ext (by simp only [row]; omega)
    rw [e]
    exact (hq.1 _).trans (not_lt.1 h)

/-- What a column's best score and similarity hold after `N` rows. -/
def Held (s g : Fin 4096 → Fin 4096 → ℝ) (N : ℕ) (c : Fin 4096) (b m : EReal) : Prop :=
  (N = 0 ∧ b = ⊥) ∨ ∃ j, FirstBelow N (colScore s g c) j ∧ b = ((colScore s g c j : ℝ) : EReal) ∧ m = ((s j c : ℝ) : EReal)

/-- They hold it again after a block. -/
theorem held_next (hs0 : ∀ a b, 0 ≤ s a b) (hs1 : ∀ a b, s a b < 1) (h0 : ∀ r c, x0 (ix2 r c) = ((s (row i r) c : ℝ) : EReal))
    (h2 : ∀ r c, x2 (ix2 r c) = ((g2 c (row i r) : ℝ) : EReal)) {xs0 xs1 : FVec Ideal S1x4096 .f32} {c : Fin 4096}
    (h : Held s g2 (256 * (i 0).val) c (xs0 (ix2 0 c)) (xs1 (ix2 0 c))) :
    Held s g2 (256 * ((i 0).val + 1)) c (KernelStep.best i x0 x2 xs0 (ix2 0 c)) (KernelStep.sim i x0 x2 xs0 xs1 (ix2 0 c)) := by
  obtain ⟨q, hq⟩ := exists_first fun r => colScore s g2 c (row i r)
  have eb : KernelStep.best i x0 x2 xs0 (ix2 0 c) = Scalar.select (BitVec.ofBool (decide (xs0 (ix2 0 c) < ((colScore s g2 c (row i q) : ℝ) : EReal))))
      ((colScore s g2 c (row i q) : ℝ) : EReal) (xs0 (ix2 0 c)) := by
    unfold KernelStep.best k0_pay8 k0_pay7
    refine (congrFun (cast3 _) _).trans ((keep_at _ _ _ _ c).trans ?_)
    rw [colbest_at i hs0 hs1 h0 h2 hq]
  have em : KernelStep.sim i x0 x2 xs0 xs1 (ix2 0 c) = Scalar.select (BitVec.ofBool (decide (xs0 (ix2 0 c) < ((colScore s g2 c (row i q) : ℝ) : EReal))))
      ((s (row i q) c : ℝ) : EReal) (xs1 (ix2 0 c)) := by
    unfold KernelStep.sim k0_pay9 k0_pay7
    refine (congrFun (cast3 _) _).trans ((keep_at _ _ _ _ c).trans ?_)
    rw [colbest_at i hs0 hs1 h0 h2 hq, colsim_at i hs0 hs1 h0 h2 hq]
  rw [eb, em]
  right
  rcases h with ⟨hN, hb⟩ | ⟨j, hj, hb, hm⟩
  · rw [hb, decide_eq_true (EReal.bot_lt_coe _)]
    exact ⟨row i q, first_new i hq fun k hk => by omega, rfl, rfl⟩
  · rw [hb, hm]
    by_cases hlt : colScore s g2 c j < colScore s g2 c (row i q)
    · rw [decide_eq_true (EReal.coe_lt_coe_iff.2 hlt)]
      exact ⟨row i q, first_new i hq fun k hk => (hj.2.1 k hk).trans_lt hlt, rfl, rfl⟩
    · rw [decide_eq_false (fun h => hlt (EReal.coe_lt_coe_iff.1 h))]
      exact ⟨j, first_old i hq hj hlt, rfl, rfl⟩

/-- The diagonal after a block. -/
theorem dia_at (h0 : ∀ r c, x0 (ix2 r c) = ((s (row i r) c : ℝ) : EReal)) {xs2 : FVec Ideal S1x4096 .f32} {c : Fin 4096} {D : ℝ}
    (h : xs2 (ix2 0 c) = (D : EReal)) :
    KernelStep.dia i x0 xs2 (ix2 0 c) = ((D + ∑ r : Fin 256, (if row i r = c then s c c else 0) : ℝ) : EReal) := by
  unfold KernelStep.dia k0_pay6 k0_pay15
  simp only
  rw [cast3]
  refine (congrArg₂ (fun a b : EReal => a + b) h ((cast2 _ c).trans (colSum _ c))).trans ?_
  rw [Finset.sum_congr rfl fun r _ => only_at i h0 r c, HalfVal.sum_coe, ← EReal.coe_add]

/-- The result, from the arrays after the last block. -/
theorem result_at {a b : FVec Ideal S1x4096 .f32} {t : FVec Ideal S1x1 .f32} {p q : Fin 4096 → ℝ} {T : ℝ}
    (ha : ∀ c, a (ix2 0 c) = (p c : EReal)) (hb : ∀ c, b (ix2 0 c) = (q c : EReal)) (ht : ∀ k, t k = (T : EReal)) (k : S1x1.Idx) :
    k0_pay10 (F := Ideal) a b t k = ((T + ∑ c, max (13421773 / 2 ^ 26 + p c - q c) 0 : ℝ) : EReal) := by
  unfold k0_pay10
  refine (congrArg₂ (fun a b : EReal => a + b) (ht k) (total2 _)).trans ?_
  rw [EReal.coe_add, ← HalfVal.sum_coe]
  refine congrArg (fun b : EReal => (T : EReal) + b) (Finset.sum_congr rfl fun c _ => ?_)
  change max (Ideal.ofBits .f32 0x3E4CCCCD#32 + a (ix2 0 c) - b (ix2 0 c)) (Ideal.ofBits .f32 0x00000000#32) = _
  rw [ha, hb, HalfVal.wmargin, HalfVal.wzero, ← EReal.coe_add, ← EReal.coe_sub, HalfVal.coe_max]

end Cert.KernelPay
-- ==== Proof.KernelSat.lean ====
module

public import proofs.«01_k».proof.Proof.Ssa
public import proofs.«01_k».proof.Proof.Gen.KernelIdeal.Frame
public import Idealize.ShloMosaic.Lib.Pointwise

/-! # The kernel's host operations

They are ordered and plain, so the contents they leave satisfy each operation's equation. -/

@[expose] public section

set_option maxRecDepth 65536
set_option maxHeartbeats 1000000

noncomputable section

namespace Cert.KernelSat

open Cert.KernelIdeal Cert.KernelIdeal.Gen Cert.Ssa
open Idealize.ShloMosaic Idealize.ShloMosaic.TcCoe Idealize.ShloMosaic.StableHlo Idealize.SL.Sem
open Idealize.ShloMosaic.Pointwise

/-- One past the number of a buffer. -/
abbrev past (r : Ref sig .tc) : ℕ := num (τ := τ) (Proc.devRef .tc r) + 1

/-- The host operations are ordered and plain. -/
theorem fine : Fine (past main_arg0) (hostOps0 (F := Ideal)) (past main_v201) := by
  dsimp only [hostOps0]
  repeat
    first
    | with_reducible exact fine_nil
    | with_reducible refine fine_nullary (by decide) ?_
    | with_reducible refine fine_unary (by decide) (by decide) ?_
    | with_reducible refine fine_binary (by decide) (by decide) (by decide) ?_
    | with_reducible refine fine_reshape (by decide) (by decide) ?_

/-- The contents after the host operations satisfy each of them. -/
theorem sat (V : Valuation τ sig (Elt Ideal)) : Sat (after hostOps0 V) (hostOps0 (F := Ideal)) := fine.sat _

end Cert.KernelSat

end
-- ==== Proof.KernelNoise.lean ====
module

public import proofs.«01_k».proof.Proof.RefValue
public import proofs.«01_k».proof.Proof.KernelSat
public import proofs.«01_k».proof.Proof.Gen.KernelIdeal.Frame
public import Idealize.ShloMosaic.Lib.Pointwise

/-! # The kernel's noise

What the kernel's host operations leave in the two noise arrays it hands to its call. -/

@[expose] public section

set_option maxRecDepth 65536
set_option maxHeartbeats 1000000

noncomputable section

namespace Cert.KernelNoise

open Cert.KernelIdeal Cert.KernelIdeal.Gen Cert.Ssa Cert.Threefry
open Idealize.ShloMosaic Idealize.ShloMosaic.TcCoe Idealize.ShloMosaic.StableHlo Idealize.SL.Sem
open Idealize.ShloMosaic.Pointwise

/-- Two words at each place of the two squares. -/
abbrev Cube := S2x4096x4096.Idx → BitVec 32

/-- A round, place by place. -/
theorem step {X0 X1 Y0 Y1 : Cube} {p : S2x4096x4096.Idx → BitVec 32 × BitVec 32} {r r' : BitVec 32} {b b'}
    (h : Y0 = addi X0 X1 ∧ Y1 = xori (addi X0 X1)
      (ori (Host.shli X1 (broadcastInDim S2x4096x4096 ![] b (constantI S_ 32 r)))
        (Host.shrui X1 (broadcastInDim S2x4096x4096 ![] b' (constantI S_ 32 r')))))
    (hp : ∀ i, (X0 i, X1 i) = p i) (i) : (Y0 i, Y1 i) = rnd r r' (p i) := by
  rw [h.1, h.2, ← hp i]; rfl

/-- A key addition, place by place. -/
theorem mix {X0 X1 Y0 Y1 K K' : Cube} {p : S2x4096x4096.Idx → BitVec 32 × BitVec 32} {n : BitVec 32} {b}
    {k k' : S2x4096x4096.Idx → BitVec 32} (hk : ∀ i, K i = k i) (hk' : ∀ i, K' i = k' i)
    (h : Y0 = addi X0 K ∧ Y1 = addi (addi X1 K') (broadcastInDim S2x4096x4096 ![] b (constantI S_ 32 n)))
    (hp : ∀ i, (X0 i, X1 i) = p i) (i) : (Y0 i, Y1 i) = inj (k i) (k' i) n (p i) := by
  rw [h.1, h.2, ← hp i, ← hk i, ← hk' i]; rfl

/-- The keys at a place: its square's. -/
def key (c : Fin 2) (i : S2x4096x4096.Idx) : BitVec 32 := RefNoise.subkey (i 0) c

/-- The row-major place of a key's index is its square. -/
theorem key_place (f : S2x1x1.Idx) : S2x1x1.rowMajor f = f 0 := by
  have h : ∀ a : Fin 2, S2x1x1.rowMajor (ix3 a (0 : Fin 1) (0 : Fin 1)) = a := fun a => by
    match a with
    | 0 => rfl
    | 1 => rfl
  have hf : f = ix3 (f 0) (0 : Fin 1) (0 : Fin 1) := by
    refine (ix3_eta f).symm.trans ?_
    exact congrArg₂ (ix3 (f 0)) (Subsingleton.elim (α := Fin 1) _ _) (Subsingleton.elim (α := Fin 1) _ _)
  exact (congrArg S2x1x1.rowMajor hf).trans (h _)

/-- A key array read at a place. -/
theorem key_at (l : Fin 2 → BitVec 32) (h) (i : S2x4096x4096.Idx) :
    broadcastInDim S2x4096x4096 ![0, 1, 2] h (fun i => l (S2x1x1.rowMajor i)) i = l (i 0) := by
  change l (S2x1x1.rowMajor _) = _
  rw [key_place]
  exact congrArg l (Fin.ext rfl)

/-- The first table of key words holds each subkey's first word. -/
theorem lit0_eq : lit0 = fun r => RefNoise.subkey r 0 := by decide
/-- The second table holds each subkey's second word. -/
theorem lit1_eq : lit1 = fun r => RefNoise.subkey r 1 := by decide
/-- The third table holds each subkey's third word. -/
theorem lit2_eq : lit2 = fun r => key2 (RefNoise.subkey r 0) (RefNoise.subkey r 1) := by decide
/-- The fourth table holds each subkey's first word again. -/
theorem lit3_eq : lit3 = fun r => RefNoise.subkey r 0 := by decide

variable {W : Valuation τ sig (Elt Ideal)}

/-- The word a count gives under a square's keys. -/
def cubeWord (q : Fin 2) (n : BitVec 32) : BitVec 32 :=
  let p := cipher (RefNoise.subkey q 0) (RefNoise.subkey q 1) (0#32, n)
  IntOp.xori p.1 p.2

/-- The word of 1. -/
theorem one_word : Ideal.ofBits .f32 0x3F800000#32 = (1 : EReal) := HalfVal.wone.trans EReal.coe_one

/-- That word from the state the first key addition leaves. -/
theorem word_cube (q : Fin 2) (n : BitVec 32) :
    IntOp.xori (rounds (RefNoise.subkey q 0) (RefNoise.subkey q 1) (key2 (RefNoise.subkey q 0) (RefNoise.subkey q 1))
        (RefNoise.subkey q 0, IntOp.addi n (RefNoise.subkey q 1))).1
      (rounds (RefNoise.subkey q 0) (RefNoise.subkey q 1) (key2 (RefNoise.subkey q 0) (RefNoise.subkey q 1))
        (RefNoise.subkey q 0, IntOp.addi n (RefNoise.subkey q 1))).2 = cubeWord q n := by
  have h : IntOp.addi 0#32 (RefNoise.subkey q 0) = RefNoise.subkey q 0 := BitVec.zero_add _
  simp only [cubeWord, cipher, h]

/-- The first plane of a cube, as a square. -/
theorem plane0 (x : FVec Ideal S2x4096x4096 .f32) (i j : Fin 4096) :
    shapeCast S4096x4096 (extractStridedSlice S1x4096x4096 ![0, 0, 0] x slices_S2x4096x4096_S1x4096x4096_0_0_0)
      shapeCasts_S1x4096x4096_S4096x4096 (ix2 i j) = x (ix3 0 i j) := by pointwise

/-- The second. -/
theorem plane1 (x : FVec Ideal S2x4096x4096 .f32) (i j : Fin 4096) :
    shapeCast S4096x4096 (extractStridedSlice S1x4096x4096 ![1, 0, 0] x slices_S2x4096x4096_S1x4096x4096_1_0_0)
      shapeCasts_S1x4096x4096_S4096x4096 (ix2 i j) = x (ix3 1 i j) := by pointwise

/-- A count, as a word. -/
theorem count_word (i j : Fin 4096) : IntOp.addi (IntOp.muli (BitVec.ofNat 32 i.val) 4096#32) (BitVec.ofNat 32 j.val)
    = BitVec.ofNat 32 (4096 * i.val + j.val) := by
  have hi := i.isLt
  have hj := j.isLt
  change BitVec.ofNat 32 i.val * 4096#32 + BitVec.ofNat 32 j.val = _
  apply BitVec.eq_of_toNat_eq
  rw [BitVec.toNat_add, BitVec.toNat_mul, BitVec.toNat_ofNat, BitVec.toNat_ofNat, BitVec.toNat_ofNat, BitVec.toNat_ofNat]
  omega

/-- Two squares stacked. -/
theorem stack (x y : S4096x4096.Idx → BitVec 32) (q : Fin 2) (i j : Fin 4096) :
    concatenate S2x4096x4096 0 [⟨S1x4096x4096, broadcastInDim S1x4096x4096 ![1, 2] bcast_S4096x4096_S1x4096x4096_1_2 x⟩,
        ⟨S1x4096x4096, broadcastInDim S1x4096x4096 ![1, 2] bcast_S4096x4096_S1x4096x4096_1_2 y⟩]
      concatenates_S1x4096x4096_S1x4096x4096_S2x4096x4096_d0 (ix3 q i j) = if q = 0 then x (ix2 i j) else y (ix2 i j) := by
  match q with
  | 0 => rw [if_pos rfl]; pointwise
  | 1 => rw [if_neg (by decide)]; pointwise

/-- The counts of both squares: the second's are transposed. -/
theorem counts (q : Fin 2) (i j : Fin 4096) :
    concatenate S2x4096x4096 0 [⟨S1x4096x4096, broadcastInDim S1x4096x4096 ![1, 2] bcast_S4096x4096_S1x4096x4096_1_2
          (addi (muli (iotaInDim S4096x4096 32 0) (broadcastInDim S4096x4096 ![] bcast_S_S4096x4096 (constantI S_ 32 4096#32))) (iotaInDim S4096x4096 32 1))⟩,
        ⟨S1x4096x4096, broadcastInDim S1x4096x4096 ![1, 2] bcast_S4096x4096_S1x4096x4096_1_2
          (addi (muli (iotaInDim S4096x4096 32 1) (broadcastInDim S4096x4096 ![] bcast_S_S4096x4096 (constantI S_ 32 4096#32))) (iotaInDim S4096x4096 32 0))⟩]
      concatenates_S1x4096x4096_S1x4096x4096_S2x4096x4096_d0 (ix3 q i j)
      = if q = 0 then BitVec.ofNat 32 (4096 * i.val + j.val) else BitVec.ofNat 32 (4096 * j.val + i.val) := by
  rw [stack, ← count_word i j, ← count_word j i]
  rfl

/-- The two noise arrays at a place. -/
theorem noise_val (h : Sat W (hostOps0 (F := Ideal))) (i j : Fin 4096) :
    (W (Proc.devRef .tc main_v199) : FVec Ideal S4096x4096 .f32) (ix2 i j) = ((Noise.noise (RefValue.word1 i j) : ℝ) : EReal)
    ∧ (W (Proc.devRef .tc main_v201) : FVec Ideal S4096x4096 .f32) (ix2 i j) = ((Noise.noise (RefValue.word2 j i) : ℝ) : EReal) := by
  obtain ⟨e0, e1, e2, e3, f0, f1, f2, f3, f4, f5, f6, f7, f8, f9, f10, f11, f12, f13, f14, f15, h⟩ := h
  have k0 := fun i => congrFun (congrArg (broadcastInDim S2x4096x4096 ![0, 1, 2] bcast_S2x1x1_S2x4096x4096_0_1_2) (eq_nullary e0)) i
  have k1 := fun i => congrFun (congrArg (broadcastInDim S2x4096x4096 ![0, 1, 2] bcast_S2x1x1_S2x4096x4096_0_1_2) (eq_nullary e1)) i
  have k2 := fun i => congrFun (congrArg (broadcastInDim S2x4096x4096 ![0, 1, 2] bcast_S2x1x1_S2x4096x4096_0_1_2) (eq_nullary e2)) i
  have k3 := fun i => congrFun (congrArg (broadcastInDim S2x4096x4096 ![0, 1, 2] bcast_S2x1x1_S2x4096x4096_0_1_2) (eq_nullary e3)) i
  replace k0 := fun i => ((k0 i).trans (key_at lit0 _ i)).trans (congrFun lit0_eq _)
  replace k1 := fun i => ((k1 i).trans (key_at lit1 _ i)).trans (congrFun lit1_eq _)
  replace k2 := fun i => ((k2 i).trans (key_at lit2 _ i)).trans (congrFun lit2_eq _)
  replace k3 := fun i => ((k3 i).trans (key_at lit3 _ i)).trans (congrFun lit3_eq _)
  have s : ∀ i, ((W (Proc.devRef .tc main_v11) : Cube) i, (W (Proc.devRef .tc main_v13) : Cube) i)
      = (RefNoise.subkey (i 0) 0, IntOp.addi ((W (Proc.devRef .tc main_v10) : Cube) i) (RefNoise.subkey (i 0) 1)) := fun i => by
    rw [eq_unary f13, eq_binary f15, eq_unary f14]
    exact Prod.ext (k0 i) (congrArg (IntOp.addi (w := 32) _) (k1 i))
  iterate 4
    obtain ⟨r, h⟩ := round_literal h
    replace s := step r s
  obtain ⟨r, h⟩ := inj_literal h
  replace s := mix k1 k2 r s
  iterate 4
    obtain ⟨r, h⟩ := round_literal h
    replace s := step r s
  obtain ⟨r, h⟩ := inj_literal h
  replace s := mix k2 k3 r s
  iterate 4
    obtain ⟨r, h⟩ := round_literal h
    replace s := step r s
  obtain ⟨r, h⟩ := inj_literal h
  replace s := mix k3 k1 r s
  iterate 4
    obtain ⟨r, h⟩ := round_literal h
    replace s := step r s
  obtain ⟨r, h⟩ := inj_literal h
  replace s := mix k1 k2 r s
  iterate 4
    obtain ⟨r, h⟩ := round_literal h
    replace s := step r s
  obtain ⟨r, h⟩ := inj_literal h
  replace s := mix k2 k3 r s
  obtain ⟨t0, t1, t2, t3, t4, t5, t6, t7, t8, t9, t10, t11, t12, t13, t14, t15, t16, t17, t18, t19, t20, t21, -⟩ := h
  have hw : ∀ (q : Fin 2), (W (Proc.devRef .tc main_v184) : Cube) (ix3 q i j) = cubeWord q ((W (Proc.devRef .tc main_v10) : Cube) (ix3 q i j)) := fun q => by
    rw [eq_binary t0]
    have hs : ((W (Proc.devRef .tc main_v179) : Cube) (ix3 q i j), (W (Proc.devRef .tc main_v183) : Cube) (ix3 q i j))
        = rounds (RefNoise.subkey q 0) (RefNoise.subkey q 1) (key2 (RefNoise.subkey q 0) (RefNoise.subkey q 1))
          (RefNoise.subkey q 0, IntOp.addi ((W (Proc.devRef .tc main_v10) : Cube) (ix3 q i j)) (RefNoise.subkey q 1)) := s (ix3 q i j)
    rw [← word_cube, ← hs]
    rfl
  have hc : ∀ (q : Fin 2), (W (Proc.devRef .tc main_v197) : FVec Ideal S2x4096x4096 .f32) (ix3 q i j)
      = ((Noise.noise (cubeWord q ((W (Proc.devRef .tc main_v10) : Cube) (ix3 q i j))) : ℝ) : EReal) := fun q => by
    rw [eq_unary t17, eq_unary t16, eq_unary t15, eq_unary t14, eq_binary t13, eq_unary t12, eq_nullary t11, eq_binary t10, eq_unary t9,
      eq_nullary t8, eq_unary t7, eq_binary t6, eq_unary t5, eq_nullary t4, eq_binary t3, eq_unary t2, eq_nullary t1, ← hw q, ← Noise.gumbel, ← Noise.max_tiny]
    rw [show (1 : EReal) = Ideal.ofBits .f32 0x3F800000#32 from one_word.symm]
    rfl
  have h10 : ∀ q : Fin 2, (W (Proc.devRef .tc main_v10) : Cube) (ix3 q i j) = if q = 0 then BitVec.ofNat 32 (4096 * i.val + j.val) else BitVec.ofNat 32 (4096 * j.val + i.val) := fun q => by
    rw [eq_binary f12, eq_unary f10, eq_unary f11, eq_binary f5, eq_binary f9, eq_binary f4, eq_binary f8, eq_unary f3, eq_unary f7, eq_nullary f2, eq_nullary f6,
      eq_nullary f0, eq_nullary f1]
    exact counts q i j
  constructor
  · rw [eq_reshape t19, eq_unary t18]
    refine Eq.trans ?_ ((hc 0).trans ?_)
    · generalize W (Proc.devRef .tc main_v197) = x
      exact plane0 x i j
    · rw [h10, if_pos rfl]; rfl
  · rw [eq_reshape t21, eq_unary t20]
    refine Eq.trans ?_ ((hc 1).trans ?_)
    · generalize W (Proc.devRef .tc main_v197) = x
      exact plane1 x i j
    · rw [h10, if_neg (by decide)]; rfl

end Cert.KernelNoise

end
-- ==== Proof.KernelValue.lean ====
module

public import proofs.«01_k».proof.Proof.KernelPay
public import proofs.«01_k».proof.Proof.KernelNoise

/-! # The kernel's value

The sixteen blocks in order: what the carried arrays hold after each, and the loss the last one writes. -/

@[expose] public section

set_option maxRecDepth 65536
set_option maxHeartbeats 400000

noncomputable section

namespace Cert.KernelValue

open Cert.KernelIdeal Cert.KernelIdeal.Gen Cert.KernelIdeal.Value Cert.KernelBlock Cert.KernelPay Cert.KernelStep
open Idealize.ShloMosaic Idealize.ShloMosaic.TcCoe Idealize.SL.Sem Idealize.ShloMosaic.Pointwise

variable (m : (ℓ : Loc nD τ sig) → Buf (Elt Ideal) ℓ) (d : Dev nD)

/-- A point's coordinate is its number. -/
theorem coord (t : Fin cfg0.N) : ((grid0.coords t) 0).val = t.val := by
  have h : t.val < 16 := lt_of_lt_of_eq t.isLt N_0
  have e : (grid0.coords t 0).val = t.val / 1 % 16 := Pipeline.Grid.coords_val t 0 (by decide) rfl
  omega

/-- Window 0's block is the array's rows there. -/
theorem blk0 (t : Fin cfg0.N) (r : Fin 256) (c : Fin 4096) :
    (iblk m d 0 t : KernelBlock.Blk) (ix2 r c) = (V m d main_arg0 : FVec Ideal S4096x4096 .f32) (ix2 (row (grid0.coords t) r) c) := by
  have hi : ∀ t : Fin cfg0.N, win0_0.index t = ![((grid0.coords t) 0).val, 0] := by decide +kernel
  have he : ((cfg0.win 0).blk t).view.emb (ix2 r c) = (ix2 (row (grid0.coords t) r) c : S4096x4096.Idx) := by
    funext a
    refine Fin.ext ?_
    refine (win0_0.rect_emb_val t (ix2 r c) a).trans ?_
    rw [hi]
    match a with
    | 0 =>
      change ((grid0.coords t) 0).val * 256 + r.val = 256 * ((grid0.coords t) 0).val + r.val
      omega
    | 1 =>
      change 0 * 4096 + c.val = c.val
      omega
  exact congrArg (V m d main_arg0 : FVec Ideal S4096x4096 .f32) he

/-- Window 1's block is the array's rows there. -/
theorem blk1 (t : Fin cfg0.N) (r : Fin 256) (c : Fin 4096) :
    (iblk m d 1 t : KernelBlock.Blk) (ix2 r c) = (V m d main_v199 : FVec Ideal S4096x4096 .f32) (ix2 (row (grid0.coords t) r) c) := by
  have hi : ∀ t : Fin cfg0.N, win0_1.index t = ![((grid0.coords t) 0).val, 0] := by decide +kernel
  have he : ((cfg0.win 1).blk t).view.emb (ix2 r c) = (ix2 (row (grid0.coords t) r) c : S4096x4096.Idx) := by
    funext a
    refine Fin.ext ?_
    refine (win0_1.rect_emb_val t (ix2 r c) a).trans ?_
    rw [hi]
    match a with
    | 0 =>
      change ((grid0.coords t) 0).val * 256 + r.val = 256 * ((grid0.coords t) 0).val + r.val
      omega
    | 1 =>
      change 0 * 4096 + c.val = c.val
      omega
  exact congrArg (V m d main_v199 : FVec Ideal S4096x4096 .f32) he

/-- Window 2's block is the array's rows there. -/
theorem blk2 (t : Fin cfg0.N) (r : Fin 256) (c : Fin 4096) :
    (iblk m d 2 t : KernelBlock.Blk) (ix2 r c) = (V m d main_v201 : FVec Ideal S4096x4096 .f32) (ix2 (row (grid0.coords t) r) c) := by
  have hi : ∀ t : Fin cfg0.N, win0_2.index t = ![((grid0.coords t) 0).val, 0] := by decide +kernel
  have he : ((cfg0.win 2).blk t).view.emb (ix2 r c) = (ix2 (row (grid0.coords t) r) c : S4096x4096.Idx) := by
    funext a
    refine Fin.ext ?_
    refine (win0_2.rect_emb_val t (ix2 r c) a).trans ?_
    rw [hi]
    match a with
    | 0 =>
      change ((grid0.coords t) 0).val * 256 + r.val = 256 * ((grid0.coords t) 0).val + r.val
      omega
    | 1 =>
      change 0 * 4096 + c.val = c.val
      omega
  exact congrArg (V m d main_v201 : FVec Ideal S4096x4096 .f32) he

/-- The noise of the rows. -/
def g1 (a b : Fin 4096) : ℝ := Noise.noise (RefValue.word1 a b)
/-- The noise of the columns. -/
def g2 (a b : Fin 4096) : ℝ := Noise.noise (RefValue.word2 a b)

/-- A number for each of the 4096 places, none past them. -/
def ext (f : Fin 4096 → ℝ) (k : ℕ) : ℝ := if h : k < 4096 then f ⟨k, h⟩ else 0

/-- The number at a row of a block. -/
theorem ext_row (f : Fin 4096 → ℝ) (i : grid0.Coords) (r : Fin 256) : ext f (256 * (i 0).val + r.val) = f (row i r) :=
  dif_pos (row i r).isLt

/-- The places before a block and the block's. -/
theorem sum_next (f : Fin 4096 → ℝ) (i : grid0.Coords) :
    (∑ k ∈ Finset.range (256 * (i 0).val), ext f k) + ∑ r : Fin 256, f (row i r) = ∑ k ∈ Finset.range (256 * ((i 0).val + 1)), ext f k := by
  rw [show 256 * ((i 0).val + 1) = 256 * (i 0).val + 256 by ring, Finset.sum_range_add, ← Fin.sum_univ_eq_sum_range]
  exact congrArg _ (Finset.sum_congr rfl fun r _ => (ext_row f i r).symm)

/-- The sum over all 4096 places. -/
theorem sum_all (f : Fin 4096 → ℝ) : ∑ k ∈ Finset.range 4096, ext f k = ∑ k, f k := by
  rw [← Fin.sum_univ_eq_sum_range]
  exact Finset.sum_congr rfl fun k _ => dif_pos k.isLt

attribute [local irreducible] best sim dia tot

/-- What the carried arrays hold after `N` rows. -/
def Inv (s : Fin 4096 → Fin 4096 → ℝ) (N : ℕ) (σ : St) : Prop :=
  (∀ c, Held s g2 N c (σ.1 (ix2 0 c)) (σ.2.1 (ix2 0 c)))
  ∧ (∀ c, σ.2.2.1 (ix2 0 c) = ((∑ k ∈ Finset.range N, ext (fun a => if a = c then s c c else 0) k : ℝ) : EReal))
  ∧ ∀ k, σ.2.2.2 k = ((∑ k ∈ Finset.range N, ext (rowLoss s g1) k : ℝ) : EReal)

/-- The best scores start at minus infinity. -/
theorem start0 (k : S1x4096.Idx) : (k0_pay2 (F := Ideal)) k = ⊥ := by
  unfold k0_pay2
  rw [cast3]
  exact HalfVal.wninf

/-- The diagonal starts at zero. -/
theorem start2 (k : S1x4096.Idx) : (k0_pay4 (F := Ideal)) k = ((0 : ℝ) : EReal) := by
  unfold k0_pay4
  rw [cast3]
  exact HalfVal.wzero

/-- The total starts at zero. -/
theorem start3 (k : S1x1.Idx) : (k0_pay1 (F := Ideal)) k = ((0 : ℝ) : EReal) := by
  unfold k0_pay1
  rw [cast5]
  exact HalfVal.wzero

/-- Before the first block the arrays hold what they should. -/
theorem inv_start (s : Fin 4096 → Fin 4096 → ℝ) : Inv s 0 start :=
  ⟨fun c => Or.inl ⟨rfl, start0 (ix2 0 c)⟩, fun c => start2 (ix2 0 c), fun k => start3 k⟩

variable {s : Fin 4096 → Fin 4096 → ℝ}

/-- A block of those entries keeps it. -/
theorem inv_block (hs0 : ∀ a b, 0 ≤ s a b) (hs1 : ∀ a b, s a b < 1) (i : grid0.Coords) {x0 x1 x2 : KernelBlock.Blk}
    (h0 : ∀ r c, x0 (ix2 r c) = ((s (row i r) c : ℝ) : EReal)) (h1 : ∀ r c, x1 (ix2 r c) = ((g1 (row i r) c : ℝ) : EReal))
    (h2 : ∀ r c, x2 (ix2 r c) = ((g2 c (row i r) : ℝ) : EReal)) {σ : St} (h : Inv s (256 * (i 0).val) σ) :
    Inv s (256 * ((i 0).val + 1)) (nxt i x0 x1 x2 σ) := by
  obtain ⟨σ0, σ1, σ2, σ3⟩ := σ
  obtain ⟨hb, hd, ht⟩ := h
  refine ⟨fun c => ?_, fun c => ?_, fun k => ?_⟩
  · exact held_next i (xs0 := σ0) (xs1 := σ1) hs0 hs1 h0 h2 (hb c)
  · rw [← sum_next (fun a => if a = c then s c c else 0) i]
    exact dia_at i (xs2 := σ2) h0 (hd c)
  · rw [← sum_next (rowLoss s g1) i]
    exact tot_at i (xs3 := σ3) hs0 hs1 h0 h1 ht k

/-- A block keeps it. -/
theorem inv_next (hs0 : ∀ a b, 0 ≤ s a b) (hs1 : ∀ a b, s a b < 1)
    (hx : ∀ a b, (m ((d : Thread nD τ).loc main_arg0) : FVec Ideal S4096x4096 .f32) (ix2 a b) = ((s a b : ℝ) : EReal)) (t : Fin cfg0.N) {σ : St}
    (h : Inv s (256 * t.val) σ) : Inv s (256 * (t.val + 1)) (upd m d t σ) := by
  have hsat := KernelSat.sat fun b => m (d, b)
  have h0 : ∀ r c, (iblk m d 0 t : KernelBlock.Blk) (ix2 r c) = ((s (row (grid0.coords t) r) c : ℝ) : EReal) := fun r c =>
    (blk0 m d t r c).trans ((congrFun (V_main_arg0 m d) _).trans (hx _ _))
  have h1 : ∀ r c, (iblk m d 1 t : KernelBlock.Blk) (ix2 r c) = ((g1 (row (grid0.coords t) r) c : ℝ) : EReal) := fun r c =>
    (blk1 m d t r c).trans (KernelNoise.noise_val hsat _ _).1
  have h2 : ∀ r c, (iblk m d 2 t : KernelBlock.Blk) (ix2 r c) = ((g2 c (row (grid0.coords t) r) : ℝ) : EReal) := fun r c =>
    (blk2 m d t r c).trans (KernelNoise.noise_val hsat _ _).2
  have e := inv_block hs0 hs1 (grid0.coords t) h0 h1 h2 (σ := σ) (by rw [coord]; exact h)
  rw [coord] at e
  exact e

/-- So it holds after every point. -/
theorem inv_all (hs0 : ∀ a b, 0 ≤ s a b) (hs1 : ∀ a b, s a b < 1)
    (hx : ∀ a b, (m ((d : Thread nD τ).loc main_arg0) : FVec Ideal S4096x4096 .f32) (ix2 a b) = ((s a b : ℝ) : EReal)) (n : ℕ) (hn : n < cfg0.N) :
    Inv s (256 * (n + 1)) (st m d n hn) := by
  induction n with
  | zero =>
    rw [st_zero]
    exact inv_next m d hs0 hs1 hx ⟨0, hn⟩ (inv_start s)
  | succ n ih =>
    rw [st_succ]
    exact inv_next m d hs0 hs1 hx ⟨n + 1, hn⟩ (ih (Nat.lt_of_succ_lt hn))

/-- A place first among all is the first place. -/
theorem first_all {f : Fin 4096 → ℝ} {j : Fin 4096} (h : FirstBelow 4096 f j) : Spec.first f = j :=
  Spec.first_eq ⟨fun k => h.2.1 k k.isLt, h.2.2⟩

/-- The result array holds the two losses. -/
theorem value (hs0 : ∀ a b, 0 ≤ s a b) (hs1 : ∀ a b, s a b < 1)
    (hx : ∀ a b, (m ((d : Thread nD τ).loc main_arg0) : FVec Ideal S4096x4096 .f32) (ix2 a b) = ((s a b : ℝ) : EReal)) (k : S1x1.Idx) :
    (G3 m d : FVec Ideal S1x1 .f32) k = ((Spec.loss (13421773 / 2 ^ 26) big s g1 + Spec.loss (13421773 / 2 ^ 26) big (fun a b => s b a) g2 : ℝ) : EReal) := by
  have hN : 15 < cfg0.N := lt_of_lt_of_eq (by decide) N_0.symm
  have h := inv_all m d hs0 hs1 hx 15 hN
  rw [result m d 15 rfl hN]
  generalize st m d 15 hN = σ at h
  obtain ⟨hb, hd, ht⟩ := h
  have hp : ∀ c, σ.2.1 (ix2 0 c) = ((s (Spec.first (colScore s g2 c)) c : ℝ) : EReal) := fun c => by
    rcases hb c with ⟨h0, _⟩ | ⟨j, hj, _, hm⟩
    · exact absurd h0 (by norm_num)
    · rw [hm, first_all hj]
  have hq : ∀ c, σ.2.2.1 (ix2 0 c) = ((s c c : ℝ) : EReal) := fun c => by
    rw [hd c, sum_all, Finset.sum_ite_eq' Finset.univ c, if_pos (Finset.mem_univ _)]
  refine (result_at hp hq ht k).trans (congrArg Real.toEReal ?_)
  rw [sum_all]
  rfl

end Cert.KernelValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem Idealize.ShloMosaic.Pointwise

/-- The precondition's stated shape relation. -/
theorem preFacts : Cert.Pre_unit_range.Facts := ⟨by decide⟩

/-- An array within the precondition holds reals of [0, 1). -/
theorem unit_reals (x : FVec Ideal Cert.Pre_unit_range.S4096x4096 .f32) (h : @Cert.Pre_unit_range.fn preFacts Ideal _ x = fun _ => 1#1) :
    ∃ s : Fin 4096 → Fin 4096 → ℝ, (∀ a b, 0 ≤ s a b) ∧ (∀ a b, s a b < 1) ∧ ∀ a b, x (ix2 a b) = ((s a b : ℝ) : EReal) := by
  have hk : ∀ a b, (0 : EReal) ≤ x (ix2 a b) ∧ x (ix2 a b) < ((1 : ℝ) : EReal) := fun a b => by
    have e : BitVec.ofBool (decide (Ideal.ofBits .f32 0x00000000#32 ≤ x (ix2 a b)))
        &&& BitVec.ofBool (decide (x (ix2 a b) < Ideal.ofBits .f32 0x3F800000#32)) = 1#1 := congrFun h (ix2 a b)
    rw [HalfVal.wzero, HalfVal.wone, EReal.coe_zero] at e
    by_cases p : (0 : EReal) ≤ x (ix2 a b)
    · by_cases q : x (ix2 a b) < ((1 : ℝ) : EReal)
      · exact ⟨p, q⟩
      · rw [decide_eq_false q] at e; simp at e
    · rw [decide_eq_false p] at e; simp at e
  have hc : ∀ a b, x (ix2 a b) = (((x (ix2 a b)).toReal : ℝ) : EReal) := fun a b =>
    (EReal.coe_toReal ((hk a b).2.trans (EReal.coe_lt_top _)).ne ((EReal.bot_lt_zero).trans_le (hk a b).1).ne').symm
  refine ⟨fun a b => (x (ix2 a b)).toReal, fun a b => ?_, fun a b => ?_, hc⟩
  · have := (hk a b).1
    rw [hc a b] at this
    exact EReal.coe_nonneg.1 this
  · have := (hk a b).2
    rw [hc a b] at this
    exact EReal.coe_lt_coe_iff.1 this

/-- Within the precondition the two programs' results agree. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    {x : FVec Ideal Cert.Pre_unit_range.S4096x4096 .f32} (h : @Cert.Pre_unit_range.fn preFacts Ideal _ x = fun _ => 1#1)
    (hx : m ((c.tc : Thread Cert.KernelIdeal.nD Cert.KernelIdeal.τ).loc Cert.KernelIdeal.main_arg0) = x)
    (hx' : m' ((c.tc : Thread Cert.ReferenceIdeal.nD Cert.ReferenceIdeal.τ).loc Cert.ReferenceIdeal.main_arg0) = x) :
    (Cert.RefRun.fin m' c (Proc.devRef .tc Cert.ReferenceIdeal.main_v212) : FVec Ideal Cert.ReferenceIdeal.S1x1 .f32)
      = (Cert.KernelIdeal.Value.G3 m c : FVec Ideal Cert.KernelIdeal.S1x1 .f32) := by
  obtain ⟨s, hs0, hs1, hs⟩ := unit_reals x h
  funext k
  refine (Cert.RefValue.value m' c KernelBlock.big_le (s := s) (fun a b => ?_) hs0 hs1 k).trans
    (Cert.KernelValue.value m c hs0 hs1 (fun a b => (congrFun hx _).trans (hs a b)) k).symm
  exact (congrFun ((Cert.RefRun.fin_arg m' c).trans hx') _).trans (hs a b)

/-- The claims of the statement. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.RefRun.frame m ρ, fun m ρ _ => Cert.RefRun.frame m ρ,
  IdealRules.named_const.statement Cert.KernelIdeal.κ "lw_clamp" .f32 0x43B8F70E#32 _ rfl,
  fun m ρ m' ρ' hpre harg => ⟨fun c => Cert.KernelIdeal.Value.G3 m c, Cert.KernelIdeal.Value.run m ρ,
    (θ_run _ _ _).mono (fun r h c => ⟨(h c Cert.ReferenceIdeal.main_v212).trans (agree m m' c (hpre c) rfl (harg c)),
      (h c Cert.ReferenceIdeal.main_arg0).trans (Cert.RefRun.fin_arg m' c)⟩) (Cert.RefRun.run m' ρ')⟩⟩

end Cert.Proof

end
